-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MmQ (m : (ℓ : Loc Cert.MmQ.nD Cert.MmQ.τ Cert.MmQ.sig) → Buf (Elt Bits) ℓ) : Prop :=
  True

def Pre_MmQIdeal (m : (ℓ : Loc Cert.MmQIdeal.nD Cert.MmQIdeal.τ Cert.MmQIdeal.sig) → Buf (Elt Ideal) ℓ) : Prop :=
  True

def Pre_MmQRefIdeal (m : (ℓ : Loc Cert.MmQRefIdeal.nD Cert.MmQRefIdeal.τ Cert.MmQRefIdeal.sig) → Buf (Elt Ideal) ℓ) : Prop :=
  True

def Pre_MmKv (m : (ℓ : Loc Cert.MmKv.nD Cert.MmKv.τ Cert.MmKv.sig) → Buf (Elt Bits) ℓ) : Prop :=
  True

def Pre_MmKvIdeal (m : (ℓ : Loc Cert.MmKvIdeal.nD Cert.MmKvIdeal.τ Cert.MmKvIdeal.sig) → Buf (Elt Ideal) ℓ) : Prop :=
  True

def Pre_MmKvRefIdeal (m : (ℓ : Loc Cert.MmKvRefIdeal.nD Cert.MmKvRefIdeal.τ Cert.MmKvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_CrossOut (m : (ℓ : Loc Cert.CrossOut.nD Cert.CrossOut.τ Cert.CrossOut.sig) → Buf (Elt Bits) ℓ) : Prop :=
  True

def Pre_CrossOutIdeal (m : (ℓ : Loc Cert.CrossOutIdeal.nD Cert.CrossOutIdeal.τ Cert.CrossOutIdeal.sig) → Buf (Elt Ideal) ℓ) : Prop :=
  True

def Pre_CrossOutIdeal_cross_out_finite [hPre_cross_out_finite : Cert.Pre_cross_out_finite.Facts] (m : (ℓ : Loc Cert.CrossOutIdeal.nD Cert.CrossOutIdeal.τ Cert.CrossOutIdeal.sig) → Buf (Elt Ideal) ℓ) : Prop :=
  ∀ c : Dev Cert.CrossOutIdeal.nD,
    (Cert.Pre_cross_out_finite.fn (F := Ideal) (m ((c.tc : Thread Cert.CrossOutIdeal.nD Cert.CrossOutIdeal.τ).loc Cert.CrossOutIdeal.main_arg0)) (m ((c.tc : Thread Cert.CrossOutIdeal.nD Cert.CrossOutIdeal.τ).loc Cert.CrossOutIdeal.main_arg1)) (m ((c.tc : Thread Cert.CrossOutIdeal.nD Cert.CrossOutIdeal.τ).loc Cert.CrossOutIdeal.main_arg2)) (m ((c.tc : Thread Cert.CrossOutIdeal.nD Cert.CrossOutIdeal.τ).loc Cert.CrossOutIdeal.main_arg3)) (m ((c.tc : Thread Cert.CrossOutIdeal.nD Cert.CrossOutIdeal.τ).loc Cert.CrossOutIdeal.main_arg4))) = (fun _ => 1#1)

def Pre_CrossOutRefIdeal (m : (ℓ : Loc Cert.CrossOutRefIdeal.nD Cert.CrossOutRefIdeal.τ Cert.CrossOutRefIdeal.sig) → Buf (Elt Ideal) ℓ) : Prop :=
  True

def Pre_CrossOutRefIdeal_cross_out_finite [hPre_cross_out_finite : Cert.Pre_cross_out_finite.Facts] (m : (ℓ : Loc Cert.CrossOutRefIdeal.nD Cert.CrossOutRefIdeal.τ Cert.CrossOutRefIdeal.sig) → Buf (Elt Ideal) ℓ) : Prop :=
  ∀ c : Dev Cert.CrossOutRefIdeal.nD,
    (Cert.Pre_cross_out_finite.fn (F := Ideal) (m ((c.tc : Thread Cert.CrossOutRefIdeal.nD Cert.CrossOutRefIdeal.τ).loc Cert.CrossOutRefIdeal.main_arg0)) (m ((c.tc : Thread Cert.CrossOutRefIdeal.nD Cert.CrossOutRefIdeal.τ).loc Cert.CrossOutRefIdeal.main_arg1)) (m ((c.tc : Thread Cert.CrossOutRefIdeal.nD Cert.CrossOutRefIdeal.τ).loc Cert.CrossOutRefIdeal.main_arg2)) (m ((c.tc : Thread Cert.CrossOutRefIdeal.nD Cert.CrossOutRefIdeal.τ).loc Cert.CrossOutRefIdeal.main_arg3)) (m ((c.tc : Thread Cert.CrossOutRefIdeal.nD Cert.CrossOutRefIdeal.τ).loc Cert.CrossOutRefIdeal.main_arg4))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_PoolOut (m : (ℓ : Loc Cert.PoolOut.nD Cert.PoolOut.τ Cert.PoolOut.sig) → Buf (Elt Bits) ℓ) : Prop :=
  True

def Pre_PoolOutIdeal (m : (ℓ : Loc Cert.PoolOutIdeal.nD Cert.PoolOutIdeal.τ Cert.PoolOutIdeal.sig) → Buf (Elt Ideal) ℓ) : Prop :=
  True

def Pre_PoolOutRefIdeal (m : (ℓ : Loc Cert.PoolOutRefIdeal.nD Cert.PoolOutRefIdeal.τ Cert.PoolOutRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_combine_slots [hPre_combine_slots : Cert.Pre_combine_slots.Facts] (m : (ℓ : Loc Cert.CombineIdeal.nD Cert.CombineIdeal.τ Cert.CombineIdeal.sig) → Buf (Elt Ideal) ℓ) : Prop :=
  ∀ c : Dev Cert.CombineIdeal.nD,
    (Cert.Pre_combine_slots.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))) = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_combine_slots [hPre_combine_slots : Cert.Pre_combine_slots.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_combine_slots.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))) = (fun _ => 1#1)

def Pre_NormX (m : (ℓ : Loc Cert.NormX.nD Cert.NormX.τ Cert.NormX.sig) → Buf (Elt Bits) ℓ) : Prop :=
  True

def Pre_NormXIdeal (m : (ℓ : Loc Cert.NormXIdeal.nD Cert.NormXIdeal.τ Cert.NormXIdeal.sig) → Buf (Elt Ideal) ℓ) : Prop :=
  True

def Pre_NormXRefIdeal (m : (ℓ : Loc Cert.NormXRefIdeal.nD Cert.NormXRefIdeal.τ Cert.NormXRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierRefIdeal (m : (ℓ : Loc Cert.FourierRefIdeal.nD Cert.FourierRefIdeal.τ Cert.FourierRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_MmQ [hMmQ : Cert.MmQ.Facts] : Prop :=
  ∀ (m : (ℓ : Loc Cert.MmQ.nD Cert.MmQ.τ Cert.MmQ.sig) → Buf (Elt Bits) ℓ) (g : Dev Cert.MmQ.nD → PrngReg), Pre_MmQ m →
    θ_run (Cert.MmQ.defs (F := Bits)) (onTc (τ := Cert.MmQ.τ) (Cert.MmQ.main (F := Bits))) ⟨m, fun _ => 0, g⟩ (fun r => (∀ c : Dev Cert.MmQ.nD,
      r.2.mem ((c.tc : Thread Cert.MmQ.nD Cert.MmQ.τ).loc Cert.MmQ.main_arg0) = m ((c.tc : Thread Cert.MmQ.nD Cert.MmQ.τ).loc Cert.MmQ.main_arg0)
      ∧ r.2.mem ((c.tc : Thread Cert.MmQ.nD Cert.MmQ.τ).loc Cert.MmQ.main_arg1) = m ((c.tc : Thread Cert.MmQ.nD Cert.MmQ.τ).loc Cert.MmQ.main_arg1))
      ∧ r.2.sem = fun _ => 0)

def quiescent_MmQIdeal [hMmQIdeal : Cert.MmQIdeal.Facts] : Prop :=
  ∀ (m : (ℓ : Loc Cert.MmQIdeal.nD Cert.MmQIdeal.τ Cert.MmQIdeal.sig) → Buf (Elt Ideal) ℓ) (g : Dev Cert.MmQIdeal.nD → PrngReg), Pre_MmQIdeal m →
    θ_run (Cert.MmQIdeal.defs (F := Ideal)) (onTc (τ := Cert.MmQIdeal.τ) (Cert.MmQIdeal.main (F := Ideal))) ⟨m, fun _ => 0, g⟩ (fun r => (∀ c : Dev Cert.MmQIdeal.nD,
      r.2.mem ((c.tc : Thread Cert.MmQIdeal.nD Cert.MmQIdeal.τ).loc Cert.MmQIdeal.main_arg0) = m ((c.tc : Thread Cert.MmQIdeal.nD Cert.MmQIdeal.τ).loc Cert.MmQIdeal.main_arg0)
      ∧ r.2.mem ((c.tc : Thread Cert.MmQIdeal.nD Cert.MmQIdeal.τ).loc Cert.MmQIdeal.main_arg1) = m ((c.tc : Thread Cert.MmQIdeal.nD Cert.MmQIdeal.τ).loc Cert.MmQIdeal.main_arg1))
      ∧ r.2.sem = fun _ => 0)

def quiescent_MmQRefIdeal [hMmQRefIdeal : Cert.MmQRefIdeal.Facts] : Prop :=
  ∀ (m : (ℓ : Loc Cert.MmQRefIdeal.nD Cert.MmQRefIdeal.τ Cert.MmQRefIdeal.sig) → Buf (Elt Ideal) ℓ) (g : Dev Cert.MmQRefIdeal.nD → PrngReg), Pre_MmQRefIdeal m →
    θ_run (Cert.MmQRefIdeal.defs (F := Ideal)) (onTc (τ := Cert.MmQRefIdeal.τ) (Cert.MmQRefIdeal.main (F := Ideal))) ⟨m, fun _ => 0, g⟩ (fun r => (∀ c : Dev Cert.MmQRefIdeal.nD,
      r.2.mem ((c.tc : Thread Cert.MmQRefIdeal.nD Cert.MmQRefIdeal.τ).loc Cert.MmQRefIdeal.main_arg0) = m ((c.tc : Thread Cert.MmQRefIdeal.nD Cert.MmQRefIdeal.τ).loc Cert.MmQRefIdeal.main_arg0)
      ∧ r.2.mem ((c.tc : Thread Cert.MmQRefIdeal.nD Cert.MmQRefIdeal.τ).loc Cert.MmQRefIdeal.main_arg1) = m ((c.tc : Thread Cert.MmQRefIdeal.nD Cert.MmQRefIdeal.τ).loc Cert.MmQRefIdeal.main_arg1))
      ∧ r.2.sem = fun _ => 0)

def quiescent_MmKv [hMmKv : Cert.MmKv.Facts] : Prop :=
  ∀ (m : (ℓ : Loc Cert.MmKv.nD Cert.MmKv.τ Cert.MmKv.sig) → Buf (Elt Bits) ℓ) (g : Dev Cert.MmKv.nD → PrngReg), Pre_MmKv m →
    θ_run (Cert.MmKv.defs (F := Bits)) (onTc (τ := Cert.MmKv.τ) (Cert.MmKv.main (F := Bits))) ⟨m, fun _ => 0, g⟩ (fun r => (∀ c : Dev Cert.MmKv.nD,
      r.2.mem ((c.tc : Thread Cert.MmKv.nD Cert.MmKv.τ).loc Cert.MmKv.main_arg0) = m ((c.tc : Thread Cert.MmKv.nD Cert.MmKv.τ).loc Cert.MmKv.main_arg0)
      ∧ r.2.mem ((c.tc : Thread Cert.MmKv.nD Cert.MmKv.τ).loc Cert.MmKv.main_arg1) = m ((c.tc : Thread Cert.MmKv.nD Cert.MmKv.τ).loc Cert.MmKv.main_arg1))
      ∧ r.2.sem = fun _ => 0)

def quiescent_MmKvIdeal [hMmKvIdeal : Cert.MmKvIdeal.Facts] : Prop :=
  ∀ (m : (ℓ : Loc Cert.MmKvIdeal.nD Cert.MmKvIdeal.τ Cert.MmKvIdeal.sig) → Buf (Elt Ideal) ℓ) (g : Dev Cert.MmKvIdeal.nD → PrngReg), Pre_MmKvIdeal m →
    θ_run (Cert.MmKvIdeal.defs (F := Ideal)) (onTc (τ := Cert.MmKvIdeal.τ) (Cert.MmKvIdeal.main (F := Ideal))) ⟨m, fun _ => 0, g⟩ (fun r => (∀ c : Dev Cert.MmKvIdeal.nD,
      r.2.mem ((c.tc : Thread Cert.MmKvIdeal.nD Cert.MmKvIdeal.τ).loc Cert.MmKvIdeal.main_arg0) = m ((c.tc : Thread Cert.MmKvIdeal.nD Cert.MmKvIdeal.τ).loc Cert.MmKvIdeal.main_arg0)
      ∧ r.2.mem ((c.tc : Thread Cert.MmKvIdeal.nD Cert.MmKvIdeal.τ).loc Cert.MmKvIdeal.main_arg1) = m ((c.tc : Thread Cert.MmKvIdeal.nD Cert.MmKvIdeal.τ).loc Cert.MmKvIdeal.main_arg1))
      ∧ r.2.sem = fun _ => 0)

def quiescent_MmKvRefIdeal [hMmKvRefIdeal : Cert.MmKvRefIdeal.Facts] : Prop :=
  ∀ (m : (ℓ : Loc Cert.MmKvRefIdeal.nD Cert.MmKvRefIdeal.τ Cert.MmKvRefIdeal.sig) → Buf (Elt Ideal) ℓ) (g : Dev Cert.MmKvRefIdeal.nD → PrngReg), Pre_MmKvRefIdeal m →
    θ_run (Cert.MmKvRefIdeal.defs (F := Ideal)) (onTc (τ := Cert.MmKvRefIdeal.τ) (Cert.MmKvRefIdeal.main (F := Ideal))) ⟨m, fun _ => 0, g⟩ (fun r => (∀ c : Dev Cert.MmKvRefIdeal.nD,
      r.2.mem ((c.tc : Thread Cert.MmKvRefIdeal.nD Cert.MmKvRefIdeal.τ).loc Cert.MmKvRefIdeal.main_arg0) = m ((c.tc : Thread Cert.MmKvRefIdeal.nD Cert.MmKvRefIdeal.τ).loc Cert.MmKvRefIdeal.main_arg0)
      ∧ r.2.mem ((c.tc : Thread Cert.MmKvRefIdeal.nD Cert.MmKvRefIdeal.τ).loc Cert.MmKvRefIdeal.main_arg1) = m ((c.tc : Thread Cert.MmKvRefIdeal.nD Cert.MmKvRefIdeal.τ).loc Cert.MmKvRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_CrossOut [hCrossOut : Cert.CrossOut.Facts] : Prop :=
  ∀ (m : (ℓ : Loc Cert.CrossOut.nD Cert.CrossOut.τ Cert.CrossOut.sig) → Buf (Elt Bits) ℓ) (g : Dev Cert.CrossOut.nD → PrngReg), Pre_CrossOut m →
    θ_run (Cert.CrossOut.defs (F := Bits)) (onTc (τ := Cert.CrossOut.τ) (Cert.CrossOut.main (F := Bits))) ⟨m, fun _ => 0, g⟩ (fun r => (∀ c : Dev Cert.CrossOut.nD,
      r.2.mem ((c.tc : Thread Cert.CrossOut.nD Cert.CrossOut.τ).loc Cert.CrossOut.main_arg0) = m ((c.tc : Thread Cert.CrossOut.nD Cert.CrossOut.τ).loc Cert.CrossOut.main_arg0)
      ∧ r.2.mem ((c.tc : Thread Cert.CrossOut.nD Cert.CrossOut.τ).loc Cert.CrossOut.main_arg1) = m ((c.tc : Thread Cert.CrossOut.nD Cert.CrossOut.τ).loc Cert.CrossOut.main_arg1)
      ∧ r.2.mem ((c.tc : Thread Cert.CrossOut.nD Cert.CrossOut.τ).loc Cert.CrossOut.main_arg2) = m ((c.tc : Thread Cert.CrossOut.nD Cert.CrossOut.τ).loc Cert.CrossOut.main_arg2)
      ∧ r.2.mem ((c.tc : Thread Cert.CrossOut.nD Cert.CrossOut.τ).loc Cert.CrossOut.main_arg3) = m ((c.tc : Thread Cert.CrossOut.nD Cert.CrossOut.τ).loc Cert.CrossOut.main_arg3)
      ∧ r.2.mem ((c.tc : Thread Cert.CrossOut.nD Cert.CrossOut.τ).loc Cert.CrossOut.main_arg4) = m ((c.tc : Thread Cert.CrossOut.nD Cert.CrossOut.τ).loc Cert.CrossOut.main_arg4))
      ∧ r.2.sem = fun _ => 0)

def quiescent_CrossOutIdeal [hCrossOutIdeal : Cert.CrossOutIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg), Pre_CrossOutIdeal m →
    θ_run (Cert.CrossOutIdeal.defs (F := Ideal)) (onTc (τ := Cert.CrossOutIdeal.τ) (Cert.CrossOutIdeal.main (F := Ideal))) ⟨m, fun _ => 0, g⟩ (fun r => (∀ c : Dev Cert.CrossOutIdeal.nD,
      r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
      ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
      ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2)
      ∧ r.2.mem ((c.tc : Thread Cert.CrossOutIdeal.nD Cert.CrossOutIdeal.τ).loc Cert.CrossOutIdeal.main_arg3) = m ((c.tc : Thread Cert.CrossOutIdeal.nD Cert.CrossOutIdeal.τ).loc Cert.CrossOutIdeal.main_arg3)
      ∧ r.2.mem ((c.tc : Thread Cert.CrossOutIdeal.nD Cert.CrossOutIdeal.τ).loc Cert.CrossOutIdeal.main_arg4) = m ((c.tc : Thread Cert.CrossOutIdeal.nD Cert.CrossOutIdeal.τ).loc Cert.CrossOutIdeal.main_arg4))
      ∧ r.2.sem = fun _ => 0)

def quiescent_CrossOutIdeal_pre_cross_out_finite [hCrossOutIdeal : Cert.CrossOutIdeal.Facts] [hPre_cross_out_finite : Cert.Pre_cross_out_finite.Facts] : Prop :=
  ∀ (m : (ℓ : Loc Cert.CrossOutIdeal.nD Cert.CrossOutIdeal.τ Cert.CrossOutIdeal.sig) → Buf (Elt Ideal) ℓ) (g : Dev Cert.CrossOutIdeal.nD → PrngReg), Pre_CrossOutIdeal_cross_out_finite m →
    θ_run (Cert.CrossOutIdeal.defs (F := Ideal)) (onTc (τ := Cert.CrossOutIdeal.τ) (Cert.CrossOutIdeal.main (F := Ideal))) ⟨m, fun _ => 0, g⟩ (fun r => (∀ c : Dev Cert.CrossOutIdeal.nD,
      r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
      ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
      ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2)
      ∧ r.2.mem ((c.tc : Thread Cert.CrossOutIdeal.nD Cert.CrossOutIdeal.τ).loc Cert.CrossOutIdeal.main_arg3) = m ((c.tc : Thread Cert.CrossOutIdeal.nD Cert.CrossOutIdeal.τ).loc Cert.CrossOutIdeal.main_arg3)
      ∧ r.2.mem ((c.tc : Thread Cert.CrossOutIdeal.nD Cert.CrossOutIdeal.τ).loc Cert.CrossOutIdeal.main_arg4) = m ((c.tc : Thread Cert.CrossOutIdeal.nD Cert.CrossOutIdeal.τ).loc Cert.CrossOutIdeal.main_arg4))
      ∧ r.2.sem = fun _ => 0)

def quiescent_CrossOutRefIdeal [hCrossOutRefIdeal : Cert.CrossOutRefIdeal.Facts] : Prop :=
  ∀ (m : (ℓ : Loc Cert.CrossOutRefIdeal.nD Cert.CrossOutRefIdeal.τ Cert.CrossOutRefIdeal.sig) → Buf (Elt Ideal) ℓ) (g : Dev Cert.CrossOutRefIdeal.nD → PrngReg), Pre_CrossOutRefIdeal m →
    θ_run (Cert.CrossOutRefIdeal.defs (F := Ideal)) (onTc (τ := Cert.CrossOutRefIdeal.τ) (Cert.CrossOutRefIdeal.main (F := Ideal))) ⟨m, fun _ => 0, g⟩ (fun r => (∀ c : Dev Cert.CrossOutRefIdeal.nD,
      r.2.mem ((c.tc : Thread Cert.CrossOutRefIdeal.nD Cert.CrossOutRefIdeal.τ).loc Cert.CrossOutRefIdeal.main_arg0) = m ((c.tc : Thread Cert.CrossOutRefIdeal.nD Cert.CrossOutRefIdeal.τ).loc Cert.CrossOutRefIdeal.main_arg0)
      ∧ r.2.mem ((c.tc : Thread Cert.CrossOutRefIdeal.nD Cert.CrossOutRefIdeal.τ).loc Cert.CrossOutRefIdeal.main_arg1) = m ((c.tc : Thread Cert.CrossOutRefIdeal.nD Cert.CrossOutRefIdeal.τ).loc Cert.CrossOutRefIdeal.main_arg1)
      ∧ r.2.mem ((c.tc : Thread Cert.CrossOutRefIdeal.nD Cert.CrossOutRefIdeal.τ).loc Cert.CrossOutRefIdeal.main_arg2) = m ((c.tc : Thread Cert.CrossOutRefIdeal.nD Cert.CrossOutRefIdeal.τ).loc Cert.CrossOutRefIdeal.main_arg2)
      ∧ r.2.mem ((c.tc : Thread Cert.CrossOutRefIdeal.nD Cert.CrossOutRefIdeal.τ).loc Cert.CrossOutRefIdeal.main_arg3) = m ((c.tc : Thread Cert.CrossOutRefIdeal.nD Cert.CrossOutRefIdeal.τ).loc Cert.CrossOutRefIdeal.main_arg3)
      ∧ r.2.mem ((c.tc : Thread Cert.CrossOutRefIdeal.nD Cert.CrossOutRefIdeal.τ).loc Cert.CrossOutRefIdeal.main_arg4) = m ((c.tc : Thread Cert.CrossOutRefIdeal.nD Cert.CrossOutRefIdeal.τ).loc Cert.CrossOutRefIdeal.main_arg4))
      ∧ r.2.sem = fun _ => 0)

def quiescent_CrossOutRefIdeal_pre_cross_out_finite [hCrossOutRefIdeal : Cert.CrossOutRefIdeal.Facts] [hPre_cross_out_finite : Cert.Pre_cross_out_finite.Facts] : Prop :=
  ∀ (m : (ℓ : Loc Cert.CrossOutRefIdeal.nD Cert.CrossOutRefIdeal.τ Cert.CrossOutRefIdeal.sig) → Buf (Elt Ideal) ℓ) (g : Dev Cert.CrossOutRefIdeal.nD → PrngReg), Pre_CrossOutRefIdeal_cross_out_finite m →
    θ_run (Cert.CrossOutRefIdeal.defs (F := Ideal)) (onTc (τ := Cert.CrossOutRefIdeal.τ) (Cert.CrossOutRefIdeal.main (F := Ideal))) ⟨m, fun _ => 0, g⟩ (fun r => (∀ c : Dev Cert.CrossOutRefIdeal.nD,
      r.2.mem ((c.tc : Thread Cert.CrossOutRefIdeal.nD Cert.CrossOutRefIdeal.τ).loc Cert.CrossOutRefIdeal.main_arg0) = m ((c.tc : Thread Cert.CrossOutRefIdeal.nD Cert.CrossOutRefIdeal.τ).loc Cert.CrossOutRefIdeal.main_arg0)
      ∧ r.2.mem ((c.tc : Thread Cert.CrossOutRefIdeal.nD Cert.CrossOutRefIdeal.τ).loc Cert.CrossOutRefIdeal.main_arg1) = m ((c.tc : Thread Cert.CrossOutRefIdeal.nD Cert.CrossOutRefIdeal.τ).loc Cert.CrossOutRefIdeal.main_arg1)
      ∧ r.2.mem ((c.tc : Thread Cert.CrossOutRefIdeal.nD Cert.CrossOutRefIdeal.τ).loc Cert.CrossOutRefIdeal.main_arg2) = m ((c.tc : Thread Cert.CrossOutRefIdeal.nD Cert.CrossOutRefIdeal.τ).loc Cert.CrossOutRefIdeal.main_arg2)
      ∧ r.2.mem ((c.tc : Thread Cert.CrossOutRefIdeal.nD Cert.CrossOutRefIdeal.τ).loc Cert.CrossOutRefIdeal.main_arg3) = m ((c.tc : Thread Cert.CrossOutRefIdeal.nD Cert.CrossOutRefIdeal.τ).loc Cert.CrossOutRefIdeal.main_arg3)
      ∧ r.2.mem ((c.tc : Thread Cert.CrossOutRefIdeal.nD Cert.CrossOutRefIdeal.τ).loc Cert.CrossOutRefIdeal.main_arg4) = m ((c.tc : Thread Cert.CrossOutRefIdeal.nD Cert.CrossOutRefIdeal.τ).loc Cert.CrossOutRefIdeal.main_arg4))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_PoolOut [hPoolOut : Cert.PoolOut.Facts] : Prop :=
  ∀ (m : (ℓ : Loc Cert.PoolOut.nD Cert.PoolOut.τ Cert.PoolOut.sig) → Buf (Elt Bits) ℓ) (g : Dev Cert.PoolOut.nD → PrngReg), Pre_PoolOut m →
    θ_run (Cert.PoolOut.defs (F := Bits)) (onTc (τ := Cert.PoolOut.τ) (Cert.PoolOut.main (F := Bits))) ⟨m, fun _ => 0, g⟩ (fun r => (∀ c : Dev Cert.PoolOut.nD,
      r.2.mem ((c.tc : Thread Cert.PoolOut.nD Cert.PoolOut.τ).loc Cert.PoolOut.main_arg0) = m ((c.tc : Thread Cert.PoolOut.nD Cert.PoolOut.τ).loc Cert.PoolOut.main_arg0)
      ∧ r.2.mem ((c.tc : Thread Cert.PoolOut.nD Cert.PoolOut.τ).loc Cert.PoolOut.main_arg1) = m ((c.tc : Thread Cert.PoolOut.nD Cert.PoolOut.τ).loc Cert.PoolOut.main_arg1)
      ∧ r.2.mem ((c.tc : Thread Cert.PoolOut.nD Cert.PoolOut.τ).loc Cert.PoolOut.main_arg2) = m ((c.tc : Thread Cert.PoolOut.nD Cert.PoolOut.τ).loc Cert.PoolOut.main_arg2)
      ∧ r.2.mem ((c.tc : Thread Cert.PoolOut.nD Cert.PoolOut.τ).loc Cert.PoolOut.main_arg3) = m ((c.tc : Thread Cert.PoolOut.nD Cert.PoolOut.τ).loc Cert.PoolOut.main_arg3)
      ∧ r.2.mem ((c.tc : Thread Cert.PoolOut.nD Cert.PoolOut.τ).loc Cert.PoolOut.main_arg4) = m ((c.tc : Thread Cert.PoolOut.nD Cert.PoolOut.τ).loc Cert.PoolOut.main_arg4))
      ∧ r.2.sem = fun _ => 0)

def quiescent_PoolOutIdeal [hPoolOutIdeal : Cert.PoolOutIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg), Pre_PoolOutIdeal m →
    θ_run (Cert.PoolOutIdeal.defs (F := Ideal)) (onTc (τ := Cert.PoolOutIdeal.τ) (Cert.PoolOutIdeal.main (F := Ideal))) ⟨m, fun _ => 0, g⟩ (fun r => (∀ c : Dev Cert.PoolOutIdeal.nD,
      r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
      ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
      ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
      ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3)
      ∧ r.2.mem ((c.tc : Thread Cert.PoolOutIdeal.nD Cert.PoolOutIdeal.τ).loc Cert.PoolOutIdeal.main_arg4) = m ((c.tc : Thread Cert.PoolOutIdeal.nD Cert.PoolOutIdeal.τ).loc Cert.PoolOutIdeal.main_arg4))
      ∧ r.2.sem = fun _ => 0)

def quiescent_PoolOutRefIdeal [hPoolOutRefIdeal : Cert.PoolOutRefIdeal.Facts] : Prop :=
  ∀ (m : (ℓ : Loc Cert.PoolOutRefIdeal.nD Cert.PoolOutRefIdeal.τ Cert.PoolOutRefIdeal.sig) → Buf (Elt Ideal) ℓ) (g : Dev Cert.PoolOutRefIdeal.nD → PrngReg), Pre_PoolOutRefIdeal m →
    θ_run (Cert.PoolOutRefIdeal.defs (F := Ideal)) (onTc (τ := Cert.PoolOutRefIdeal.τ) (Cert.PoolOutRefIdeal.main (F := Ideal))) ⟨m, fun _ => 0, g⟩ (fun r => (∀ c : Dev Cert.PoolOutRefIdeal.nD,
      r.2.mem ((c.tc : Thread Cert.PoolOutRefIdeal.nD Cert.PoolOutRefIdeal.τ).loc Cert.PoolOutRefIdeal.main_arg0) = m ((c.tc : Thread Cert.PoolOutRefIdeal.nD Cert.PoolOutRefIdeal.τ).loc Cert.PoolOutRefIdeal.main_arg0)
      ∧ r.2.mem ((c.tc : Thread Cert.PoolOutRefIdeal.nD Cert.PoolOutRefIdeal.τ).loc Cert.PoolOutRefIdeal.main_arg1) = m ((c.tc : Thread Cert.PoolOutRefIdeal.nD Cert.PoolOutRefIdeal.τ).loc Cert.PoolOutRefIdeal.main_arg1)
      ∧ r.2.mem ((c.tc : Thread Cert.PoolOutRefIdeal.nD Cert.PoolOutRefIdeal.τ).loc Cert.PoolOutRefIdeal.main_arg2) = m ((c.tc : Thread Cert.PoolOutRefIdeal.nD Cert.PoolOutRefIdeal.τ).loc Cert.PoolOutRefIdeal.main_arg2)
      ∧ r.2.mem ((c.tc : Thread Cert.PoolOutRefIdeal.nD Cert.PoolOutRefIdeal.τ).loc Cert.PoolOutRefIdeal.main_arg3) = m ((c.tc : Thread Cert.PoolOutRefIdeal.nD Cert.PoolOutRefIdeal.τ).loc Cert.PoolOutRefIdeal.main_arg3)
      ∧ r.2.mem ((c.tc : Thread Cert.PoolOutRefIdeal.nD Cert.PoolOutRefIdeal.τ).loc Cert.PoolOutRefIdeal.main_arg4) = m ((c.tc : Thread Cert.PoolOutRefIdeal.nD Cert.PoolOutRefIdeal.τ).loc Cert.PoolOutRefIdeal.main_arg4))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineIdeal_pre_combine_slots [hCombineIdeal : Cert.CombineIdeal.Facts] [hPre_combine_slots : Cert.Pre_combine_slots.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_combine_slots m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_CombineRefIdeal_pre_combine_slots [hCombineRefIdeal : Cert.CombineRefIdeal.Facts] [hPre_combine_slots : Cert.Pre_combine_slots.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_combine_slots m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_NormX [hNormX : Cert.NormX.Facts] : Prop :=
  ∀ (m : (ℓ : Loc Cert.NormX.nD Cert.NormX.τ Cert.NormX.sig) → Buf (Elt Bits) ℓ) (g : Dev Cert.NormX.nD → PrngReg), Pre_NormX m →
    θ_run (Cert.NormX.defs (F := Bits)) (onTc (τ := Cert.NormX.τ) (Cert.NormX.main (F := Bits))) ⟨m, fun _ => 0, g⟩ (fun r => (∀ c : Dev Cert.NormX.nD,
      r.2.mem ((c.tc : Thread Cert.NormX.nD Cert.NormX.τ).loc Cert.NormX.main_arg0) = m ((c.tc : Thread Cert.NormX.nD Cert.NormX.τ).loc Cert.NormX.main_arg0)
      ∧ r.2.mem ((c.tc : Thread Cert.NormX.nD Cert.NormX.τ).loc Cert.NormX.main_arg1) = m ((c.tc : Thread Cert.NormX.nD Cert.NormX.τ).loc Cert.NormX.main_arg1))
      ∧ r.2.sem = fun _ => 0)

def quiescent_NormXIdeal [hNormXIdeal : Cert.NormXIdeal.Facts] : Prop :=
  ∀ (m : (ℓ : Loc Cert.NormXIdeal.nD Cert.NormXIdeal.τ Cert.NormXIdeal.sig) → Buf (Elt Ideal) ℓ) (g : Dev Cert.NormXIdeal.nD → PrngReg), Pre_NormXIdeal m →
    θ_run (Cert.NormXIdeal.defs (F := Ideal)) (onTc (τ := Cert.NormXIdeal.τ) (Cert.NormXIdeal.main (F := Ideal))) ⟨m, fun _ => 0, g⟩ (fun r => (∀ c : Dev Cert.NormXIdeal.nD,
      r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
      ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1))
      ∧ r.2.sem = fun _ => 0)

def quiescent_NormXRefIdeal [hNormXRefIdeal : Cert.NormXRefIdeal.Facts] : Prop :=
  ∀ (m : (ℓ : Loc Cert.NormXRefIdeal.nD Cert.NormXRefIdeal.τ Cert.NormXRefIdeal.sig) → Buf (Elt Ideal) ℓ) (g : Dev Cert.NormXRefIdeal.nD → PrngReg), Pre_NormXRefIdeal m →
    θ_run (Cert.NormXRefIdeal.defs (F := Ideal)) (onTc (τ := Cert.NormXRefIdeal.τ) (Cert.NormXRefIdeal.main (F := Ideal))) ⟨m, fun _ => 0, g⟩ (fun r => (∀ c : Dev Cert.NormXRefIdeal.nD,
      r.2.mem ((c.tc : Thread Cert.NormXRefIdeal.nD Cert.NormXRefIdeal.τ).loc Cert.NormXRefIdeal.main_arg0) = m ((c.tc : Thread Cert.NormXRefIdeal.nD Cert.NormXRefIdeal.τ).loc Cert.NormXRefIdeal.main_arg0)
      ∧ r.2.mem ((c.tc : Thread Cert.NormXRefIdeal.nD Cert.NormXRefIdeal.τ).loc Cert.NormXRefIdeal.main_arg1) = m ((c.tc : Thread Cert.NormXRefIdeal.nD Cert.NormXRefIdeal.τ).loc Cert.NormXRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0)
      ∧ r.2.mem ((c.tc : Thread Cert.FourierRefIdeal.nD Cert.FourierRefIdeal.τ).loc Cert.FourierRefIdeal.main_arg1) = m ((c.tc : Thread Cert.FourierRefIdeal.nD Cert.FourierRefIdeal.τ).loc Cert.FourierRefIdeal.main_arg1))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def preserves_Attn_AttnIdeal : Prop :=
  IdealRules.named_const.Statement Cert.AttnIdeal.κ "inv_sqrt_d" .f32 0x3DB504F3#32 (((Real.sqrt 128)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v28) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v8) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_MmQ_MmQIdeal : Prop :=
  True

def algebraic_MmQIdeal_MmQRefIdeal [hMmQIdeal : Cert.MmQIdeal.Facts] [hMmQRefIdeal : Cert.MmQRefIdeal.Facts] : Prop :=
  ∀ (m : (ℓ : Loc Cert.MmQIdeal.nD Cert.MmQIdeal.τ Cert.MmQIdeal.sig) → Buf (Elt Ideal) ℓ) (g : Dev Cert.MmQIdeal.nD → PrngReg)
    (m' : (ℓ : Loc Cert.MmQRefIdeal.nD Cert.MmQRefIdeal.τ Cert.MmQRefIdeal.sig) → Buf (Elt Ideal) ℓ) (g' : Dev Cert.MmQRefIdeal.nD → PrngReg), Pre_MmQIdeal m →
    (∀ c : Dev Cert.MmQIdeal.nD,
      m' ((c.tc : Thread Cert.MmQRefIdeal.nD Cert.MmQRefIdeal.τ).loc Cert.MmQRefIdeal.main_arg0) = m ((c.tc : Thread Cert.MmQIdeal.nD Cert.MmQIdeal.τ).loc Cert.MmQIdeal.main_arg0)
      ∧ m' ((c.tc : Thread Cert.MmQRefIdeal.nD Cert.MmQRefIdeal.τ).loc Cert.MmQRefIdeal.main_arg1) = m ((c.tc : Thread Cert.MmQIdeal.nD Cert.MmQIdeal.τ).loc Cert.MmQIdeal.main_arg1)) →
    ∃ (v0 : (c : Dev Cert.MmQIdeal.nD) → Buf (Elt Ideal) ((c.tc : Thread Cert.MmQIdeal.nD Cert.MmQIdeal.τ).loc Cert.MmQIdeal.main_v0)),
      θ_run (Cert.MmQIdeal.defs (F := Ideal)) (onTc (τ := Cert.MmQIdeal.τ) (Cert.MmQIdeal.main (F := Ideal))) ⟨m, fun _ => 0, g⟩ (fun r => ∀ c : Dev Cert.MmQIdeal.nD,
          r.2.mem ((c.tc : Thread Cert.MmQIdeal.nD Cert.MmQIdeal.τ).loc Cert.MmQIdeal.main_v0) = v0 c
          ∧ r.2.mem ((c.tc : Thread Cert.MmQIdeal.nD Cert.MmQIdeal.τ).loc Cert.MmQIdeal.main_arg0) = m ((c.tc : Thread Cert.MmQIdeal.nD Cert.MmQIdeal.τ).loc Cert.MmQIdeal.main_arg0)
          ∧ r.2.mem ((c.tc : Thread Cert.MmQIdeal.nD Cert.MmQIdeal.τ).loc Cert.MmQIdeal.main_arg1) = m ((c.tc : Thread Cert.MmQIdeal.nD Cert.MmQIdeal.τ).loc Cert.MmQIdeal.main_arg1))
      ∧ θ_run (Cert.MmQRefIdeal.defs (F := Ideal)) (onTc (τ := Cert.MmQRefIdeal.τ) (Cert.MmQRefIdeal.main (F := Ideal))) ⟨m', fun _ => 0, g'⟩ (fun r => ∀ c : Dev Cert.MmQRefIdeal.nD,
          r.2.mem ((c.tc : Thread Cert.MmQRefIdeal.nD Cert.MmQRefIdeal.τ).loc Cert.MmQRefIdeal.main_v2) = v0 c
          ∧ r.2.mem ((c.tc : Thread Cert.MmQRefIdeal.nD Cert.MmQRefIdeal.τ).loc Cert.MmQRefIdeal.main_arg0) = m' ((c.tc : Thread Cert.MmQRefIdeal.nD Cert.MmQRefIdeal.τ).loc Cert.MmQRefIdeal.main_arg0)
          ∧ r.2.mem ((c.tc : Thread Cert.MmQRefIdeal.nD Cert.MmQRefIdeal.τ).loc Cert.MmQRefIdeal.main_arg1) = m' ((c.tc : Thread Cert.MmQRefIdeal.nD Cert.MmQRefIdeal.τ).loc Cert.MmQRefIdeal.main_arg1))

def preserves_MmKv_MmKvIdeal : Prop :=
  True

def algebraic_MmKvIdeal_MmKvRefIdeal [hMmKvIdeal : Cert.MmKvIdeal.Facts] [hMmKvRefIdeal : Cert.MmKvRefIdeal.Facts] : Prop :=
  ∀ (m : (ℓ : Loc Cert.MmKvIdeal.nD Cert.MmKvIdeal.τ Cert.MmKvIdeal.sig) → Buf (Elt Ideal) ℓ) (g : Dev Cert.MmKvIdeal.nD → PrngReg)
    (m' : (ℓ : Loc Cert.MmKvRefIdeal.nD Cert.MmKvRefIdeal.τ Cert.MmKvRefIdeal.sig) → Buf (Elt Ideal) ℓ) (g' : Dev Cert.MmKvRefIdeal.nD → PrngReg), Pre_MmKvIdeal m →
    (∀ c : Dev Cert.MmKvIdeal.nD,
      m' ((c.tc : Thread Cert.MmKvRefIdeal.nD Cert.MmKvRefIdeal.τ).loc Cert.MmKvRefIdeal.main_arg0) = m ((c.tc : Thread Cert.MmKvIdeal.nD Cert.MmKvIdeal.τ).loc Cert.MmKvIdeal.main_arg0)
      ∧ m' ((c.tc : Thread Cert.MmKvRefIdeal.nD Cert.MmKvRefIdeal.τ).loc Cert.MmKvRefIdeal.main_arg1) = m ((c.tc : Thread Cert.MmKvIdeal.nD Cert.MmKvIdeal.τ).loc Cert.MmKvIdeal.main_arg1)) →
    ∃ (v0 : (c : Dev Cert.MmKvIdeal.nD) → Buf (Elt Ideal) ((c.tc : Thread Cert.MmKvIdeal.nD Cert.MmKvIdeal.τ).loc Cert.MmKvIdeal.main_v0)),
      θ_run (Cert.MmKvIdeal.defs (F := Ideal)) (onTc (τ := Cert.MmKvIdeal.τ) (Cert.MmKvIdeal.main (F := Ideal))) ⟨m, fun _ => 0, g⟩ (fun r => ∀ c : Dev Cert.MmKvIdeal.nD,
          r.2.mem ((c.tc : Thread Cert.MmKvIdeal.nD Cert.MmKvIdeal.τ).loc Cert.MmKvIdeal.main_v0) = v0 c
          ∧ r.2.mem ((c.tc : Thread Cert.MmKvIdeal.nD Cert.MmKvIdeal.τ).loc Cert.MmKvIdeal.main_arg0) = m ((c.tc : Thread Cert.MmKvIdeal.nD Cert.MmKvIdeal.τ).loc Cert.MmKvIdeal.main_arg0)
          ∧ r.2.mem ((c.tc : Thread Cert.MmKvIdeal.nD Cert.MmKvIdeal.τ).loc Cert.MmKvIdeal.main_arg1) = m ((c.tc : Thread Cert.MmKvIdeal.nD Cert.MmKvIdeal.τ).loc Cert.MmKvIdeal.main_arg1))
      ∧ θ_run (Cert.MmKvRefIdeal.defs (F := Ideal)) (onTc (τ := Cert.MmKvRefIdeal.τ) (Cert.MmKvRefIdeal.main (F := Ideal))) ⟨m', fun _ => 0, g'⟩ (fun r => ∀ c : Dev Cert.MmKvRefIdeal.nD,
          r.2.mem ((c.tc : Thread Cert.MmKvRefIdeal.nD Cert.MmKvRefIdeal.τ).loc Cert.MmKvRefIdeal.main_v2) = v0 c
          ∧ r.2.mem ((c.tc : Thread Cert.MmKvRefIdeal.nD Cert.MmKvRefIdeal.τ).loc Cert.MmKvRefIdeal.main_arg0) = m' ((c.tc : Thread Cert.MmKvRefIdeal.nD Cert.MmKvRefIdeal.τ).loc Cert.MmKvRefIdeal.main_arg0)
          ∧ r.2.mem ((c.tc : Thread Cert.MmKvRefIdeal.nD Cert.MmKvRefIdeal.τ).loc Cert.MmKvRefIdeal.main_arg1) = m' ((c.tc : Thread Cert.MmKvRefIdeal.nD Cert.MmKvRefIdeal.τ).loc Cert.MmKvRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_CrossOut_CrossOutIdeal : Prop :=
  True

def algebraic_CrossOutIdeal_CrossOutRefIdeal_pre_cross_out_finite [hCrossOutIdeal : Cert.CrossOutIdeal.Facts] [hCrossOutRefIdeal : Cert.CrossOutRefIdeal.Facts] [hPre_cross_out_finite : Cert.Pre_cross_out_finite.Facts] : Prop :=
  ∀ (m : (ℓ : Loc Cert.CrossOutIdeal.nD Cert.CrossOutIdeal.τ Cert.CrossOutIdeal.sig) → Buf (Elt Ideal) ℓ) (g : Dev Cert.CrossOutIdeal.nD → PrngReg)
    (m' : (ℓ : Loc Cert.CrossOutRefIdeal.nD Cert.CrossOutRefIdeal.τ Cert.CrossOutRefIdeal.sig) → Buf (Elt Ideal) ℓ) (g' : Dev Cert.CrossOutRefIdeal.nD → PrngReg), Pre_CrossOutIdeal_cross_out_finite m →
    (∀ c : Dev Cert.CrossOutIdeal.nD,
      m' ((c.tc : Thread Cert.CrossOutRefIdeal.nD Cert.CrossOutRefIdeal.τ).loc Cert.CrossOutRefIdeal.main_arg0) = m ((c.tc : Thread Cert.CrossOutIdeal.nD Cert.CrossOutIdeal.τ).loc Cert.CrossOutIdeal.main_arg0)
      ∧ m' ((c.tc : Thread Cert.CrossOutRefIdeal.nD Cert.CrossOutRefIdeal.τ).loc Cert.CrossOutRefIdeal.main_arg1) = m ((c.tc : Thread Cert.CrossOutIdeal.nD Cert.CrossOutIdeal.τ).loc Cert.CrossOutIdeal.main_arg1)
      ∧ m' ((c.tc : Thread Cert.CrossOutRefIdeal.nD Cert.CrossOutRefIdeal.τ).loc Cert.CrossOutRefIdeal.main_arg2) = m ((c.tc : Thread Cert.CrossOutIdeal.nD Cert.CrossOutIdeal.τ).loc Cert.CrossOutIdeal.main_arg2)
      ∧ m' ((c.tc : Thread Cert.CrossOutRefIdeal.nD Cert.CrossOutRefIdeal.τ).loc Cert.CrossOutRefIdeal.main_arg3) = m ((c.tc : Thread Cert.CrossOutIdeal.nD Cert.CrossOutIdeal.τ).loc Cert.CrossOutIdeal.main_arg3)
      ∧ m' ((c.tc : Thread Cert.CrossOutRefIdeal.nD Cert.CrossOutRefIdeal.τ).loc Cert.CrossOutRefIdeal.main_arg4) = m ((c.tc : Thread Cert.CrossOutIdeal.nD Cert.CrossOutIdeal.τ).loc Cert.CrossOutIdeal.main_arg4)) →
    ∃ (v0 : (c : Dev Cert.CrossOutIdeal.nD) → Buf (Elt Ideal) ((c.tc : Thread Cert.CrossOutIdeal.nD Cert.CrossOutIdeal.τ).loc Cert.CrossOutIdeal.main_v6_0)) (v1 : (c : Dev Cert.CrossOutIdeal.nD) → Buf (Elt Ideal) ((c.tc : Thread Cert.CrossOutIdeal.nD Cert.CrossOutIdeal.τ).loc Cert.CrossOutIdeal.main_v6_1)) (v2 : (c : Dev Cert.CrossOutIdeal.nD) → Buf (Elt Ideal) ((c.tc : Thread Cert.CrossOutIdeal.nD Cert.CrossOutIdeal.τ).loc Cert.CrossOutIdeal.main_v6_2)),
      θ_run (Cert.CrossOutIdeal.defs (F := Ideal)) (onTc (τ := Cert.CrossOutIdeal.τ) (Cert.CrossOutIdeal.main (F := Ideal))) ⟨m, fun _ => 0, g⟩ (fun r => ∀ c : Dev Cert.CrossOutIdeal.nD,
          r.2.mem ((c.tc : Thread Cert.CrossOutIdeal.nD Cert.CrossOutIdeal.τ).loc Cert.CrossOutIdeal.main_v6_0) = v0 c
          ∧ r.2.mem ((c.tc : Thread Cert.CrossOutIdeal.nD Cert.CrossOutIdeal.τ).loc Cert.CrossOutIdeal.main_v6_1) = v1 c
          ∧ r.2.mem ((c.tc : Thread Cert.CrossOutIdeal.nD Cert.CrossOutIdeal.τ).loc Cert.CrossOutIdeal.main_v6_2) = v2 c
          ∧ r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
          ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
          ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2)
          ∧ r.2.mem ((c.tc : Thread Cert.CrossOutIdeal.nD Cert.CrossOutIdeal.τ).loc Cert.CrossOutIdeal.main_arg3) = m ((c.tc : Thread Cert.CrossOutIdeal.nD Cert.CrossOutIdeal.τ).loc Cert.CrossOutIdeal.main_arg3)
          ∧ r.2.mem ((c.tc : Thread Cert.CrossOutIdeal.nD Cert.CrossOutIdeal.τ).loc Cert.CrossOutIdeal.main_arg4) = m ((c.tc : Thread Cert.CrossOutIdeal.nD Cert.CrossOutIdeal.τ).loc Cert.CrossOutIdeal.main_arg4))
      ∧ θ_run (Cert.CrossOutRefIdeal.defs (F := Ideal)) (onTc (τ := Cert.CrossOutRefIdeal.τ) (Cert.CrossOutRefIdeal.main (F := Ideal))) ⟨m', fun _ => 0, g'⟩ (fun r => ∀ c : Dev Cert.CrossOutRefIdeal.nD,
          r.2.mem ((c.tc : Thread Cert.CrossOutRefIdeal.nD Cert.CrossOutRefIdeal.τ).loc Cert.CrossOutRefIdeal.main_v2) = v0 c
          ∧ r.2.mem ((c.tc : Thread Cert.CrossOutRefIdeal.nD Cert.CrossOutRefIdeal.τ).loc Cert.CrossOutRefIdeal.main_v28) = v1 c
          ∧ r.2.mem ((c.tc : Thread Cert.CrossOutRefIdeal.nD Cert.CrossOutRefIdeal.τ).loc Cert.CrossOutRefIdeal.main_v29) = v2 c
          ∧ r.2.mem ((c.tc : Thread Cert.CrossOutRefIdeal.nD Cert.CrossOutRefIdeal.τ).loc Cert.CrossOutRefIdeal.main_arg0) = m' ((c.tc : Thread Cert.CrossOutRefIdeal.nD Cert.CrossOutRefIdeal.τ).loc Cert.CrossOutRefIdeal.main_arg0)
          ∧ r.2.mem ((c.tc : Thread Cert.CrossOutRefIdeal.nD Cert.CrossOutRefIdeal.τ).loc Cert.CrossOutRefIdeal.main_arg1) = m' ((c.tc : Thread Cert.CrossOutRefIdeal.nD Cert.CrossOutRefIdeal.τ).loc Cert.CrossOutRefIdeal.main_arg1)
          ∧ r.2.mem ((c.tc : Thread Cert.CrossOutRefIdeal.nD Cert.CrossOutRefIdeal.τ).loc Cert.CrossOutRefIdeal.main_arg2) = m' ((c.tc : Thread Cert.CrossOutRefIdeal.nD Cert.CrossOutRefIdeal.τ).loc Cert.CrossOutRefIdeal.main_arg2)
          ∧ r.2.mem ((c.tc : Thread Cert.CrossOutRefIdeal.nD Cert.CrossOutRefIdeal.τ).loc Cert.CrossOutRefIdeal.main_arg3) = m' ((c.tc : Thread Cert.CrossOutRefIdeal.nD Cert.CrossOutRefIdeal.τ).loc Cert.CrossOutRefIdeal.main_arg3)
          ∧ r.2.mem ((c.tc : Thread Cert.CrossOutRefIdeal.nD Cert.CrossOutRefIdeal.τ).loc Cert.CrossOutRefIdeal.main_arg4) = m' ((c.tc : Thread Cert.CrossOutRefIdeal.nD Cert.CrossOutRefIdeal.τ).loc Cert.CrossOutRefIdeal.main_arg4))

def preserves_Cross_CrossIdeal : Prop :=
  IdealRules.named_const.Statement Cert.CrossIdeal.κ "inv_sqrt_m" .f32 0x3D3504F3#32 (((Real.sqrt 512)⁻¹ : ℝ) : EReal)

def algebraic_CrossIdeal_CrossRefIdeal_pre_cross_finite [hCrossIdeal : Cert.CrossIdeal.Facts] [hCrossRefIdeal : Cert.CrossRefIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v24) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v32)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v32) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v74) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_PoolOut_PoolOutIdeal : Prop :=
  True

def algebraic_PoolOutIdeal_PoolOutRefIdeal [hPoolOutIdeal : Cert.PoolOutIdeal.Facts] [hPoolOutRefIdeal : Cert.PoolOutRefIdeal.Facts] : Prop :=
  ∀ (m : (ℓ : Loc Cert.PoolOutIdeal.nD Cert.PoolOutIdeal.τ Cert.PoolOutIdeal.sig) → Buf (Elt Ideal) ℓ) (g : Dev Cert.PoolOutIdeal.nD → PrngReg)
    (m' : (ℓ : Loc Cert.PoolOutRefIdeal.nD Cert.PoolOutRefIdeal.τ Cert.PoolOutRefIdeal.sig) → Buf (Elt Ideal) ℓ) (g' : Dev Cert.PoolOutRefIdeal.nD → PrngReg), Pre_PoolOutIdeal m →
    (∀ c : Dev Cert.PoolOutIdeal.nD,
      m' ((c.tc : Thread Cert.PoolOutRefIdeal.nD Cert.PoolOutRefIdeal.τ).loc Cert.PoolOutRefIdeal.main_arg0) = m ((c.tc : Thread Cert.PoolOutIdeal.nD Cert.PoolOutIdeal.τ).loc Cert.PoolOutIdeal.main_arg0)
      ∧ m' ((c.tc : Thread Cert.PoolOutRefIdeal.nD Cert.PoolOutRefIdeal.τ).loc Cert.PoolOutRefIdeal.main_arg1) = m ((c.tc : Thread Cert.PoolOutIdeal.nD Cert.PoolOutIdeal.τ).loc Cert.PoolOutIdeal.main_arg1)
      ∧ m' ((c.tc : Thread Cert.PoolOutRefIdeal.nD Cert.PoolOutRefIdeal.τ).loc Cert.PoolOutRefIdeal.main_arg2) = m ((c.tc : Thread Cert.PoolOutIdeal.nD Cert.PoolOutIdeal.τ).loc Cert.PoolOutIdeal.main_arg2)
      ∧ m' ((c.tc : Thread Cert.PoolOutRefIdeal.nD Cert.PoolOutRefIdeal.τ).loc Cert.PoolOutRefIdeal.main_arg3) = m ((c.tc : Thread Cert.PoolOutIdeal.nD Cert.PoolOutIdeal.τ).loc Cert.PoolOutIdeal.main_arg3)
      ∧ m' ((c.tc : Thread Cert.PoolOutRefIdeal.nD Cert.PoolOutRefIdeal.τ).loc Cert.PoolOutRefIdeal.main_arg4) = m ((c.tc : Thread Cert.PoolOutIdeal.nD Cert.PoolOutIdeal.τ).loc Cert.PoolOutIdeal.main_arg4)) →
    ∃ (v0 : (c : Dev Cert.PoolOutIdeal.nD) → Buf (Elt Ideal) ((c.tc : Thread Cert.PoolOutIdeal.nD Cert.PoolOutIdeal.τ).loc Cert.PoolOutIdeal.main_v2_0)) (v1 : (c : Dev Cert.PoolOutIdeal.nD) → Buf (Elt Ideal) ((c.tc : Thread Cert.PoolOutIdeal.nD Cert.PoolOutIdeal.τ).loc Cert.PoolOutIdeal.main_v2_1)),
      θ_run (Cert.PoolOutIdeal.defs (F := Ideal)) (onTc (τ := Cert.PoolOutIdeal.τ) (Cert.PoolOutIdeal.main (F := Ideal))) ⟨m, fun _ => 0, g⟩ (fun r => ∀ c : Dev Cert.PoolOutIdeal.nD,
          r.2.mem ((c.tc : Thread Cert.PoolOutIdeal.nD Cert.PoolOutIdeal.τ).loc Cert.PoolOutIdeal.main_v2_0) = v0 c
          ∧ r.2.mem ((c.tc : Thread Cert.PoolOutIdeal.nD Cert.PoolOutIdeal.τ).loc Cert.PoolOutIdeal.main_v2_1) = v1 c
          ∧ r.2.mem ((c.tc : Thread Cert.PoolOutIdeal.nD Cert.PoolOutIdeal.τ).loc Cert.PoolOutIdeal.main_arg0) = m ((c.tc : Thread Cert.PoolOutIdeal.nD Cert.PoolOutIdeal.τ).loc Cert.PoolOutIdeal.main_arg0)
          ∧ r.2.mem ((c.tc : Thread Cert.PoolOutIdeal.nD Cert.PoolOutIdeal.τ).loc Cert.PoolOutIdeal.main_arg1) = m ((c.tc : Thread Cert.PoolOutIdeal.nD Cert.PoolOutIdeal.τ).loc Cert.PoolOutIdeal.main_arg1)
          ∧ r.2.mem ((c.tc : Thread Cert.PoolOutIdeal.nD Cert.PoolOutIdeal.τ).loc Cert.PoolOutIdeal.main_arg2) = m ((c.tc : Thread Cert.PoolOutIdeal.nD Cert.PoolOutIdeal.τ).loc Cert.PoolOutIdeal.main_arg2)
          ∧ r.2.mem ((c.tc : Thread Cert.PoolOutIdeal.nD Cert.PoolOutIdeal.τ).loc Cert.PoolOutIdeal.main_arg3) = m ((c.tc : Thread Cert.PoolOutIdeal.nD Cert.PoolOutIdeal.τ).loc Cert.PoolOutIdeal.main_arg3)
          ∧ r.2.mem ((c.tc : Thread Cert.PoolOutIdeal.nD Cert.PoolOutIdeal.τ).loc Cert.PoolOutIdeal.main_arg4) = m ((c.tc : Thread Cert.PoolOutIdeal.nD Cert.PoolOutIdeal.τ).loc Cert.PoolOutIdeal.main_arg4))
      ∧ θ_run (Cert.PoolOutRefIdeal.defs (F := Ideal)) (onTc (τ := Cert.PoolOutRefIdeal.τ) (Cert.PoolOutRefIdeal.main (F := Ideal))) ⟨m', fun _ => 0, g'⟩ (fun r => ∀ c : Dev Cert.PoolOutRefIdeal.nD,
          r.2.mem ((c.tc : Thread Cert.PoolOutRefIdeal.nD Cert.PoolOutRefIdeal.τ).loc Cert.PoolOutRefIdeal.main_v8) = v0 c
          ∧ r.2.mem ((c.tc : Thread Cert.PoolOutRefIdeal.nD Cert.PoolOutRefIdeal.τ).loc Cert.PoolOutRefIdeal.main_v22) = v1 c
          ∧ r.2.mem ((c.tc : Thread Cert.PoolOutRefIdeal.nD Cert.PoolOutRefIdeal.τ).loc Cert.PoolOutRefIdeal.main_arg0) = m' ((c.tc : Thread Cert.PoolOutRefIdeal.nD Cert.PoolOutRefIdeal.τ).loc Cert.PoolOutRefIdeal.main_arg0)
          ∧ r.2.mem ((c.tc : Thread Cert.PoolOutRefIdeal.nD Cert.PoolOutRefIdeal.τ).loc Cert.PoolOutRefIdeal.main_arg1) = m' ((c.tc : Thread Cert.PoolOutRefIdeal.nD Cert.PoolOutRefIdeal.τ).loc Cert.PoolOutRefIdeal.main_arg1)
          ∧ r.2.mem ((c.tc : Thread Cert.PoolOutRefIdeal.nD Cert.PoolOutRefIdeal.τ).loc Cert.PoolOutRefIdeal.main_arg2) = m' ((c.tc : Thread Cert.PoolOutRefIdeal.nD Cert.PoolOutRefIdeal.τ).loc Cert.PoolOutRefIdeal.main_arg2)
          ∧ r.2.mem ((c.tc : Thread Cert.PoolOutRefIdeal.nD Cert.PoolOutRefIdeal.τ).loc Cert.PoolOutRefIdeal.main_arg3) = m' ((c.tc : Thread Cert.PoolOutRefIdeal.nD Cert.PoolOutRefIdeal.τ).loc Cert.PoolOutRefIdeal.main_arg3)
          ∧ r.2.mem ((c.tc : Thread Cert.PoolOutRefIdeal.nD Cert.PoolOutRefIdeal.τ).loc Cert.PoolOutRefIdeal.main_arg4) = m' ((c.tc : Thread Cert.PoolOutRefIdeal.nD Cert.PoolOutRefIdeal.τ).loc Cert.PoolOutRefIdeal.main_arg4))

def preserves_Combine_CombineIdeal : Prop :=
  True

def algebraic_CombineIdeal_CombineRefIdeal_pre_combine_slots [hCombineIdeal : Cert.CombineIdeal.Facts] [hCombineRefIdeal : Cert.CombineRefIdeal.Facts] [hPre_combine_slots : Cert.Pre_combine_slots.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal_combine_slots m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v1_0)) (v1 : (c : Dev Cert.CombineIdeal.nD) → Buf (Elt Ideal) ((c.tc : Thread Cert.CombineIdeal.nD Cert.CombineIdeal.τ).loc Cert.CombineIdeal.main_v1_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1_0) = v0 c
          ∧ r.2.mem ((c.tc : Thread Cert.CombineIdeal.nD Cert.CombineIdeal.τ).loc Cert.CombineIdeal.main_v1_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v29) = v0 c
          ∧ r.2.mem ((c.tc : Thread Cert.CombineRefIdeal.nD Cert.CombineRefIdeal.τ).loc Cert.CombineRefIdeal.main_v42) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_NormX_NormXIdeal : Prop :=
  True

def algebraic_NormXIdeal_NormXRefIdeal [hNormXIdeal : Cert.NormXIdeal.Facts] [hNormXRefIdeal : Cert.NormXRefIdeal.Facts] : Prop :=
  ∀ (m : (ℓ : Loc Cert.NormXIdeal.nD Cert.NormXIdeal.τ Cert.NormXIdeal.sig) → Buf (Elt Ideal) ℓ) (g : Dev Cert.NormXIdeal.nD → PrngReg)
    (m' : (ℓ : Loc Cert.NormXRefIdeal.nD Cert.NormXRefIdeal.τ Cert.NormXRefIdeal.sig) → Buf (Elt Ideal) ℓ) (g' : Dev Cert.NormXRefIdeal.nD → PrngReg), Pre_NormXIdeal m →
    (∀ c : Dev Cert.NormXIdeal.nD,
      m' ((c.tc : Thread Cert.NormXRefIdeal.nD Cert.NormXRefIdeal.τ).loc Cert.NormXRefIdeal.main_arg0) = m ((c.tc : Thread Cert.NormXIdeal.nD Cert.NormXIdeal.τ).loc Cert.NormXIdeal.main_arg0)
      ∧ m' ((c.tc : Thread Cert.NormXRefIdeal.nD Cert.NormXRefIdeal.τ).loc Cert.NormXRefIdeal.main_arg1) = m ((c.tc : Thread Cert.NormXIdeal.nD Cert.NormXIdeal.τ).loc Cert.NormXIdeal.main_arg1)) →
    ∃ (v0 : (c : Dev Cert.NormXIdeal.nD) → Buf (Elt Ideal) ((c.tc : Thread Cert.NormXIdeal.nD Cert.NormXIdeal.τ).loc Cert.NormXIdeal.main_v1)),
      θ_run (Cert.NormXIdeal.defs (F := Ideal)) (onTc (τ := Cert.NormXIdeal.τ) (Cert.NormXIdeal.main (F := Ideal))) ⟨m, fun _ => 0, g⟩ (fun r => ∀ c : Dev Cert.NormXIdeal.nD,
          r.2.mem ((c.tc : Thread Cert.NormXIdeal.nD Cert.NormXIdeal.τ).loc Cert.NormXIdeal.main_v1) = v0 c
          ∧ r.2.mem ((c.tc : Thread Cert.NormXIdeal.nD Cert.NormXIdeal.τ).loc Cert.NormXIdeal.main_arg0) = m ((c.tc : Thread Cert.NormXIdeal.nD Cert.NormXIdeal.τ).loc Cert.NormXIdeal.main_arg0)
          ∧ r.2.mem ((c.tc : Thread Cert.NormXIdeal.nD Cert.NormXIdeal.τ).loc Cert.NormXIdeal.main_arg1) = m ((c.tc : Thread Cert.NormXIdeal.nD Cert.NormXIdeal.τ).loc Cert.NormXIdeal.main_arg1))
      ∧ θ_run (Cert.NormXRefIdeal.defs (F := Ideal)) (onTc (τ := Cert.NormXRefIdeal.τ) (Cert.NormXRefIdeal.main (F := Ideal))) ⟨m', fun _ => 0, g'⟩ (fun r => ∀ c : Dev Cert.NormXRefIdeal.nD,
          r.2.mem ((c.tc : Thread Cert.NormXRefIdeal.nD Cert.NormXRefIdeal.τ).loc Cert.NormXRefIdeal.main_v13) = v0 c
          ∧ r.2.mem ((c.tc : Thread Cert.NormXRefIdeal.nD Cert.NormXRefIdeal.τ).loc Cert.NormXRefIdeal.main_arg0) = m' ((c.tc : Thread Cert.NormXRefIdeal.nD Cert.NormXRefIdeal.τ).loc Cert.NormXRefIdeal.main_arg0)
          ∧ r.2.mem ((c.tc : Thread Cert.NormXRefIdeal.nD Cert.NormXRefIdeal.τ).loc Cert.NormXRefIdeal.main_arg1) = m' ((c.tc : Thread Cert.NormXRefIdeal.nD Cert.NormXRefIdeal.τ).loc Cert.NormXRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v1)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v1) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v13) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_Fourier_FourierIdeal : Prop :=
  True

def algebraic_FourierIdeal_FourierRefIdeal [hFourierIdeal : Cert.FourierIdeal.Facts] [hFourierRefIdeal : Cert.FourierRefIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)
      ∧ m' ((c.tc : Thread Cert.FourierRefIdeal.nD Cert.FourierRefIdeal.τ).loc Cert.FourierRefIdeal.main_arg1) = m ((c.tc : Thread Cert.FourierIdeal.nD Cert.FourierIdeal.τ).loc Cert.FourierIdeal.main_arg1)) →
    ∃ (v0 : (c : Dev Cert.FourierIdeal.nD) → Buf (Elt Ideal) ((c.tc : Thread Cert.FourierIdeal.nD Cert.FourierIdeal.τ).loc Cert.FourierIdeal.main_v28)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v28) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v39) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0)
          ∧ r.2.mem ((c.tc : Thread Cert.FourierRefIdeal.nD Cert.FourierRefIdeal.τ).loc Cert.FourierRefIdeal.main_arg1) = m' ((c.tc : Thread Cert.FourierRefIdeal.nD Cert.FourierRefIdeal.τ).loc Cert.FourierRefIdeal.main_arg1))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v17) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v135) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMmQ : Cert.MmQ.Facts) (hMmQIdeal : Cert.MmQIdeal.Facts) (hMmQRefIdeal : Cert.MmQRefIdeal.Facts) (hMmKv : Cert.MmKv.Facts) (hMmKvIdeal : Cert.MmKvIdeal.Facts) (hMmKvRefIdeal : Cert.MmKvRefIdeal.Facts) (hOut : Cert.Out.Facts) (hOutIdeal : Cert.OutIdeal.Facts) (hOutRefIdeal : Cert.OutRefIdeal.Facts) (hCrossOut : Cert.CrossOut.Facts) (hCrossOutIdeal : Cert.CrossOutIdeal.Facts) (hCrossOutRefIdeal : Cert.CrossOutRefIdeal.Facts) (hCross : Cert.Cross.Facts) (hCrossIdeal : Cert.CrossIdeal.Facts) (hCrossRefIdeal : Cert.CrossRefIdeal.Facts) (hProj : Cert.Proj.Facts) (hProjIdeal : Cert.ProjIdeal.Facts) (hProjRefIdeal : Cert.ProjRefIdeal.Facts) (hPoolOut : Cert.PoolOut.Facts) (hPoolOutIdeal : Cert.PoolOutIdeal.Facts) (hPoolOutRefIdeal : Cert.PoolOutRefIdeal.Facts) (hCombine : Cert.Combine.Facts) (hCombineIdeal : Cert.CombineIdeal.Facts) (hCombineRefIdeal : Cert.CombineRefIdeal.Facts) (hNormX : Cert.NormX.Facts) (hNormXIdeal : Cert.NormXIdeal.Facts) (hNormXRefIdeal : Cert.NormXRefIdeal.Facts) (hNormMem : Cert.NormMem.Facts) (hNormMemIdeal : Cert.NormMemIdeal.Facts) (hNormMemRefIdeal : Cert.NormMemRefIdeal.Facts) (hFourier : Cert.Fourier.Facts) (hFourierIdeal : Cert.FourierIdeal.Facts) (hFourierRefIdeal : Cert.FourierRefIdeal.Facts) (hGather : Cert.Gather.Facts) (hGatherIdeal : Cert.GatherIdeal.Facts) (hGatherRefIdeal : Cert.GatherRefIdeal.Facts) (hPool : Cert.Pool.Facts) (hPoolIdeal : Cert.PoolIdeal.Facts) (hPoolRefIdeal : Cert.PoolRefIdeal.Facts) (hPre_attn_finite : Cert.Pre_attn_finite.Facts) (hPre_cross_out_finite : Cert.Pre_cross_out_finite.Facts) (hPre_cross_finite : Cert.Pre_cross_finite.Facts) (hPre_combine_slots : Cert.Pre_combine_slots.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Ffn (hFfn := hFfn)
    ∧ quiescent_FfnIdeal (hFfnIdeal := hFfnIdeal)
    ∧ quiescent_FfnRefIdeal (hFfnRefIdeal := hFfnRefIdeal)
    ∧ quiescent_MmQ (hMmQ := hMmQ)
    ∧ quiescent_MmQIdeal (hMmQIdeal := hMmQIdeal)
    ∧ quiescent_MmQRefIdeal (hMmQRefIdeal := hMmQRefIdeal)
    ∧ quiescent_MmKv (hMmKv := hMmKv)
    ∧ quiescent_MmKvIdeal (hMmKvIdeal := hMmKvIdeal)
    ∧ quiescent_MmKvRefIdeal (hMmKvRefIdeal := hMmKvRefIdeal)
    ∧ quiescent_Out (hOut := hOut)
    ∧ quiescent_OutIdeal (hOutIdeal := hOutIdeal)
    ∧ quiescent_OutRefIdeal (hOutRefIdeal := hOutRefIdeal)
    ∧ quiescent_CrossOut (hCrossOut := hCrossOut)
    ∧ quiescent_CrossOutIdeal (hCrossOutIdeal := hCrossOutIdeal)
    ∧ quiescent_CrossOutIdeal_pre_cross_out_finite (hCrossOutIdeal := hCrossOutIdeal) (hPre_cross_out_finite := hPre_cross_out_finite)
    ∧ quiescent_CrossOutRefIdeal (hCrossOutRefIdeal := hCrossOutRefIdeal)
    ∧ quiescent_CrossOutRefIdeal_pre_cross_out_finite (hCrossOutRefIdeal := hCrossOutRefIdeal) (hPre_cross_out_finite := hPre_cross_out_finite)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_Proj (hProj := hProj)
    ∧ quiescent_ProjIdeal (hProjIdeal := hProjIdeal)
    ∧ quiescent_ProjRefIdeal (hProjRefIdeal := hProjRefIdeal)
    ∧ quiescent_PoolOut (hPoolOut := hPoolOut)
    ∧ quiescent_PoolOutIdeal (hPoolOutIdeal := hPoolOutIdeal)
    ∧ quiescent_PoolOutRefIdeal (hPoolOutRefIdeal := hPoolOutRefIdeal)
    ∧ quiescent_Combine (hCombine := hCombine)
    ∧ quiescent_CombineIdeal (hCombineIdeal := hCombineIdeal)
    ∧ quiescent_CombineIdeal_pre_combine_slots (hCombineIdeal := hCombineIdeal) (hPre_combine_slots := hPre_combine_slots)
    ∧ quiescent_CombineRefIdeal (hCombineRefIdeal := hCombineRefIdeal)
    ∧ quiescent_CombineRefIdeal_pre_combine_slots (hCombineRefIdeal := hCombineRefIdeal) (hPre_combine_slots := hPre_combine_slots)
    ∧ quiescent_NormX (hNormX := hNormX)
    ∧ quiescent_NormXIdeal (hNormXIdeal := hNormXIdeal)
    ∧ quiescent_NormXRefIdeal (hNormXRefIdeal := hNormXRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_Fourier (hFourier := hFourier)
    ∧ quiescent_FourierIdeal (hFourierIdeal := hFourierIdeal)
    ∧ quiescent_FourierRefIdeal (hFourierRefIdeal := hFourierRefIdeal)
    ∧ quiescent_Gather (hGather := hGather)
    ∧ quiescent_GatherIdeal (hGatherIdeal := hGatherIdeal)
    ∧ quiescent_GatherRefIdeal (hGatherRefIdeal := hGatherRefIdeal)
    ∧ quiescent_Pool (hPool := hPool)
    ∧ quiescent_PoolIdeal (hPoolIdeal := hPoolIdeal)
    ∧ quiescent_PoolRefIdeal (hPoolRefIdeal := hPoolRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Ffn_FfnIdeal
    ∧ algebraic_FfnIdeal_FfnRefIdeal (hFfnIdeal := hFfnIdeal) (hFfnRefIdeal := hFfnRefIdeal)
    ∧ preserves_MmQ_MmQIdeal
    ∧ algebraic_MmQIdeal_MmQRefIdeal (hMmQIdeal := hMmQIdeal) (hMmQRefIdeal := hMmQRefIdeal)
    ∧ preserves_MmKv_MmKvIdeal
    ∧ algebraic_MmKvIdeal_MmKvRefIdeal (hMmKvIdeal := hMmKvIdeal) (hMmKvRefIdeal := hMmKvRefIdeal)
    ∧ preserves_Out_OutIdeal
    ∧ algebraic_OutIdeal_OutRefIdeal (hOutIdeal := hOutIdeal) (hOutRefIdeal := hOutRefIdeal)
    ∧ preserves_CrossOut_CrossOutIdeal
    ∧ algebraic_CrossOutIdeal_CrossOutRefIdeal_pre_cross_out_finite (hCrossOutIdeal := hCrossOutIdeal) (hCrossOutRefIdeal := hCrossOutRefIdeal) (hPre_cross_out_finite := hPre_cross_out_finite)
    ∧ preserves_Cross_CrossIdeal
    ∧ algebraic_CrossIdeal_CrossRefIdeal_pre_cross_finite (hCrossIdeal := hCrossIdeal) (hCrossRefIdeal := hCrossRefIdeal) (hPre_cross_finite := hPre_cross_finite)
    ∧ preserves_Proj_ProjIdeal
    ∧ algebraic_ProjIdeal_ProjRefIdeal (hProjIdeal := hProjIdeal) (hProjRefIdeal := hProjRefIdeal)
    ∧ preserves_PoolOut_PoolOutIdeal
    ∧ algebraic_PoolOutIdeal_PoolOutRefIdeal (hPoolOutIdeal := hPoolOutIdeal) (hPoolOutRefIdeal := hPoolOutRefIdeal)
    ∧ preserves_Combine_CombineIdeal
    ∧ algebraic_CombineIdeal_CombineRefIdeal_pre_combine_slots (hCombineIdeal := hCombineIdeal) (hCombineRefIdeal := hCombineRefIdeal) (hPre_combine_slots := hPre_combine_slots)
    ∧ preserves_NormX_NormXIdeal
    ∧ algebraic_NormXIdeal_NormXRefIdeal (hNormXIdeal := hNormXIdeal) (hNormXRefIdeal := hNormXRefIdeal)
    ∧ preserves_NormMem_NormMemIdeal
    ∧ algebraic_NormMemIdeal_NormMemRefIdeal (hNormMemIdeal := hNormMemIdeal) (hNormMemRefIdeal := hNormMemRefIdeal)
    ∧ preserves_Fourier_FourierIdeal
    ∧ algebraic_FourierIdeal_FourierRefIdeal (hFourierIdeal := hFourierIdeal) (hFourierRefIdeal := hFourierRefIdeal)
    ∧ preserves_Gather_GatherIdeal
    ∧ algebraic_GatherIdeal_GatherRefIdeal (hGatherIdeal := hGatherIdeal) (hGatherRefIdeal := hGatherRefIdeal)
    ∧ preserves_Pool_PoolIdeal
    ∧ algebraic_PoolIdeal_PoolRefIdeal (hPoolIdeal := hPoolIdeal) (hPoolRefIdeal := hPoolRefIdeal)
-- ==== Pre_attn_finite.lean ====
abbrev S8192x3072 : Shape := ⟨2, ![8192, 3072]⟩
abbrev S8192x2048 : Shape := ⟨2, ![8192, 2048]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x3072 .bf16) : IVec S_ 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  main_v5
-- ==== Pre_combine_slots.lean ====
abbrev S8192x2048 : Shape := ⟨2, ![8192, 2048]⟩
abbrev S16384x2048 : Shape := ⟨2, ![16384, 2048]⟩
abbrev S8192x128 : Shape := ⟨2, ![8192, 128]⟩
abbrev S2048 : Shape := ⟨1, ![2048]⟩
abbrev S8192x16 : Shape := ⟨2, ![8192, 16]⟩
abbrev S_ : Shape := ⟨0, ![]⟩

class Facts : Prop where
  slices_S8192x128_S8192x16_0_0 : S8192x128.Slices ![0, 0] S8192x16
  bcast_S_S8192x16 : S_.BroadcastsInDim S8192x16 (![] : Fin 0 → Fin S8192x16.rank)
  reducesTo_S8192x16_S_d0_1 : S8192x16.ReducesTo [0, 1] S_
  h_S_ : 0 < S_.numel

variable [Facts]

def fn {F : FTy → Type} [FloatOps F] (main_arg0 : FVec F S8192x2048 .f32) (main_arg1 : FVec F S16384x2048 .bf16) (main_arg2 : FVec F S8192x128 .f32) (main_arg3 : FVec F S8192x128 .f32) (main_arg4 : FVec F S2048 .f32) : IVec S_ 1 :=
  let main_v0 : FVec F S8192x16 .f32 := (extractStridedSlice S8192x16 ![0, 0] · slices_S8192x128_S8192x16_0_0) main_arg2
  let main_v1 : IVec S8192x16 32 := fptosi 32 main_v0
  let main_v2 : FVec F S8192x16 .f32 := sitofp .f32 main_v1
  let main_v3 : IVec S8192x16 1 := cmpf .oeq main_v0 main_v2
  let main_cst : FVec F S_ .f32 := constant S_ .f32 0x43800000#32
  let main_v4 : FVec F S8192x16 .f32 := broadcastInDim S8192x16 ![] bcast_S_S8192x16 main_cst
  let main_v5 : IVec S8192x16 1 := cmpf .olt main_v0 main_v4
  let main_v6 : IVec S8192x16 1 := andi main_v3 main_v5
  let main_c : IVec S_ 1 := constantI S_ 1 1#1
  let main_v7 : IVec S_ 1 := (fun x v => Host.reduce IntOp.andi x v reducesTo_S8192x16_S_d0_1 h_S_) main_v6 main_c
  main_v7
-- ==== Pre_cross_finite.lean ====
abbrev S8192x2048 : Shape := ⟨2, ![8192, 2048]⟩
abbrev S1024x2048 : Shape := ⟨2, ![1024, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S8192x2048 .bf16) (main_arg1 : FVec F S1024x2048 .bf16) (main_arg2 : FVec F S1024x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S1024x2048 .f32 := (extf .f32 · bitsLt_bf16_f32) main_arg1
  let main_v6 : FVec F S1024x2048 .f32 := Host.absf main_v5
  let main_cst_0 : FVec F S_ .f32 := constant S_ .f32 0x7F800000#32
  let main_v7 : FVec F S1024x2048 .f32 := broadcastInDim S1024x2048 ![] bcast_S_S1024x2048 main_cst_0
  let main_v8 : IVec S1024x2048 1 := cmpf .olt main_v6 main_v7
  let main_c_1 : IVec S_ 1 := constantI S_ 1 1#1
  let main_v9 : IVec S_ 1 := (fun x v => Host.reduce IntOp.andi x v reducesTo_S1024x2048_S_d0_1 h_S_) main_v8 main_c_1
  let main_v10 : IVec S_ 1 := andi main_v4 main_v9
  main_v10
-- ==== Pre_cross_out_finite.lean ====
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S8192x2048 .bf16) (main_arg1 : FVec F S2048x2048 .f32) (main_arg2 : FVec F S8192x2048 .f32) (main_arg3 : FVec F S2048 .f32) (main_arg4 : FVec F S2048x16 .f32) : IVec S_ 1 :=
  let main_v0 : FVec F S2048 .f32 := Host.absf main_arg3
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x16 .f32 := Host.absf main_arg4
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  main_v8
-- ==== Attn.lean ====
abbrev S8192x3072 : Shape := ⟨2, ![8192, 3072]⟩
abbrev S8192x1536 : Shape := ⟨2, ![8192, 1536]⟩
abbrev S256x384 : Shape := ⟨2, ![256, 384]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S8192x3072, .bf16⟩
  | .hbm, ⟨1, _⟩ => ⟨S8192x1536, .bf16⟩
  | .local _ .vmem, ⟨0, _⟩ => ⟨S256x384, .bf16⟩
  | .local _ .vmem, ⟨1, _⟩ => ⟨S256x384, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x384, .bf16⟩
  | .local _ .vmem, ⟨7, _⟩ => ⟨S256x384, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "inv_sqrt_d" => some (((Real.sqrt 128)⁻¹ : ℝ) : EReal)
  | _ => none
-- ==== AttnRefIdeal.lean ====
abbrev S8192x3072 : Shape := ⟨2, ![8192, 3072]⟩
abbrev S4x2048x3072 : Shape := ⟨3, ![4, 2048, 3072]⟩
abbrev S4x2048x1536 : Shape := ⟨3, ![4, 2048, 1536]⟩
abbrev S4x2048x512 : Shape := ⟨3, ![4, 2048, 512]⟩
abbrev S4x2048x4x3x128 : Shape := ⟨5, ![4, 2048, 4, 3, 128]⟩
abbrev S4x2048x4x128 : Shape := ⟨4, ![4, 2048, 4, 128]⟩
abbrev S4x4x2048x2048x3 : Shape := ⟨5, ![4, 4, 2048, 2048, 3]⟩
abbrev S4x4x3x2048x2048 : Shape := ⟨5, ![4, 4, 3, 2048, 2048]⟩
abbrev S_ : Shape := ⟨0, ![]⟩
abbrev S4x4x3x2048 : Shape := ⟨4, ![4, 4, 3, 2048]⟩
abbrev S4x4x3x2048x1 : Shape := ⟨5, ![4, 4, 3, 2048, 1]⟩
abbrev S4x4x128x3x2048 : Shape := ⟨5, ![4, 4, 128, 3, 2048]⟩
abbrev S8192x1536 : Shape := ⟨2, ![8192, 1536]⟩

abbrev nBuf : Space → Nat
  | .hbm => 34
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S4x2048x3072, .f32⟩
  | .hbm, ⟨3, _⟩ => ⟨S4x2048x1536, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x4x3x128, .f32⟩
  | .hbm, ⟨8, _⟩ => ⟨S4x2048x4x128, .f32⟩
  | .hbm, ⟨9, _⟩ => ⟨S4x2048x4x128, .f32⟩
  | .hbm, ⟨10, _⟩ => ⟨S4x4x2048x2048x3, .f32⟩
  | .hbm, ⟨11, _⟩ => ⟨S4x4x3x2048x2048, .f32⟩
  | .hbm, ⟨12, _⟩ => ⟨S_, .f32⟩
  | .hbm, ⟨13, _⟩ => ⟨S_, .f32⟩
  | .hbm, ⟨14, _⟩ => ⟨S4x4x3x2048x2048, .f32⟩
  | .hbm, ⟨15, _⟩ => ⟨S4x4x3x2048x2048, .f32⟩
  | .hbm, ⟨16, _⟩ => ⟨S_, .f32⟩
  | .hbm, ⟨17, _⟩ => ⟨S4x4x3x2048, .f32⟩
  | .hbm, ⟨18, _⟩ => ⟨S_, .f32⟩
  | .hbm, ⟨19, _⟩ => ⟨S4x4x3x2048, .f32⟩
  | .hbm, ⟨20, _⟩ => ⟨S4x4x3x2048, .f32⟩
  | .hbm, ⟨21, _⟩ => ⟨S4x4x3x2048x1, .f32⟩
  | .hbm, ⟨22, _⟩ => ⟨S4x4x3x2048x2048, .f32⟩
  | .hbm, ⟨23, _⟩ => ⟨S4x4x3x2048x2048, .f32⟩
  | .hbm, ⟨24, _⟩ => ⟨S4x4x3x2048x2048, .f32⟩
  | .hbm, ⟨25, _⟩ => ⟨S_, .f32⟩
  | .hbm, ⟨26, _⟩ => ⟨S4x4x3x2048, .f32⟩
  | .hbm, ⟨27, _⟩ => ⟨S4x4x3x2048x1, .f32⟩
  | .hbm, ⟨28, _⟩ => ⟨S4x4x3x2048x2048, .f32⟩
  | .hbm, ⟨29, _⟩ => ⟨S4x4x3x2048x2048, .f32⟩
  | .hbm, ⟨30, _⟩ => ⟨S4x4x128x3x2048, .f32⟩
  | .hbm, ⟨31, _⟩ => ⟨S4x2048x4x3x128, .f32⟩
  | .hbm, ⟨32, _⟩ => ⟨S8192x1536, .f32⟩
  | .hbm, ⟨33, _⟩ => ⟨S8192x1536, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Ffn.lean ====
abbrev S16384x2048 : Shape := ⟨2, ![16384, 2048]⟩
abbrev S16x2048x1024 : Shape := ⟨3, ![16, 2048, 1024]⟩
abbrev S16x1024x2048 : Shape := ⟨3, ![16, 1024, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 5
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S16384x2048 : Shape := ⟨2, ![16384, 2048]⟩
abbrev S16x2048x1024 : Shape := ⟨3, ![16, 2048, 1024]⟩
abbrev S16x1024x2048 : Shape := ⟨3, ![16, 1024, 2048]⟩
abbrev S16x4x256x2048 : Shape := ⟨4, ![16, 4, 256, 2048]⟩
abbrev S16x4x256x1024 : Shape := ⟨4, ![16, 4, 256, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S16384x2048, .f32⟩
  | .hbm, ⟨5, _⟩ => ⟨S16x4x256x2048, .f32⟩
  | .hbm, ⟨6, _⟩ => ⟨S16x4x256x1024, .f32⟩
  | .hbm, ⟨7, _⟩ => ⟨S16x4x256x1024, .f32⟩
  | .hbm, ⟨8, _⟩ => ⟨S16x4x256x1024, .f32⟩
  | .hbm, ⟨9, _⟩ => ⟨S16x4x256x1024, .f32⟩
  | .hbm, ⟨10, _⟩ => ⟨S_, .f32⟩
  | .hbm, ⟨11, _⟩ => ⟨S16x4x256x1024, .f32⟩
  | .hbm, ⟨12, _⟩ => ⟨S16x4x256x1024, .f32⟩
  | .hbm, ⟨13, _⟩ => ⟨S_, .f32⟩
  | .hbm, ⟨14, _⟩ => ⟨S16x4x256x1024, .f32⟩
  | .hbm, ⟨15, _⟩ => ⟨S16x4x256x1024, .f32⟩
  | .hbm, ⟨16, _⟩ => ⟨S16x4x256x1024, .f32⟩
  | .hbm, ⟨17, _⟩ => ⟨S16x4x256x1024, .f32⟩
  | .hbm, ⟨18, _⟩ => ⟨S16x4x256x2048, .f32⟩
  | .hbm, ⟨19, _⟩ => ⟨S16384x2048, .f32⟩
  | .hbm, ⟨20, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== MmQ.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmQIdeal.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmQRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmKv.lean ====
abbrev S1024x2048 : Shape := ⟨2, ![1024, 2048]⟩
abbrev S2048x2048 : Shape := ⟨2, ![2048, 2048]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .f32⟩
  | .hbm, ⟨2, _⟩ => ⟨S1024x2048, .bf16⟩
  | .local _ .vmem, ⟨0, _⟩ => ⟨S1024x2048, .bf16⟩
  | .local _ .vmem, ⟨1, _⟩ => ⟨S2048x512, .f32⟩
  | .local _ .vmem, ⟨2, _⟩ => ⟨S2048x512, .f32⟩
  | .local _ .vmem, ⟨3, _⟩ => ⟨S1024x512, .bf16⟩
  | .local _ .vmem, ⟨4, _⟩ => ⟨S1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmKvRefIdeal.lean ====
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .f32⟩
  | .hbm, ⟨2, _⟩ => ⟨S1024x2048, .f32⟩
  | .hbm, ⟨3, _⟩ => ⟨S1024x2048, .f32⟩
  | .hbm, ⟨4, _⟩ => ⟨S1024x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x1536 : Shape := ⟨2, ![8192, 1536]⟩
abbrev S8192x512 : Shape := ⟨2, ![8192, 512]⟩
abbrev S2048x2048 : Shape := ⟨2, ![2048, 2048]⟩
abbrev S8192x2048 : Shape := ⟨2, ![8192, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32_6 : BitVec 32 := 3#32
  let v15 : BitVec 1 := Scalar.cmpi .eq arg1 c3_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutRefIdeal.lean ====
abbrev S8192x1536 : Shape := ⟨2, ![8192, 1536]⟩
abbrev S8192x512 : Shape := ⟨2, ![8192, 512]⟩
abbrev S2048x2048 : Shape := ⟨2, ![2048, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S2048x2048, .f32⟩
  | .hbm, ⟨3, _⟩ => ⟨S8192x2048, .f32⟩
  | .hbm, ⟨4, _⟩ => ⟨S2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== CrossOut.lean ====
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8192x128 : Shape := ⟨2, ![8192, 128]⟩
abbrev S512x512 : Shape := ⟨2, ![512, 512]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x16, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S2048x128, .f32⟩
  | .hbm, ⟨10, _⟩ => ⟨S2048x128, .f32⟩
  | .hbm, ⟨11, _⟩ => ⟨S2048x128, .bf16⟩
  | .hbm, ⟨12, _⟩ => ⟨S1x2048, .f32⟩
  | .hbm, ⟨13, _⟩ => ⟨S8192x2048, .f32⟩
  | .hbm, ⟨14, _⟩ => ⟨S8192x2048, .bf16⟩
  | .hbm, ⟨15, _⟩ => ⟨S8192x128, .f32⟩
  | .local _ .vmem, ⟨0, _⟩ => ⟨S512x512, .bf16⟩
  | .local _ .vmem, ⟨1, _⟩ => ⟨S512x512, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x128, .bf16⟩
  | .local _ .vmem, ⟨8, _⟩ => ⟨S2048x128, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x128, .f32⟩
  | .local _ .vmem, ⟨14, _⟩ => ⟨S512x128, .f32⟩
  | .local _ .vmem, ⟨15, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== CrossOutRefIdeal.lean ====
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16 : Shape := ⟨2, ![8192, 16]⟩
abbrev S8192x128 : Shape := ⟨2, ![8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x16, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x16, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x16, .f32⟩
  | .hbm, ⟨38, _⟩ => ⟨S8192x16, .f32⟩
  | .hbm, ⟨39, _⟩ => ⟨S8192x2048, .bf16⟩
  | .hbm, ⟨40, _⟩ => ⟨S_, .i32⟩
  | .hbm, ⟨41, _⟩ => ⟨S_, .f32⟩
  | .hbm, ⟨42, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Cross.lean ====
abbrev S8192x2048 : Shape := ⟨2, ![8192, 2048]⟩
abbrev S1024x2048 : Shape := ⟨2, ![1024, 2048]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S1024x2048, .bf16⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S512x2048, .bf16⟩
  | .local _ .vmem, ⟨7, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CrossIdeal.lean ====
variable {F : FTy → Type} [FloatOps F] [Named F]
def κ : String → Option EReal := fun
  | "inv_sqrt_m" => some (((Real.sqrt 512)⁻¹ : ℝ) : EReal)
  | _ => none
-- ==== CrossRefIdeal.lean ====
abbrev S8192x2048 : Shape := ⟨2, ![8192, 2048]⟩
abbrev S1024x2048 : Shape := ⟨2, ![1024, 2048]⟩
abbrev S4x2048x4x512 : Shape := ⟨4, ![4, 2048, 4, 512]⟩
abbrev S4x256x4x512 : Shape := ⟨4, ![4, 256, 4, 512]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x512x2048 : Shape := ⟨4, ![4, 4, 512, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S1024x2048, .bf16⟩
  | .hbm, ⟨3, _⟩ => ⟨S8192x2048, .f32⟩
  | .hbm, ⟨4, _⟩ => ⟨S4x2048x4x512, .f32⟩
  | .hbm, ⟨5, _⟩ => ⟨S1024x2048, .f32⟩
  | .hbm, ⟨6, _⟩ => ⟨S4x256x4x512, .f32⟩
  | .hbm, ⟨7, _⟩ => ⟨S1024x2048, .f32⟩
  | .hbm, ⟨8, _⟩ => ⟨S4x256x4x512, .f32⟩
  | .hbm, ⟨9, _⟩ => ⟨S4x4x2048x256, .f32⟩
  | .hbm, ⟨10, _⟩ => ⟨S_, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x512x2048, .f32⟩
  | .hbm, ⟨29, _⟩ => ⟨S4x2048x4x512, .f32⟩
  | .hbm, ⟨30, _⟩ => ⟨S8192x2048, .f32⟩
  | .hbm, ⟨31, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proj.lean ====
abbrev S8192x2048 : Shape := ⟨2, ![8192, 2048]⟩
abbrev S2048x3072 : Shape := ⟨2, ![2048, 3072]⟩
abbrev S128 : Shape := ⟨1, ![128]⟩
abbrev S2048x64 : Shape := ⟨2, ![2048, 64]⟩
abbrev S1x128 : Shape := ⟨2, ![1, 128]⟩
abbrev S12x128 : Shape := ⟨2, ![12, 128]⟩
abbrev S1536 : Shape := ⟨1, ![1536]⟩
abbrev S4x128 : Shape := ⟨2, ![4, 128]⟩
abbrev S512 : Shape := ⟨1, ![512]⟩
abbrev S_ : Shape := ⟨0, ![]⟩
abbrev S1024 : Shape := ⟨1, ![1024]⟩
abbrev S3072 : Shape := ⟨1, ![3072]⟩
abbrev S1x3072 : Shape := ⟨2, ![1, 3072]⟩
abbrev S2048x64x1 : Shape := ⟨3, ![2048, 64, 1]⟩
abbrev S2048x64x2 : Shape := ⟨3, ![2048, 64, 2]⟩
abbrev S2048x128 : Shape := ⟨2, ![2048, 128]⟩
abbrev S1x2048x1x128 : Shape := ⟨4, ![1, 2048, 1, 128]⟩
abbrev S1x2048x4x128 : Shape := ⟨4, ![1, 2048, 4, 128]⟩
abbrev S2048x512 : Shape := ⟨2, ![2048, 512]⟩
abbrev S8192x3072 : Shape := ⟨2, ![8192, 3072]⟩
abbrev S512x2048 : Shape := ⟨2, ![512, 2048]⟩
abbrev S1x512 : Shape := ⟨2, ![1, 512]⟩
abbrev S512x512 : Shape := ⟨2, ![512, 512]⟩
abbrev S512x128 : Shape := ⟨2, ![512, 128]⟩
abbrev S512x1 : Shape := ⟨2, ![512, 1]⟩

abbrev nBuf : Space → Nat
  | .hbm => 41
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S128, .f32⟩
  | .hbm, ⟨3, _⟩ => ⟨S128, .f32⟩
  | .hbm, ⟨4, _⟩ => ⟨S2048x64, .f32⟩
  | .hbm, ⟨5, _⟩ => ⟨S2048x64, .f32⟩
  | .hbm, ⟨6, _⟩ => ⟨S1x128, .f32⟩
  | .hbm, ⟨7, _⟩ => ⟨S12x128, .f32⟩
  | .hbm, ⟨8, _⟩ => ⟨S1536, .f32⟩
  | .hbm, ⟨9, _⟩ => ⟨S1x128, .f32⟩
  | .hbm, ⟨10, _⟩ => ⟨S4x128, .f32⟩
  | .hbm, ⟨11, _⟩ => ⟨S512, .f32⟩
  | .hbm, ⟨12, _⟩ => ⟨S_, .f32⟩
  | .hbm, ⟨13, _⟩ => ⟨S1024, .f32⟩
  | .hbm, ⟨14, _⟩ => ⟨S3072, .f32⟩
  | .hbm, ⟨15, _⟩ => ⟨S1x3072, .f32⟩
  | .hbm, ⟨16, _⟩ => ⟨S_, .f32⟩
  | .hbm, ⟨17, _⟩ => ⟨S2048x64, .f32⟩
  | .hbm, ⟨18, _⟩ => ⟨S2048x64x1, .f32⟩
  | .hbm, ⟨19, _⟩ => ⟨S2048x64x1, .f32⟩
  | .hbm, ⟨20, _⟩ => ⟨S2048x64x2, .f32⟩
  | .hbm, ⟨21, _⟩ => ⟨S2048x128, .f32⟩
  | .hbm, ⟨22, _⟩ => ⟨S2048x64, .f32⟩
  | .hbm, ⟨23, _⟩ => ⟨S2048x64x1, .f32⟩
  | .hbm, ⟨24, _⟩ => ⟨S2048x64x1, .f32⟩
  | .hbm, ⟨25, _⟩ => ⟨S2048x64x2, .f32⟩
  | .hbm, ⟨26, _⟩ => ⟨S2048x128, .f32⟩
  | .hbm, ⟨27, _⟩ => ⟨S2048x64x1, .f32⟩
  | .hbm, ⟨28, _⟩ => ⟨S2048x64x1, .f32⟩
  | .hbm, ⟨29, _⟩ => ⟨S2048x64x2, .f32⟩
  | .hbm, ⟨30, _⟩ => ⟨S2048x128, .f32⟩
  | .hbm, ⟨31, _⟩ => ⟨S1x2048x1x128, .f32⟩
  | .hbm, ⟨32, _⟩ => ⟨S1x2048x4x128, .f32⟩
  | .hbm, ⟨33, _⟩ => ⟨S2048x512, .f32⟩
  | .hbm, ⟨34, _⟩ => ⟨S1x2048x1x128, .f32⟩
  | .hbm, ⟨35, _⟩ => ⟨S1x2048x4x128, .f32⟩
  | .hbm, ⟨36, _⟩ => ⟨S2048x512, .f32⟩
  | .hbm, ⟨37, _⟩ => ⟨S1x2048x1x128, .f32⟩
  | .hbm, ⟨38, _⟩ => ⟨S1x2048x4x128, .f32⟩
  | .hbm, ⟨39, _⟩ => ⟨S2048x512, .f32⟩
  | .hbm, ⟨40, _⟩ => ⟨S8192x3072, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c4_i32 : BitVec 32 := 4#32
  let v4 : BitVec 1 := Scalar.cmpi .slt arg1 c4_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c4_i32_3 : BitVec 32 := 4#32
  let v7 : BitVec 1 := Scalar.cmpi .sge arg1 c4_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjRefIdeal.lean ====
abbrev S8192x2048 : Shape := ⟨2, ![8192, 2048]⟩
abbrev S2048x3072 : Shape := ⟨2, ![2048, 3072]⟩
abbrev S128 : Shape := ⟨1, ![128]⟩
abbrev S2048x64 : Shape := ⟨2, ![2048, 64]⟩
abbrev S8192x3072 : Shape := ⟨2, ![8192, 3072]⟩
abbrev S4x2048x3072 : Shape := ⟨3, ![4, 2048, 3072]⟩
abbrev S4x2048x1536 : Shape := ⟨3, ![4, 2048, 1536]⟩
abbrev S4x2048x512 : Shape := ⟨3, ![4, 2048, 512]⟩
abbrev S4x2048x1024 : Shape := ⟨3, ![4, 2048, 1024]⟩
abbrev S4x2048x12x128 : Shape := ⟨4, ![4, 2048, 12, 128]⟩
abbrev S_ : Shape := ⟨0, ![]⟩
abbrev S4x2048x12 : Shape := ⟨3, ![4, 2048, 12]⟩
abbrev S4x2048x12x1 : Shape := ⟨4, ![4, 2048, 12, 1]⟩
abbrev S1x1x1x128 : Shape := ⟨4, ![1, 1, 1, 128]⟩
abbrev S4x2048x12x64 : Shape := ⟨4, ![4, 2048, 12, 64]⟩
abbrev S1x2048x1x64 : Shape := ⟨4, ![1, 2048, 1, 64]⟩
abbrev S4x2048x12x64x1 : Shape := ⟨5, ![4, 2048, 12, 64, 1]⟩
abbrev S4x2048x12x64x2 : Shape := ⟨5, ![4, 2048, 12, 64, 2]⟩
abbrev S4x2048x4x128 : Shape := ⟨4, ![4, 2048, 4, 128]⟩
abbrev S4x2048x4 : Shape := ⟨3, ![4, 2048, 4]⟩
abbrev S4x2048x4x1 : Shape := ⟨4, ![4, 2048, 4, 1]⟩
abbrev S4x2048x4x64 : Shape := ⟨4, ![4, 2048, 4, 64]⟩
abbrev S4x2048x4x64x1 : Shape := ⟨5, ![4, 2048, 4, 64, 1]⟩
abbrev S4x2048x4x64x2 : Shape := ⟨5, ![4, 2048, 4, 64, 2]⟩

abbrev nBuf : Space → Nat
  | .hbm => 87
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S128, .f32⟩
  | .hbm, ⟨3, _⟩ => ⟨S128, .f32⟩
  | .hbm, ⟨4, _⟩ => ⟨S2048x64, .f32⟩
  | .hbm, ⟨5, _⟩ => ⟨S2048x64, .f32⟩
  | .hbm, ⟨6, _⟩ => ⟨S8192x2048, .f32⟩
  | .hbm, ⟨7, _⟩ => ⟨S8192x3072, .f32⟩
  | .hbm, ⟨8, _⟩ => ⟨S4x2048x3072, .f32⟩
  | .hbm, ⟨9, _⟩ => ⟨S4x2048x1536, .f32⟩
  | .hbm, ⟨10, _⟩ => ⟨S4x2048x512, .f32⟩
  | .hbm, ⟨11, _⟩ => ⟨S4x2048x1024, .f32⟩
  | .hbm, ⟨12, _⟩ => ⟨S4x2048x12x128, .f32⟩
  | .hbm, ⟨13, _⟩ => ⟨S4x2048x12x128, .f32⟩
  | .hbm, ⟨14, _⟩ => ⟨S_, .f32⟩
  | .hbm, ⟨15, _⟩ => ⟨S4x2048x12, .f32⟩
  | .hbm, ⟨16, _⟩ => ⟨S4x2048x12x1, .f32⟩
  | .hbm, ⟨17, _⟩ => ⟨S_, .f32⟩
  | .hbm, ⟨18, _⟩ => ⟨S4x2048x12x1, .f32⟩
  | .hbm, ⟨19, _⟩ => ⟨S4x2048x12x1, .f32⟩
  | .hbm, ⟨20, _⟩ => ⟨S_, .f32⟩
  | .hbm, ⟨21, _⟩ => ⟨S4x2048x12x1, .f32⟩
  | .hbm, ⟨22, _⟩ => ⟨S4x2048x12x1, .f32⟩
  | .hbm, ⟨23, _⟩ => ⟨S4x2048x12x1, .f32⟩
  | .hbm, ⟨24, _⟩ => ⟨S4x2048x12x128, .f32⟩
  | .hbm, ⟨25, _⟩ => ⟨S4x2048x12x128, .f32⟩
  | .hbm, ⟨26, _⟩ => ⟨S1x1x1x128, .f32⟩
  | .hbm, ⟨27, _⟩ => ⟨S4x2048x12x128, .f32⟩
  | .hbm, ⟨28, _⟩ => ⟨S4x2048x12x128, .f32⟩
  | .hbm, ⟨29, _⟩ => ⟨S4x2048x12x64, .f32⟩
  | .hbm, ⟨30, _⟩ => ⟨S4x2048x12x64, .f32⟩
  | .hbm, ⟨31, _⟩ => ⟨S1x2048x1x64, .f32⟩
  | .hbm, ⟨32, _⟩ => ⟨S1x2048x1x64, .f32⟩
  | .hbm, ⟨33, _⟩ => ⟨S4x2048x12x64, .f32⟩
  | .hbm, ⟨34, _⟩ => ⟨S4x2048x12x64, .f32⟩
  | .hbm, ⟨35, _⟩ => ⟨S4x2048x12x64, .f32⟩
  | .hbm, ⟨36, _⟩ => ⟨S4x2048x12x64, .f32⟩
  | .hbm, ⟨37, _⟩ => ⟨S4x2048x12x64, .f32⟩
  | .hbm, ⟨38, _⟩ => ⟨S4x2048x12x64, .f32⟩
  | .hbm, ⟨39, _⟩ => ⟨S4x2048x12x64, .f32⟩
  | .hbm, ⟨40, _⟩ => ⟨S4x2048x12x64, .f32⟩
  | .hbm, ⟨41, _⟩ => ⟨S4x2048x12x64, .f32⟩
  | .hbm, ⟨42, _⟩ => ⟨S4x2048x12x64, .f32⟩
  | .hbm, ⟨43, _⟩ => ⟨S4x2048x12x64x1, .f32⟩
  | .hbm, ⟨44, _⟩ => ⟨S4x2048x12x64x1, .f32⟩
  | .hbm, ⟨45, _⟩ => ⟨S4x2048x12x64x2, .f32⟩
  | .hbm, ⟨46, _⟩ => ⟨S4x2048x12x128, .f32⟩
  | .hbm, ⟨47, _⟩ => ⟨S4x2048x1536, .f32⟩
  | .hbm, ⟨48, _⟩ => ⟨S4x2048x4x128, .f32⟩
  | .hbm, ⟨49, _⟩ => ⟨S4x2048x4x128, .f32⟩
  | .hbm, ⟨50, _⟩ => ⟨S_, .f32⟩
  | .hbm, ⟨51, _⟩ => ⟨S4x2048x4, .f32⟩
  | .hbm, ⟨52, _⟩ => ⟨S4x2048x4x1, .f32⟩
  | .hbm, ⟨53, _⟩ => ⟨S_, .f32⟩
  | .hbm, ⟨54, _⟩ => ⟨S4x2048x4x1, .f32⟩
  | .hbm, ⟨55, _⟩ => ⟨S4x2048x4x1, .f32⟩
  | .hbm, ⟨56, _⟩ => ⟨S_, .f32⟩
  | .hbm, ⟨57, _⟩ => ⟨S4x2048x4x1, .f32⟩
  | .hbm, ⟨58, _⟩ => ⟨S4x2048x4x1, .f32⟩
  | .hbm, ⟨59, _⟩ => ⟨S4x2048x4x1, .f32⟩
  | .hbm, ⟨60, _⟩ => ⟨S4x2048x4x128, .f32⟩
  | .hbm, ⟨61, _⟩ => ⟨S4x2048x4x128, .f32⟩
  | .hbm, ⟨62, _⟩ => ⟨S1x1x1x128, .f32⟩
  | .hbm, ⟨63, _⟩ => ⟨S4x2048x4x128, .f32⟩
  | .hbm, ⟨64, _⟩ => ⟨S4x2048x4x128, .f32⟩
  | .hbm, ⟨65, _⟩ => ⟨S4x2048x4x64, .f32⟩
  | .hbm, ⟨66, _⟩ => ⟨S4x2048x4x64, .f32⟩
  | .hbm, ⟨67, _⟩ => ⟨S1x2048x1x64, .f32⟩
  | .hbm, ⟨68, _⟩ => ⟨S1x2048x1x64, .f32⟩
  | .hbm, ⟨69, _⟩ => ⟨S4x2048x4x64, .f32⟩
  | .hbm, ⟨70, _⟩ => ⟨S4x2048x4x64, .f32⟩
  | .hbm, ⟨71, _⟩ => ⟨S4x2048x4x64, .f32⟩
  | .hbm, ⟨72, _⟩ => ⟨S4x2048x4x64, .f32⟩
  | .hbm, ⟨73, _⟩ => ⟨S4x2048x4x64, .f32⟩
  | .hbm, ⟨74, _⟩ => ⟨S4x2048x4x64, .f32⟩
  | .hbm, ⟨75, _⟩ => ⟨S4x2048x4x64, .f32⟩
  | .hbm, ⟨76, _⟩ => ⟨S4x2048x4x64, .f32⟩
  | .hbm, ⟨77, _⟩ => ⟨S4x2048x4x64, .f32⟩
  | .hbm, ⟨78, _⟩ => ⟨S4x2048x4x64, .f32⟩
  | .hbm, ⟨79, _⟩ => ⟨S4x2048x4x64x1, .f32⟩
  | .hbm, ⟨80, _⟩ => ⟨S4x2048x4x64x1, .f32⟩
  | .hbm, ⟨81, _⟩ => ⟨S4x2048x4x64x2, .f32⟩
  | .hbm, ⟨82, _⟩ => ⟨S4x2048x4x128, .f32⟩
  | .hbm, ⟨83, _⟩ => ⟨S4x2048x512, .f32⟩
  | .hbm, ⟨84, _⟩ => ⟨S4x2048x3072, .f32⟩
  | .hbm, ⟨85, _⟩ => ⟨S8192x3072, .f32⟩
  | .hbm, ⟨86, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩

abbrev nD : Nat := 1
abbrev τ : Topo := Topo.v7x

variable {F : FTy → Type} [FloatOps F]
-- ==== PoolOut.lean ====
abbrev S8192x2048 : Shape := ⟨2, ![8192, 2048]⟩
abbrev S4x512x512 : Shape := ⟨3, ![4, 512, 512]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x512, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolOutRefIdeal.lean ====
abbrev S8192x2048 : Shape := ⟨2, ![8192, 2048]⟩
abbrev S4x512x512 : Shape := ⟨3, ![4, 512, 512]⟩
abbrev S2048 : Shape := ⟨1, ![2048]⟩
abbrev S4x2048x4x512 : Shape := ⟨4, ![4, 2048, 4, 512]⟩
abbrev S4x512x4x2048 : Shape := ⟨4, ![4, 512, 4, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x512, .f32⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S4x2048x4x512, .f32⟩
  | .hbm, ⟨7, _⟩ => ⟨S4x512x4x2048, .f32⟩
  | .hbm, ⟨8, _⟩ => ⟨S4x2048x4x512, .f32⟩
  | .hbm, ⟨9, _⟩ => ⟨S8192x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Combine.lean ====
abbrev S8192x2048 : Shape := ⟨2, ![8192, 2048]⟩
abbrev S16384x2048 : Shape := ⟨2, ![16384, 2048]⟩
abbrev S8192x128 : Shape := ⟨2, ![8192, 128]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S16384x2048, .bf16⟩
  | .hbm, ⟨2, _⟩ => ⟨S8192x128, .f32⟩
  | .hbm, ⟨3, _⟩ => ⟨S8192x128, .f32⟩
  | .hbm, ⟨4, _⟩ => ⟨S2048, .f32⟩
  | .hbm, ⟨5, _⟩ => ⟨S1x2048, .f32⟩
  | .hbm, ⟨6, _⟩ => ⟨S8192x2048, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S256x2048, .bf16⟩
  | .local _ .vmem, ⟨3, _⟩ => ⟨S256x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v31 : BitVec 1 := Scalar.cmpi .eq arg2 c15_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== CombineRefIdeal.lean ====
abbrev S8192x2048 : Shape := ⟨2, ![8192, 2048]⟩
abbrev S16384x2048 : Shape := ⟨2, ![16384, 2048]⟩
abbrev S8192x128 : Shape := ⟨2, ![8192, 128]⟩
abbrev S2048 : Shape := ⟨1, ![2048]⟩
abbrev S8192x16 : Shape := ⟨2, ![8192, 16]⟩
abbrev S16 : Shape := ⟨1, ![16]⟩
abbrev S1x16 : Shape := ⟨2, ![1, 16]⟩
abbrev S8192 : Shape := ⟨1, ![8192]⟩
abbrev S_ : Shape := ⟨0, ![]⟩
abbrev S8192x1 : Shape := ⟨2, ![8192, 1]⟩
abbrev S8192x16x1 : Shape := ⟨3, ![8192, 16, 1]⟩
abbrev S8192x16x2048 : Shape := ⟨3, ![8192, 16, 2048]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16384x2048, .bf16⟩
  | .hbm, ⟨2, _⟩ => ⟨S8192x128, .f32⟩
  | .hbm, ⟨3, _⟩ => ⟨S8192x128, .f32⟩
  | .hbm, ⟨4, _⟩ => ⟨S2048, .f32⟩
  | .hbm, ⟨5, _⟩ => ⟨S8192x16, .f32⟩
  | .hbm, ⟨6, _⟩ => ⟨S8192x16, .i32⟩
  | .hbm, ⟨7, _⟩ => ⟨S16, .i32⟩
  | .hbm, ⟨8, _⟩ => ⟨S1x16, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S_, .i32⟩
  | .hbm, ⟨15, _⟩ => ⟨S1x16, .i32⟩
  | .hbm, ⟨16, _⟩ => ⟨S1x16, .i32⟩
  | .hbm, ⟨17, _⟩ => ⟨S8192x16, .i32⟩
  | .hbm, ⟨18, _⟩ => ⟨S8192x16, .i32⟩
  | .hbm, ⟨19, _⟩ => ⟨S8192x16, .i32⟩
  | .hbm, ⟨20, _⟩ => ⟨S_, .i32⟩
  | .hbm, ⟨21, _⟩ => ⟨S8192x16, .i32⟩
  | .hbm, ⟨22, _⟩ => ⟨S8192x16, .i32⟩
  | .hbm, ⟨23, _⟩ => ⟨S_, .i32⟩
  | .hbm, ⟨24, _⟩ => ⟨S8192x16, .i32⟩
  | .hbm, ⟨25, _⟩ => ⟨S8192x16, .i32⟩
  | .hbm, ⟨26, _⟩ => ⟨S8192x16, .i32⟩
  | .hbm, ⟨27, _⟩ => ⟨S8192x16x1, .i32⟩
  | .hbm, ⟨28, _⟩ => ⟨S8192x16x2048, .bf16⟩
  | .hbm, ⟨29, _⟩ => ⟨S8192x16x2048, .f32⟩
  | .hbm, ⟨30, _⟩ => ⟨S_, .i32⟩
  | .hbm, ⟨31, _⟩ => ⟨S8192x16, .i32⟩
  | .hbm, ⟨32, _⟩ => ⟨S8192x16, .i1⟩
  | .hbm, ⟨33, _⟩ => ⟨S8192x16, .f32⟩
  | .hbm, ⟨34, _⟩ => ⟨S_, .f32⟩
  | .hbm, ⟨35, _⟩ => ⟨S_, .f32⟩
  | .hbm, ⟨36, _⟩ => ⟨S8192x16, .f32⟩
  | .hbm, ⟨37, _⟩ => ⟨S8192x16, .f32⟩
  | .hbm, ⟨38, _⟩ => ⟨S8192x16x1, .f32⟩
  | .hbm, ⟨39, _⟩ => ⟨S8192x16x2048, .f32⟩
  | .hbm, ⟨40, _⟩ => ⟨S8192x16x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== NormX.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormXIdeal.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormXRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMem.lean ====
abbrev S1024x2048 : Shape := ⟨2, ![1024, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x2048, .f32⟩
  | .hbm, ⟨3, _⟩ => ⟨S1024x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMemRefIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1024x2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x2048, .f32⟩
  | .hbm, ⟨14, _⟩ => ⟨S1024x2048, .f32⟩
  | .hbm, ⟨15, _⟩ => ⟨S1x2048, .f32⟩
  | .hbm, ⟨16, _⟩ => ⟨S1024x2048, .f32⟩
  | .hbm, ⟨17, _⟩ => ⟨S1024x2048, .f32⟩
  | .hbm, ⟨18, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Fourier.lean ====
abbrev S8192x3072 : Shape := ⟨2, ![8192, 3072]⟩
abbrev S4x128x128 : Shape := ⟨3, ![4, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8192x512 : Shape := ⟨2, ![8192, 512]⟩
abbrev S2048x512 : Shape := ⟨2, ![2048, 512]⟩
abbrev S512x2048 : Shape := ⟨2, ![512, 2048]⟩
abbrev S512x512 : Shape := ⟨2, ![512, 512]⟩
abbrev S4096x512 : Shape := ⟨2, ![4096, 512]⟩
abbrev S2048x128 : Shape := ⟨2, ![2048, 128]⟩
abbrev S512x128 : Shape := ⟨2, ![512, 128]⟩
abbrev S1x128x128 : Shape := ⟨3, ![1, 128, 128]⟩

abbrev nBuf : Space → Nat
  | .hbm => 75
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S4x128x128, .f32⟩
  | .hbm, ⟨2, _⟩ => ⟨S128, .i32⟩
  | .hbm, ⟨3, _⟩ => ⟨S128x1, .i32⟩
  | .hbm, ⟨4, _⟩ => ⟨S1x128, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S128x128, .i32⟩
  | .hbm, ⟨21, _⟩ => ⟨S128x128, .i1⟩
  | .hbm, ⟨22, _⟩ => ⟨S_, .i32⟩
  | .hbm, ⟨23, _⟩ => ⟨S_, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S128x128, .f32⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .bf16⟩
  | .hbm, ⟨36, _⟩ => ⟨S128x128, .f32⟩
  | .hbm, ⟨37, _⟩ => ⟨S128x128, .bf16⟩
  | .hbm, ⟨38, _⟩ => ⟨S2048, .i32⟩
  | .hbm, ⟨39, _⟩ => ⟨S2048x1, .i32⟩
  | .hbm, ⟨40, _⟩ => ⟨S1x2048, .i32⟩
  | .hbm, ⟨41, _⟩ => ⟨S2048x2048, .i32⟩
  | .hbm, ⟨42, _⟩ => ⟨S2048x2048, .i32⟩
  | .hbm, ⟨43, _⟩ => ⟨S2048x2048, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S2048x2048, .i32⟩
  | .hbm, ⟨51, _⟩ => ⟨S2048x2048, .i32⟩
  | .hbm, ⟨52, _⟩ => ⟨S_, .i32⟩
  | .hbm, ⟨53, _⟩ => ⟨S2048x2048, .i32⟩
  | .hbm, ⟨54, _⟩ => ⟨S2048x2048, .i1⟩
  | .hbm, ⟨55, _⟩ => ⟨S_, .i32⟩
  | .hbm, ⟨56, _⟩ => ⟨S2048x2048, .i32⟩
  | .hbm, ⟨57, _⟩ => ⟨S2048x2048, .i1⟩
  | .hbm, ⟨58, _⟩ => ⟨S_, .i32⟩
  | .hbm, ⟨59, _⟩ => ⟨S_, .i1⟩
  | .hbm, ⟨60, _⟩ => ⟨S2048x2048, .i1⟩
  | .hbm, ⟨61, _⟩ => ⟨S2048x2048, .i1⟩
  | .hbm, ⟨62, _⟩ => ⟨S2048x2048, .i1⟩
  | .hbm, ⟨63, _⟩ => ⟨S2048x2048, .i32⟩
  | .hbm, ⟨64, _⟩ => ⟨S2048x2048, .i32⟩
  | .hbm, ⟨65, _⟩ => ⟨S2048x2048, .i32⟩
  | .hbm, ⟨66, _⟩ => ⟨S2048x2048, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .bf16⟩
  | .hbm, ⟨72, _⟩ => ⟨S2048x2048, .f32⟩
  | .hbm, ⟨73, _⟩ => ⟨S2048x2048, .bf16⟩
  | .hbm, ⟨74, _⟩ => ⟨S8192x512, .bf16⟩
  | .local _ .vmem, ⟨0, _⟩ => ⟨S2048x512, .bf16⟩
  | .local _ .vmem, ⟨1, _⟩ => ⟨S2048x512, .bf16⟩
  | .local _ .vmem, ⟨2, _⟩ => ⟨S128x128, .bf16⟩
  | .local _ .vmem, ⟨3, _⟩ => ⟨S128x128, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S4x128x128, .f32⟩
  | .local _ .vmem, ⟨9, _⟩ => ⟨S512x512, .bf16⟩
  | .local _ .vmem, ⟨10, _⟩ => ⟨S512x512, .bf16⟩
  | .local _ .vmem, ⟨11, _⟩ => ⟨S4096x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_0 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v20 : Ref sig .tc := ⟨.hbm, 65, rfl⟩
abbrev main_v21 : Ref sig .tc := ⟨.hbm, 66, rfl⟩
abbrev main_cst_1 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FourierRefIdeal.lean ====
abbrev S8192x3072 : Shape := ⟨2, ![8192, 3072]⟩
abbrev S4x128x128 : Shape := ⟨3, ![4, 128, 128]⟩
abbrev S8192x512 : Shape := ⟨2, ![8192, 512]⟩
abbrev S4x2048x4x128 : Shape := ⟨4, ![4, 2048, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x128x2048 : Shape := ⟨4, ![4, 4, 128, 2048]⟩
abbrev S4x128x4x2048 : Shape := ⟨4, ![4, 128, 4, 2048]⟩

abbrev nBuf : Space → Nat
  | .hbm => 87
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x128x128, .f32⟩
  | .hbm, ⟨2, _⟩ => ⟨S8192x512, .bf16⟩
  | .hbm, ⟨3, _⟩ => ⟨S8192x512, .f32⟩
  | .hbm, ⟨4, _⟩ => ⟨S4x2048x4x128, .f32⟩
  | .hbm, ⟨5, _⟩ => ⟨S128, .i32⟩
  | .hbm, ⟨6, _⟩ => ⟨S128x1, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i1⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S_, .i32⟩
  | .hbm, ⟨26, _⟩ => ⟨S_, .i1⟩
  | .hbm, ⟨27, _⟩ => ⟨S128x128, .i1⟩
  | .hbm, ⟨28, _⟩ => ⟨S128x128, .i1⟩
  | .hbm, ⟨29, _⟩ => ⟨S128x128, .i1⟩
  | .hbm, ⟨30, _⟩ => ⟨S128x128, .i32⟩
  | .hbm, ⟨31, _⟩ => ⟨S128x128, .i32⟩
  | .hbm, ⟨32, _⟩ => ⟨S128x128, .i32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S2048, .i32⟩
  | .hbm, ⟨40, _⟩ => ⟨S2048x1, .i32⟩
  | .hbm, ⟨41, _⟩ => ⟨S1x2048, .i32⟩
  | .hbm, ⟨42, _⟩ => ⟨S2048x2048, .i32⟩
  | .hbm, ⟨43, _⟩ => ⟨S2048x2048, .i32⟩
  | .hbm, ⟨44, _⟩ => ⟨S2048x2048, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S2048x2048, .i32⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i1⟩
  | .hbm, ⟨56, _⟩ => ⟨S_, .i32⟩
  | .hbm, ⟨57, _⟩ => ⟨S2048x2048, .i32⟩
  | .hbm, ⟨58, _⟩ => ⟨S2048x2048, .i1⟩
  | .hbm, ⟨59, _⟩ => ⟨S_, .i32⟩
  | .hbm, ⟨60, _⟩ => ⟨S_, .i1⟩
  | .hbm, ⟨61, _⟩ => ⟨S2048x2048, .i1⟩
  | .hbm, ⟨62, _⟩ => ⟨S2048x2048, .i1⟩
  | .hbm, ⟨63, _⟩ => ⟨S2048x2048, .i1⟩
  | .hbm, ⟨64, _⟩ => ⟨S2048x2048, .i32⟩
  | .hbm, ⟨65, _⟩ => ⟨S2048x2048, .i32⟩
  | .hbm, ⟨66, _⟩ => ⟨S2048x2048, .i32⟩
  | .hbm, ⟨67, _⟩ => ⟨S2048x2048, .f32⟩
  | .hbm, ⟨68, _⟩ => ⟨S_, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S4x2048x4x128, .f32⟩
  | .hbm, ⟨74, _⟩ => ⟨S4x4x128x2048, .f32⟩
  | .hbm, ⟨75, _⟩ => ⟨S4x2048x4x128, .f32⟩
  | .hbm, ⟨76, _⟩ => ⟨S4x2048x4x128, .f32⟩
  | .hbm, ⟨77, _⟩ => ⟨S4x4x128x2048, .f32⟩
  | .hbm, ⟨78, _⟩ => ⟨S4x2048x4x128, .f32⟩
  | .hbm, ⟨79, _⟩ => ⟨S4x2048x4x128, .f32⟩
  | .hbm, ⟨80, _⟩ => ⟨S_, .f32⟩
  | .hbm, ⟨81, _⟩ => ⟨S4x2048x4x128, .f32⟩
  | .hbm, ⟨82, _⟩ => ⟨S4x2048x4x128, .f32⟩
  | .hbm, ⟨83, _⟩ => ⟨S4x128x4x2048, .f32⟩
  | .hbm, ⟨84, _⟩ => ⟨S4x2048x4x128, .f32⟩
  | .hbm, ⟨85, _⟩ => ⟨S8192x512, .f32⟩
  | .hbm, ⟨86, _⟩ => ⟨S8192x512, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_0 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v21 : Ref sig .tc := ⟨.hbm, 66, rfl⟩
abbrev main_v22 : Ref sig .tc := ⟨.hbm, 67, rfl⟩
abbrev main_cst_1 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_2 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩

abbrev nD : Nat := 1
abbrev τ : Topo := Topo.v7x

variable {F : FTy → Type} [FloatOps F]
-- ==== Gather.lean ====
abbrev S8192x2048 : Shape := ⟨2, ![8192, 2048]⟩
abbrev S4x16x2048 : Shape := ⟨3, ![4, 16, 2048]⟩
abbrev S16384x2048 : Shape := ⟨2, ![16384, 2048]⟩
abbrev S2048x2048 : Shape := ⟨2, ![2048, 2048]⟩
abbrev S1x16x2048 : Shape := ⟨3, ![1, 16, 2048]⟩
abbrev S256x2048 : Shape := ⟨2, ![256, 2048]⟩
abbrev S1x1x2048 : Shape := ⟨3, ![1, 1, 2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x16x2048, .i32⟩
  | .hbm, ⟨2, _⟩ => ⟨S16384x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x16x2048, .i32⟩
  | .local _ .vmem, ⟨3, _⟩ => ⟨S1x16x2048, .i32⟩
  | .local _ .vmem, ⟨4, _⟩ => ⟨S256x2048, .bf16⟩
  | .local _ .vmem, ⟨5, _⟩ => ⟨S256x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_off1 (i : grid0.Coords) : Fin 3 → Nat :=
  let c0 : Index := 0#32
  let arg1 : BitVec 32 := BitVec.ofNat 32 (i 1).val
  let v0 : Index := Scalar.indexCast arg1
  let c0_0 : Index := 0#32
  ![0, v0.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatherRefIdeal.lean ====
abbrev S8192x2048 : Shape := ⟨2, ![8192, 2048]⟩
abbrev S4x16x2048 : Shape := ⟨3, ![4, 16, 2048]⟩
abbrev S16 : Shape := ⟨1, ![16]⟩
abbrev S16x1x1 : Shape := ⟨3, ![16, 1, 1]⟩
abbrev S4 : Shape := ⟨1, ![4]⟩
abbrev S1x4x1 : Shape := ⟨3, ![1, 4, 1]⟩
abbrev S1x4x2048x2048 : Shape := ⟨4, ![1, 4, 2048, 2048]⟩
abbrev S16x4x2048x2048 : Shape := ⟨4, ![16, 4, 2048, 2048]⟩
abbrev S_ : Shape := ⟨0, ![]⟩
abbrev S16x4x256x2048 : Shape := ⟨4, ![16, 4, 256, 2048]⟩
abbrev S16x4x2048 : Shape := ⟨3, ![16, 4, 2048]⟩
abbrev S16x4x2048x1 : Shape := ⟨4, ![16, 4, 2048, 1]⟩
abbrev S16x4x2048x3 : Shape := ⟨4, ![16, 4, 2048, 3]⟩
abbrev S16384x2048 : Shape := ⟨2, ![16384, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x16x2048, .i32⟩
  | .hbm, ⟨2, _⟩ => ⟨S16, .i32⟩
  | .hbm, ⟨3, _⟩ => ⟨S16x1x1, .i32⟩
  | .hbm, ⟨4, _⟩ => ⟨S4, .i32⟩
  | .hbm, ⟨5, _⟩ => ⟨S1x4x1, .i32⟩
  | .hbm, ⟨6, _⟩ => ⟨S8192x2048, .f32⟩
  | .hbm, ⟨7, _⟩ => ⟨S1x4x2048x2048, .f32⟩
  | .hbm, ⟨8, _⟩ => ⟨S16x4x2048x2048, .f32⟩
  | .hbm, ⟨9, _⟩ => ⟨S_, .f32⟩
  | .hbm, ⟨10, _⟩ => ⟨S16x4x256x2048, .f32⟩
  | .hbm, ⟨11, _⟩ => ⟨S16x4x2048, .i32⟩
  | .hbm, ⟨12, _⟩ => ⟨S16x4x2048, .i32⟩
  | .hbm, ⟨13, _⟩ => ⟨S16x4x2048, .i32⟩
  | .hbm, ⟨14, _⟩ => ⟨S16x4x2048x1, .i32⟩
  | .hbm, ⟨15, _⟩ => ⟨S16x4x2048x1, .i32⟩
  | .hbm, ⟨16, _⟩ => ⟨S16x4x2048x1, .i32⟩
  | .hbm, ⟨17, _⟩ => ⟨S16x4x2048x3, .i32⟩
  | .hbm, ⟨18, _⟩ => ⟨S16x4x256x2048, .f32⟩
  | .hbm, ⟨19, _⟩ => ⟨S16384x2048, .f32⟩
  | .hbm, ⟨20, _⟩ => ⟨S16384x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Pool.lean ====
abbrev S8192x2048 : Shape := ⟨2, ![8192, 2048]⟩
abbrev S2048x512 : Shape := ⟨2, ![2048, 512]⟩
abbrev S2064x512 : Shape := ⟨2, ![2064, 512]⟩
abbrev S8x512 : Shape := ⟨2, ![8, 512]⟩
abbrev S2048x1 : Shape := ⟨2, ![2048, 1]⟩

abbrev nBuf : Space → Nat
  | .hbm => 2
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .local _ .vmem, ⟨0, _⟩ => ⟨S2048x512, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | .local _ .vmem, ⟨4, _⟩ => ⟨S2064x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_5 : BitVec 32 := 0#32
  let v14 : BitVec 1 := Scalar.cmpi .ne v13 c0_i32_5
  v14

def k0_cond2 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_6 : BitVec 32 := 0#32
  let v17 : BitVec 1 := Scalar.cmpi .ne v16 c0_i32_6
  v17

def k0_cond3 (i : grid0.Coords) : BitVec 1 :=
  let arg1 : BitVec 32 := BitVec.ofNat 32 (i 1).val
  let c2_i32 : BitVec 32 := 2#32
  let v18 : BitVec 1 := Scalar.cmpi .eq arg1 c2_i32
  let v19 : BitVec 32 := Scalar.extui v18
  let c0_i32_7 : BitVec 32 := 0#32
  let v20 : BitVec 1 := Scalar.cmpi .ne v19 c0_i32_7
  v20

def k0_cond4 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== PoolRefIdeal.lean ====
abbrev S8192x2048 : Shape := ⟨2, ![8192, 2048]⟩
abbrev S4x2048x4x512 : Shape := ⟨4, ![4, 2048, 4, 512]⟩
abbrev S4x2048x1x512 : Shape := ⟨4, ![4, 2048, 1, 512]⟩
abbrev S4x2048x512 : Shape := ⟨3, ![4, 2048, 512]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x2048x2048x1 : Shape := ⟨4, ![1, 2048, 2048, 1]⟩
abbrev S4x1x2048x512 : Shape := ⟨4, ![4, 1, 2048, 512]⟩
abbrev S4x2048x2048x512 : Shape := ⟨4, ![4, 2048, 2048, 512]⟩
abbrev S1x2048x1 : Shape := ⟨3, ![1, 2048, 1]⟩

abbrev nBuf : Space → Nat
  | .hbm => 229
  | .vmem => 0
  | .smem => 0
  | _ => 0

abbrev hbmTy0_0 (i : Nat) : BufTy := match i % 128 with
  | 0 => ⟨S8192x2048, .f32⟩
  | 1 => ⟨S4x2048x4x512, .f32⟩
  | 2 => ⟨S4x2048x1x512, .f32⟩
  | 3 => ⟨S4x2048x512, .f32⟩
  | 4 => ⟨S2048, .i32⟩
  | 5 => ⟨S_, .i32⟩
  | 6 => ⟨S2048, .i32⟩
  | 7 => ⟨S2048, .i32⟩
  | 8 => ⟨S_, .i32⟩
  | 9 => ⟨S_, .i32⟩
  | 10 => ⟨S_, .i32⟩
  | 11 => ⟨S2048, .i32⟩
  | 12 => ⟨S2048, .i32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S_, .i32⟩
  | 20 => ⟨S2048, .i32⟩
  | 21 => ⟨S2048, .i32⟩
  | 22 => ⟨S_, .i32⟩
  | 23 => ⟨S_, .i32⟩
  | 24 => ⟨S_, .i32⟩
  | 25 => ⟨S2048, .i32⟩
  | 26 => ⟨S2048, .i32⟩
  | 27 => ⟨S_, .i32⟩
  | 28 => ⟨S2048, .i32⟩
  | 29 => ⟨S2048, .i32⟩
  | 30 => ⟨S2048x1, .i32⟩
  | 31 => ⟨S1x2048, .i32⟩
  | 32 => ⟨S2048x2048, .i32⟩
  | 33 => ⟨S2048x2048, .i32⟩
  | 34 => ⟨S2048x2048, .i1⟩
  | 35 => ⟨S1x2048, .i32⟩
  | 36 => ⟨S2048x1, .i32⟩
  | 37 => ⟨S2048x2048, .i32⟩
  | 38 => ⟨S2048x2048, .i32⟩
  | 39 => ⟨S2048x2048, .i1⟩
  | 40 => ⟨S2048x2048, .i1⟩
  | 41 => ⟨S1x2048x2048x1, .i1⟩
  | 42 => ⟨S4x1x2048x512, .f32⟩
  | 43 => ⟨S_, .f32⟩
  | 44 => ⟨S_, .f32⟩
  | 45 => ⟨S4x2048x2048x512, .i1⟩
  | 46 => ⟨S4x2048x2048x512, .f32⟩
  | 47 => ⟨S4x2048x2048x512, .f32⟩
  | 48 => ⟨S4x2048x2048x512, .f32⟩
  | 49 => ⟨S_, .f32⟩
  | 50 => ⟨S4x2048x512, .f32⟩
  | 51 => ⟨S2048, .i32⟩
  | 52 => ⟨S2048, .f32⟩
  | 53 => ⟨S1x2048x1, .f32⟩
  | 54 => ⟨S4x2048x512, .f32⟩
  | 55 => ⟨S4x2048x512, .f32⟩
  | 56 => ⟨S4x2048x512, .f32⟩
  | 57 => ⟨S4x2048x1x512, .f32⟩
  | 58 => ⟨S4x2048x512, .f32⟩
  | 59 => ⟨S2048, .i32⟩
  | 60 => ⟨S_, .i32⟩
  | 61 => ⟨S2048, .i32⟩
  | 62 => ⟨S2048, .i32⟩
  | 63 => ⟨S_, .i32⟩
  | 64 => ⟨S_, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S_, .i32⟩
  | 78 => ⟨S_, .i32⟩
  | 79 => ⟨S_, .i32⟩
  | 80 => ⟨S2048, .i32⟩
  | 81 => ⟨S2048, .i32⟩
  | 82 => ⟨S_, .i32⟩
  | 83 => ⟨S2048, .i32⟩
  | 84 => ⟨S2048, .i32⟩
  | 85 => ⟨S2048x1, .i32⟩
  | 86 => ⟨S1x2048, .i32⟩
  | 87 => ⟨S2048x2048, .i32⟩
  | 88 => ⟨S2048x2048, .i32⟩
  | 89 => ⟨S2048x2048, .i1⟩
  | 90 => ⟨S1x2048, .i32⟩
  | 91 => ⟨S2048x1, .i32⟩
  | 92 => ⟨S2048x2048, .i32⟩
  | 93 => ⟨S2048x2048, .i32⟩
  | 94 => ⟨S2048x2048, .i1⟩
  | 95 => ⟨S2048x2048, .i1⟩
  | 96 => ⟨S1x2048x2048x1, .i1⟩
  | 97 => ⟨S4x1x2048x512, .f32⟩
  | 98 => ⟨S_, .f32⟩
  | 99 => ⟨S_, .f32⟩
  | 100 => ⟨S4x2048x2048x512, .i1⟩
  | 101 => ⟨S4x2048x2048x512, .f32⟩
  | 102 => ⟨S4x2048x2048x512, .f32⟩
  | 103 => ⟨S4x2048x2048x512, .f32⟩
  | 104 => ⟨S_, .f32⟩
  | 105 => ⟨S4x2048x512, .f32⟩
  | 106 => ⟨S2048, .i32⟩
  | 107 => ⟨S2048, .f32⟩
  | 108 => ⟨S1x2048x1, .f32⟩
  | 109 => ⟨S4x2048x512, .f32⟩
  | 110 => ⟨S4x2048x512, .f32⟩
  | 111 => ⟨S4x2048x512, .f32⟩
  | 112 => ⟨S4x2048x1x512, .f32⟩
  | 113 => ⟨S4x2048x512, .f32⟩
  | 114 => ⟨S2048, .i32⟩
  | 115 => ⟨S_, .i32⟩
  | 116 => ⟨S2048, .i32⟩
  | 117 => ⟨S2048, .i32⟩
  | 118 => ⟨S_, .i32⟩
  | 119 => ⟨S_, .i32⟩
  | 120 => ⟨S_, .i32⟩
  | 121 => ⟨S2048, .i32⟩
  | 122 => ⟨S2048, .i32⟩
  | 123 => ⟨S_, .i32⟩
  | 124 => ⟨S2048, .i32⟩
  | 125 => ⟨S2048, .i32⟩
  | 126 => ⟨S_, .i32⟩
  | 127 => ⟨S2048, .i32⟩
  | _ => ⟨S8192x2048, .f32⟩

abbrev hbmTy0_1 (i : Nat) : BufTy := match i % 128 with
  | 0 => ⟨S2048, .i32⟩
  | 1 => ⟨S_, .i32⟩
  | 2 => ⟨S2048, .i32⟩
  | 3 => ⟨S2048, .i32⟩
  | 4 => ⟨S_, .i32⟩
  | 5 => ⟨S_, .i32⟩
  | 6 => ⟨S_, .i32⟩
  | 7 => ⟨S2048, .i32⟩
  | 8 => ⟨S2048, .i32⟩
  | 9 => ⟨S_, .i32⟩
  | 10 => ⟨S2048, .i32⟩
  | 11 => ⟨S2048, .i32⟩
  | 12 => ⟨S2048x1, .i32⟩
  | 13 => ⟨S1x2048, .i32⟩
  | 14 => ⟨S2048x2048, .i32⟩
  | 15 => ⟨S2048x2048, .i32⟩
  | 16 => ⟨S2048x2048, .i1⟩
  | 17 => ⟨S1x2048, .i32⟩
  | 18 => ⟨S2048x1, .i32⟩
  | 19 => ⟨S2048x2048, .i32⟩
  | 20 => ⟨S2048x2048, .i32⟩
  | 21 => ⟨S2048x2048, .i1⟩
  | 22 => ⟨S2048x2048, .i1⟩
  | 23 => ⟨S1x2048x2048x1, .i1⟩
  | 24 => ⟨S4x1x2048x512, .f32⟩
  | 25 => ⟨S_, .f32⟩
  | 26 => ⟨S_, .f32⟩
  | 27 => ⟨S4x2048x2048x512, .i1⟩
  | 28 => ⟨S4x2048x2048x512, .f32⟩
  | 29 => ⟨S4x2048x2048x512, .f32⟩
  | 30 => ⟨S4x2048x2048x512, .f32⟩
  | 31 => ⟨S_, .f32⟩
  | 32 => ⟨S4x2048x512, .f32⟩
  | 33 => ⟨S2048, .i32⟩
  | 34 => ⟨S2048, .f32⟩
  | 35 => ⟨S1x2048x1, .f32⟩
  | 36 => ⟨S4x2048x512, .f32⟩
  | 37 => ⟨S4x2048x512, .f32⟩
  | 38 => ⟨S4x2048x512, .f32⟩
  | 39 => ⟨S4x2048x1x512, .f32⟩
  | 40 => ⟨S4x2048x512, .f32⟩
  | 41 => ⟨S2048, .i32⟩
  | 42 => ⟨S_, .i32⟩
  | 43 => ⟨S2048, .i32⟩
  | 44 => ⟨S2048, .i32⟩
  | 45 => ⟨S_, .i32⟩
  | 46 => ⟨S_, .i32⟩
  | 47 => ⟨S_, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S_, .i32⟩
  | 61 => ⟨S_, .i32⟩
  | 62 => ⟨S2048, .i32⟩
  | 63 => ⟨S2048, .i32⟩
  | 64 => ⟨S_, .i32⟩
  | 65 => ⟨S2048, .i32⟩
  | 66 => ⟨S2048, .i32⟩
  | 67 => ⟨S2048x1, .i32⟩
  | 68 => ⟨S1x2048, .i32⟩
  | 69 => ⟨S2048x2048, .i32⟩
  | 70 => ⟨S2048x2048, .i32⟩
  | 71 => ⟨S2048x2048, .i1⟩
  | 72 => ⟨S1x2048, .i32⟩
  | 73 => ⟨S2048x1, .i32⟩
  | 74 => ⟨S2048x2048, .i32⟩
  | 75 => ⟨S2048x2048, .i32⟩
  | 76 => ⟨S2048x2048, .i1⟩
  | 77 => ⟨S2048x2048, .i1⟩
  | 78 => ⟨S1x2048x2048x1, .i1⟩
  | 79 => ⟨S4x1x2048x512, .f32⟩
  | 80 => ⟨S_, .f32⟩
  | 81 => ⟨S_, .f32⟩
  | 82 => ⟨S4x2048x2048x512, .i1⟩
  | 83 => ⟨S4x2048x2048x512, .f32⟩
  | 84 => ⟨S4x2048x2048x512, .f32⟩
  | 85 => ⟨S4x2048x2048x512, .f32⟩
  | 86 => ⟨S_, .f32⟩
  | 87 => ⟨S4x2048x512, .f32⟩
  | 88 => ⟨S2048, .i32⟩
  | 89 => ⟨S2048, .f32⟩
  | 90 => ⟨S1x2048x1, .f32⟩
  | 91 => ⟨S4x2048x512, .f32⟩
  | 92 => ⟨S4x2048x512, .f32⟩
  | 93 => ⟨S4x2048x512, .f32⟩
  | 94 => ⟨S4x2048x1x512, .f32⟩
  | 95 => ⟨S4x2048x1x512, .f32⟩
  | 96 => ⟨S4x2048x1x512, .f32⟩
  | 97 => ⟨S4x2048x1x512, .f32⟩
  | 98 => ⟨S4x2048x4x512, .f32⟩
  | 99 => ⟨S8192x2048, .f32⟩
  | 100 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_c_4 : Ref sig .tc := ⟨.hbm, 22, rfl⟩
abbrev main_c_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_c_9 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v38 : Ref sig .tc := ⟨.hbm, 70, rfl⟩
abbrev main_c_10 : Ref sig .tc := ⟨.hbm, 71, rfl⟩
abbrev main_v39 : Ref sig .tc := ⟨.hbm, 72, rfl⟩
abbrev main_v40 : Ref sig .tc := ⟨.hbm, 73, rfl⟩
abbrev main_c_11 : Ref sig .tc := ⟨.hbm, 74, rfl⟩
abbrev main_v41 : Ref sig .tc := ⟨.hbm, 75, rfl⟩
abbrev main_v42 : Ref sig .tc := ⟨.hbm, 76, rfl⟩
abbrev main_c_12 : Ref sig .tc := ⟨.hbm, 77, rfl⟩
abbrev main_c_13 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_14 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_call5_v3 : Ref sig .tc := ⟨.hbm, 102, rfl⟩
abbrev main_v57 : Ref sig .tc := ⟨.hbm, 103, rfl⟩
abbrev main_cst_15 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_16 : Ref sig .tc := ⟨.hbm, 115, rfl⟩
abbrev main_v68 : Ref sig .tc := ⟨.hbm, 116, rfl⟩
abbrev main_v69 : Ref sig .tc := ⟨.hbm, 117, rfl⟩
abbrev main_c_17 : Ref sig .tc := ⟨.hbm, 118, rfl⟩
abbrev main_c_18 : Ref sig .tc := ⟨.hbm, 119, rfl⟩
abbrev main_call6_v0 : Ref sig .tc := ⟨.hbm, 120, rfl⟩
abbrev main_call6_v1 : Ref sig .tc := ⟨.hbm, 121, rfl⟩
abbrev main_call6_v2 : Ref sig .tc := ⟨.hbm, 122, rfl⟩
abbrev main_call6_v3 : Ref sig .tc := ⟨.hbm, 123, rfl⟩
abbrev main_call6_v4 : Ref sig .tc := ⟨.hbm, 124, rfl⟩
abbrev main_v70 : Ref sig .tc := ⟨.hbm, 125, rfl⟩
abbrev main_c_19 : Ref sig .tc := ⟨.hbm, 126, rfl⟩
abbrev main_v71 : Ref sig .tc := ⟨.hbm, 127, rfl⟩
abbrev main_v72 : Ref sig .tc := ⟨.hbm, 128, rfl⟩
abbrev main_c_20 : Ref sig .tc := ⟨.hbm, 129, rfl⟩
abbrev main_v73 : Ref sig .tc := ⟨.hbm, 130, rfl⟩
abbrev main_v74 : Ref sig .tc := ⟨.hbm, 131, rfl⟩
abbrev main_c_21 : Ref sig .tc := ⟨.hbm, 132, rfl⟩
abbrev main_c_22 : Ref sig .tc := ⟨.hbm, 133, rfl⟩
abbrev main_call7_v0 : Ref sig .tc := ⟨.hbm, 134, rfl⟩
abbrev main_call7_v1 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_cst_23 : Ref sig .tc := ⟨.hbm, 153, rfl⟩
abbrev main_call8_v0 : Ref sig .tc := ⟨.hbm, 154, rfl⟩
abbrev main_call8_v1 : Ref sig .tc := ⟨.hbm, 155, rfl⟩
abbrev main_call8_v2 : Ref sig .tc := ⟨.hbm, 156, rfl⟩
abbrev main_call8_v3 : Ref sig .tc := ⟨.hbm, 157, rfl⟩
abbrev main_v89 : Ref sig .tc := ⟨.hbm, 158, rfl⟩
abbrev main_cst_24 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_c_25 : Ref sig .tc := ⟨.hbm, 170, rfl⟩
abbrev main_v100 : Ref sig .tc := ⟨.hbm, 171, rfl⟩
abbrev main_v101 : Ref sig .tc := ⟨.hbm, 172, rfl⟩
abbrev main_c_26 : Ref sig .tc := ⟨.hbm, 173, rfl⟩
abbrev main_c_27 : Ref sig .tc := ⟨.hbm, 174, rfl⟩
abbrev main_call9_v0 : Ref sig .tc := ⟨.hbm, 175, rfl⟩
abbrev main_call9_v1 : Ref sig .tc := ⟨.hbm, 176, rfl⟩
abbrev main_call9_v2 : Ref sig .tc := ⟨.hbm, 177, rfl⟩
abbrev main_call9_v3 : Ref sig .tc := ⟨.hbm, 178, rfl⟩
abbrev main_call9_v4 : Ref sig .tc := ⟨.hbm, 179, rfl⟩
abbrev main_v102 : Ref sig .tc := ⟨.hbm, 180, rfl⟩
abbrev main_c_28 : Ref sig .tc := ⟨.hbm, 181, rfl⟩
abbrev main_v103 : Ref sig .tc := ⟨.hbm, 182, rfl⟩
abbrev main_v104 : Ref sig .tc := ⟨.hbm, 183, rfl⟩
abbrev main_c_29 : Ref sig .tc := ⟨.hbm, 184, rfl⟩
abbrev main_v105 : Ref sig .tc := ⟨.hbm, 185, rfl⟩
abbrev main_v106 : Ref sig .tc := ⟨.hbm, 186, rfl⟩
abbrev main_c_30 : Ref sig .tc := ⟨.hbm, 187, rfl⟩
abbrev main_c_31 : Ref sig .tc := ⟨.hbm, 188, rfl⟩
abbrev main_call10_v0 : Ref sig .tc := ⟨.hbm, 189, rfl⟩
abbrev main_call10_v1 : Ref sig .tc := ⟨.hbm, 190, rfl⟩
abbrev main_call10_v2 : Ref sig .tc := ⟨.hbm, 191, rfl⟩
abbrev main_call10_v3 : Ref sig .tc := ⟨.hbm, 192, rfl⟩
abbrev main_call10_v4 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_cst_32 : Ref sig .tc := ⟨.hbm, 208, rfl⟩
abbrev main_call11_v0 : Ref sig .tc := ⟨.hbm, 209, rfl⟩
abbrev main_call11_v1 : Ref sig .tc := ⟨.hbm, 210, rfl⟩
abbrev main_call11_v2 : Ref sig .tc := ⟨.hbm, 211, rfl⟩
abbrev main_call11_v3 : Ref sig .tc := ⟨.hbm, 212, rfl⟩
abbrev main_v121 : Ref sig .tc := ⟨.hbm, 213, rfl⟩
abbrev main_cst_33 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩

abbrev nD : Nat := 1
abbrev τ : Topo := Topo.v7x

variable {F : FTy → Type} [FloatOps F]
-- ==== Proof.Softmax.lean ====
/- The mathematics of a softmax-weighted sum over the extended reals: dividing each weight by the normalizer before the
   weighted sum, or dividing the weighted sum once afterwards, gives the same value when every score is a real number. -/
module

public import Idealize.ShloMosaic.PureOps.Ideal.Laws

@[expose] public section

noncomputable section

namespace Cert.Softmax

open Idealize.ShloMosaic
open scoped BigOperators

/-- A sum times a real number is the sum of the products, for extended real summands. -/
theorem sum_mul_real {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (EReal.coe_nonneg.mpr hc) (EReal.coe_ne_top c) _ _

/-- A finite sum of reals, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The running maximum from negative infinity of a nonempty finite family of reals is a real. -/
theorem fold_max_real {n : ℕ} (hn : 0 < n) (s : Fin n → ℝ) :
    ∃ M : ℝ, Finset.univ.fold max (⊥ : EReal) (fun i => (s i : EReal)) = (M : EReal) := by
  have h : ∀ S : Finset (Fin n), S.Nonempty → ∃ M : ℝ, S.fold max (⊥ : EReal) (fun i => (s i : EReal)) = (M : EReal) := by
    intro S hS
    induction hS using Finset.Nonempty.cons_induction with
    | singleton a => exact ⟨s a, by simp⟩
    | cons a S ha hS ih =>
      obtain ⟨M, hM⟩ := ih
      refine ⟨max (s a) M, ?_⟩
      rw [Finset.cons_eq_insert, Finset.fold_insert ha, hM]; exact (EReal.coe_strictMono.monotone.map_max).symm
  exact h _ ⟨⟨0, hn⟩, Finset.mem_univ _⟩

/-- THE CORE: for real scores, the weighted sum of the values divided by the normalizer is the sum of the values
    weighted by the normalized weights. The values may be any extended reals. -/
theorem softmax_dot {n : ℕ} (hn : 0 < n) (s : Fin n → EReal) (hs : ∀ i, ∃ r : ℝ, s i = (r : EReal)) (v : Fin n → EReal) :
    Ideal.div (∑ i, Ideal.exp (s i - Finset.univ.fold max (⊥ : EReal) s) * v i)
        (∑ i, Ideal.exp (s i - Finset.univ.fold max (⊥ : EReal) s))
      = ∑ i, v i * Ideal.div (Ideal.exp (s i - Finset.univ.fold max (⊥ : EReal) s))
          (∑ i, Ideal.exp (s i - Finset.univ.fold max (⊥ : EReal) s)) := by
  choose r hr using hs
  obtain rfl : s = fun i => (r i : EReal) := funext hr
  obtain ⟨M, hM⟩ := fold_max_real hn r
  rw [hM]
  have he : ∀ i, Ideal.exp ((r i : EReal) - (M : EReal)) = (Real.exp (r i - M) : EReal) := fun i => by
    rw [← EReal.coe_sub]; rfl
  simp only [he]
  have hl : (∑ i, (Real.exp (r i - M) : EReal)) = ((∑ i, Real.exp (r i - M) : ℝ) : EReal) := by
    rw [coe_sum]
  have hpos : 0 < ∑ i, Real.exp (r i - M) :=
    Finset.sum_pos (fun i _ => Real.exp_pos _) ⟨⟨0, hn⟩, Finset.mem_univ _⟩
  rw [hl, Ideal.div_coe hpos.ne', sum_mul_real _ _ _ (by positivity)]
  refine Finset.sum_congr rfl fun i _ => ?_
  rw [Ideal.div_coe hpos.ne', mul_comm (Real.exp (r i - M) : EReal) (v i), mul_assoc]

/-- A finite sum of products of reals, times a real, is a real. -/
theorem score_real {n : ℕ} (a b : Fin n → EReal) (ha : ∀ i, ∃ r : ℝ, a i = (r : EReal)) (hb : ∀ i, ∃ r : ℝ, b i = (r : EReal))
    (c : EReal) (hc : ∃ r : ℝ, c = (r : EReal)) : ∃ r : ℝ, (∑ i, a i * b i) * c = (r : EReal) := by
  choose x hx using ha
  choose y hy using hb
  obtain ⟨z, rfl⟩ := hc
  exact ⟨(∑ i, x i * y i) * z, by
    simp only [hx, hy, ← EReal.coe_mul, ← coe_sum]⟩

/-- An extended real whose absolute value is below infinity is a real. -/
theorem real_of_abs_lt_top {x : EReal} (h : max x (-x) < ⊤) : ∃ r : ℝ, x = (r : EReal) := by
  induction x using EReal.rec with
  | bot => simp at h
  | coe r => exact ⟨r, rfl⟩
  | top => simp at h

/-- The f32 pattern of negative infinity. -/
theorem ofBits_neg_inf : Ideal.ofBits .f32 0xFF800000#32 = ⊥ := by simp [Ideal.ofBits, Ideal.ieee]

/-- The f32 pattern of positive infinity. -/
theorem ofBits_inf : Ideal.ofBits .f32 0x7F800000#32 = ⊤ := by simp [Ideal.ofBits, Ideal.ieee]

end Cert.Softmax

end
-- ==== Proof.AttnHeads.lean ====
/- The attention call: what one head computes for one query row, in the kernel's order of operations and in the
   reference's, and the kernel body's three stored tiles at an index. -/
module

public import proofs.«01_k».proof.Proof.Gen.AttnIdeal.Skeleton
public import proofs.«01_k».proof.Proof.Softmax
public import Idealize.ShloMosaic.Lib.Pointwise

@[expose] public section

set_option maxRecDepth 16384

noncomputable section

open Idealize.ShloMosaic Idealize.ShloMosaic.TcCoe Idealize.SL.Sem
open scoped BigOperators

namespace Cert.Attend

/-- The scale that the scores are multiplied by, the reciprocal root of the head's width. -/
def scale : EReal := (((Real.sqrt 128)⁻¹ : ℝ) : EReal)

/-- The score of one query row against key row `s`. -/
def score (q : Fin 128 → EReal) (k : Fin 2048 → Fin 128 → EReal) (s : Fin 2048) : EReal :=
  (∑ d, q d * k s d) * scale

/-- The weight of key row `s`, before it is normalized. -/
def weight (q : Fin 128 → EReal) (k : Fin 2048 → Fin 128 → EReal) (s : Fin 2048) : EReal :=
  Ideal.exp (score q k s - Finset.univ.fold max (⊥ : EReal) (score q k))

/-- One component of one head's output as the kernel forms it: the weighted sum of the values over the normalizer. -/
def headK (q : Fin 128 → EReal) (k : Fin 2048 → Fin 128 → EReal) (v : Fin 2048 → EReal) : EReal :=
  Ideal.div (∑ s, weight q k s * v s) (∑ s, weight q k s)

/-- The same component as the reference forms it: the values under the normalized weights. -/
def headR (q : Fin 128 → EReal) (k : Fin 2048 → Fin 128 → EReal) (v : Fin 2048 → EReal) : EReal :=
  ∑ s, v s * Ideal.div (weight q k s) (∑ s, weight q k s)

/-- For real queries and keys the two forms agree. -/
theorem headK_eq_headR (q : Fin 128 → EReal) (k : Fin 2048 → Fin 128 → EReal) (v : Fin 2048 → EReal)
    (hq : ∀ d, ∃ r : ℝ, q d = (r : EReal)) (hk : ∀ s d, ∃ r : ℝ, k s d = (r : EReal)) :
    headK q k v = headR q k v :=
  Cert.Softmax.softmax_dot (by norm_num) (score q k) (fun s => Cert.Softmax.score_real _ _ hq (hk s) _ ⟨_, rfl⟩) v

end Cert.Attend

namespace Cert.AttnIdeal.Attend

open Cert.AttnIdeal Cert.AttnIdeal.Gen Cert.Attend

/-- The kernel's named constant is the scale. -/
theorem inv_sqrt_d : Named.named (F := Ideal) Cert.AttnIdeal.κ "inv_sqrt_d" (φ := .f32) 0x3DB504F3#32 = scale :=
  IdealRules.named_const.ideal_named_scalar _ _ _ _ rfl

/-- The third head's stored tile at an index. -/
theorem pay1_at (k v : FVec Ideal S2048x128 .bf16) (q : FVec Ideal S256x128 .bf16) (r : Fin 256) (l : Fin 128) :
    k0_pay1 (F := Ideal) k v q (ix2 r l) = headK (fun d => q (ix2 r d)) (fun s d => k (ix2 s d)) (fun s => v (ix2 s l)) := by
  pointwise [k0_pay1]
  rw [inv_sqrt_d, Cert.Softmax.ofBits_neg_inf]
  rfl

/-- The first head's stored tile at an index. -/
theorem pay2_at (k v : FVec Ideal S2048x128 .bf16) (q : FVec Ideal S256x128 .bf16) (r : Fin 256) (l : Fin 128) :
    k0_pay2 (F := Ideal) k v q (ix2 r l) = headK (fun d => q (ix2 r d)) (fun s d => k (ix2 s d)) (fun s => v (ix2 s l)) := by
  pointwise [k0_pay2]
  rw [inv_sqrt_d, Cert.Softmax.ofBits_neg_inf]
  rfl

/-- The second head's stored tile at an index. -/
theorem pay3_at (k v : FVec Ideal S2048x128 .bf16) (q : FVec Ideal S256x128 .bf16) (r : Fin 256) (l : Fin 128) :
    k0_pay3 (F := Ideal) k v q (ix2 r l) = headK (fun d => q (ix2 r d)) (fun s d => k (ix2 s d)) (fun s => v (ix2 s l)) := by
  pointwise [k0_pay3]
  rw [inv_sqrt_d, Cert.Softmax.ofBits_neg_inf]
  rfl

end Cert.AttnIdeal.Attend
end
-- ==== Proof.AttnReference.lean ====
/- The attention call: the reference's result at an index. Its one long term is read in four stages: the scores, their
   row maxima, the weights, and the weighted values. -/
module

public import proofs.«01_k».proof.Proof.Gen.AttnRefIdeal.Run
public import proofs.«01_k».proof.Proof.AttnHeads
public import Idealize.ShloMosaic.Lib.Pointwise

@[expose] public section

set_option maxRecDepth 16384

noncomputable section

open Idealize.ShloMosaic Idealize.ShloMosaic.TcCoe Idealize.SL.Sem
open scoped BigOperators

namespace Cert.AttnRefIdeal.Attend

open Cert.AttnRefIdeal Cert.AttnRefIdeal.Gen Cert.Attend

/-- The reference's scores. -/
def SC (X0 : FVec Ideal S8192x3072 .bf16) : FVec Ideal S4x4x3x2048x2048 .f32 :=
  Host.divf (transpose S4x4x3x2048x2048 [0, 1, 4, 3, 2] (Host.dotGeneral dot_S4x2048x4x128_S4x2048x4x3x128_S4x4x2048x2048x3_3_4_1_13_02_02 none (shapeCast _ (extractStridedSlice S4x2048x512 ![0, 0, 1536] (shapeCast _ (extf .f32 X0 bitsLt_bf16_f32) shapeCasts_S8192x3072_S4x2048x3072) slices_S4x2048x3072_S4x2048x512_0_0_1536) shapeCasts_S4x2048x512_S4x2048x4x128) (shapeCast _ (extractStridedSlice S4x2048x1536 ![0, 0, 0] (shapeCast _ (extf .f32 X0 bitsLt_bf16_f32) shapeCasts_S8192x3072_S4x2048x3072) slices_S4x2048x3072_S4x2048x1536_0_0_0) shapeCasts_S4x2048x1536_S4x2048x4x3x128)) transposes_S4x4x2048x2048x3_S4x4x3x2048x2048_0_1_4_3_2) (broadcastInDim S4x4x3x2048x2048 ![] bcast_S_S4x4x3x2048x2048 (Host.sqrt (constant S_ .f32 0x43000000#32)))

/-- The reference's row maxima, of its scores. -/
def RM (S : FVec Ideal S4x4x3x2048x2048 .f32) : FVec Ideal S4x4x3x2048 .f32 :=
  Host.reduce FloatOps.maximumf S (constant S_ .f32 0xFF800000#32) reducesTo_S4x4x3x2048x2048_S4x4x3x2048_d4 h_S_

/-- The reference's unnormalized weights, of its scores and their row maxima. -/
def EX (S : FVec Ideal S4x4x3x2048x2048 .f32) (M : FVec Ideal S4x4x3x2048 .f32) : FVec Ideal S4x4x3x2048x2048 .f32 :=
  Host.exp (subf S (broadcastInDim S4x4x3x2048x2048 ![0, 1, 2, 3, 4] bcast_S4x4x3x2048x1_S4x4x3x2048x2048_0_1_2_3_4 (broadcastInDim S4x4x3x2048x1 ![0, 1, 2, 3] bcast_S4x4x3x2048_S4x4x3x2048x1_0_1_2_3 (maximumf (broadcastInDim S4x4x3x2048 ![] bcast_S_S4x4x3x2048 (constant S_ .f32 0xFF800000#32)) M))))

/-- The reference's result, of its weights. -/
def OUT (X0 : FVec Ideal S8192x3072 .bf16) (E : FVec Ideal S4x4x3x2048x2048 .f32) : FVec Ideal S8192x1536 .bf16 :=
  truncf .bf16 (shapeCast _ (transpose S4x2048x4x3x128 [0, 4, 1, 3, 2] (Host.dotGeneral dot_S4x2048x4x128_S4x4x3x2048x2048_S4x4x128x3x2048_1_4_3_23_02_01 none (shapeCast _ (extractStridedSlice S4x2048x512 ![0, 0, 2048] (shapeCast _ (extf .f32 X0 bitsLt_bf16_f32) shapeCasts_S8192x3072_S4x2048x3072) slices_S4x2048x3072_S4x2048x512_0_0_2048) shapeCasts_S4x2048x512_S4x2048x4x128) (Host.divf E (broadcastInDim S4x4x3x2048x2048 ![0, 1, 2, 3, 4] bcast_S4x4x3x2048x1_S4x4x3x2048x2048_0_1_2_3_4 (broadcastInDim S4x4x3x2048x1 ![0, 1, 2, 3] bcast_S4x4x3x2048_S4x4x3x2048x1_0_1_2_3 (Host.reduceAdd E (constant S_ .f32 0x00000000#32) reducesTo_S4x4x3x2048x2048_S4x4x3x2048_d4 h_S_))))) transposes_S4x4x128x3x2048_S4x2048x4x3x128_0_4_1_3_2) shapeCasts_S4x2048x4x3x128_S8192x1536) bitsLt_bf16_f32

/-- The reference's result as a function of its argument. -/
def REF (X0 : FVec Ideal S8192x3072 .bf16) : FVec Ideal S8192x1536 .bf16 := OUT X0 (EX (SC X0) (RM (SC X0)))

/-- The run's result is that function of the argument. -/
theorem res_eq (m : (ℓ : Loc nD τ sig) → Buf (Elt Ideal) ℓ) (c : Dev nD) :
    Value.res_out0 m c = REF (m ((c.tc : Thread nD τ).loc main_arg0)) := rfl

/-- The pattern of 128 is the real 128. -/
theorem ofBits_128 : Ideal.ofBits .f32 0x43000000#32 = ((128 : ℝ) : EReal) := by
  simp [Ideal.ofBits, Ideal.ieee, -EReal.coe_mul]; norm_num

/-- Dividing by the root of 128 is multiplying by the scale. -/
theorem div_root (x : EReal) : Ideal.div x (Ideal.sqrt (Ideal.ofBits .f32 0x43000000#32)) = x * scale := by
  rw [ofBits_128, Ideal.sqrt_coe, if_neg (by norm_num),
    Ideal.div_coe (show Real.sqrt 128 ≠ 0 from (Real.sqrt_pos.mpr (by norm_num)).ne'), one_div]
  rfl

/-- A score at an index: query row `q` of head `(h, g)` in sequence `b` against key row `s`. -/
theorem SC_at (X : FVec Ideal S8192x3072 .bf16) (b h : Fin 4) (g : Fin 3) (q s : Fin 2048) :
    SC X (ix5 b h g q s) = score (fun d => X (ix2 ⟨b.val * 2048 + q.val, by omega⟩ ⟨h.val * 384 + g.val * 128 + d.val, by omega⟩))
      (fun s d => X (ix2 ⟨b.val * 2048 + s.val, by omega⟩ ⟨1536 + (h.val * 128 + d.val), by omega⟩)) s := by
  pointwise [SC]
  rw [div_root]
  unfold score
  congr 1
  exact Finset.sum_congr rfl fun d _ => mul_comm _ _

/-- A row maximum at an index. -/
theorem RM_at (S : FVec Ideal S4x4x3x2048x2048 .f32) (b h : Fin 4) (g : Fin 3) (q : Fin 2048) :
    RM S (ix4 b h g q) = Finset.univ.fold max (⊥ : EReal) (fun s => S (ix5 b h g q s)) := by
  have hr : S4x4x3x2048x2048.Reduces [4] S4x4x3x2048 := by decide
  unfold RM
  rw [Host.reduce_eq_fold_single _ _ _ _ hr]
  simp only [Function.comp_def]
  have e : ∀ k : Fin 2048, hr.lift (ix4 b h g q) k = ix5 b h g q k := by
    intro k
    funext a
    apply Fin.ext
    fin_cases a <;> rfl
  have h0 : (constant S_ .f32 0xFF800000#32 : FVec Ideal S_ .f32) (Shape.Idx.first h_S_) = (⊥ : EReal) := Cert.Softmax.ofBits_neg_inf
  rw [h0]
  exact congrArg (fun f => Finset.univ.fold max (⊥ : EReal) f) (funext fun k => congrArg S (e k))

/-- An unnormalized weight at an index. -/
theorem EX_at (S : FVec Ideal S4x4x3x2048x2048 .f32) (M : FVec Ideal S4x4x3x2048 .f32) (b h : Fin 4) (g : Fin 3) (q s : Fin 2048) :
    EX S M (ix5 b h g q s) = Ideal.exp (S (ix5 b h g q s) - M (ix4 b h g q)) := by
  pointwise [EX]
  rw [Cert.Softmax.ofBits_neg_inf, max_eq_right bot_le]

/-- The result at an index, of its weights. -/
theorem OUT_at (X : FVec Ideal S8192x3072 .bf16) (E : FVec Ideal S4x4x3x2048x2048 .f32) (r : Fin 8192) (l : Fin 1536) :
    OUT X E (ix2 r l) = ∑ s : Fin 2048, X (ix2 ⟨r.val / 2048 * 2048 + s.val, by omega⟩ ⟨2048 + (l.val / 384 * 128 + l.val % 128), by omega⟩)
      * Ideal.div (E (ix5 ⟨r.val / 2048, by omega⟩ ⟨l.val / 384, by omega⟩ ⟨l.val / 128 % 3, by omega⟩ ⟨r.val % 2048, by omega⟩ s))
        (∑ s, E (ix5 ⟨r.val / 2048, by omega⟩ ⟨l.val / 384, by omega⟩ ⟨l.val / 128 % 3, by omega⟩ ⟨r.val % 2048, by omega⟩ s)) := by
  pointwise [OUT]

/-- The reference's result at an index is one component of one head, of the query row, key rows and value column that the
    index names. -/
theorem REF_at (X : FVec Ideal S8192x3072 .bf16) (r : Fin 8192) (l : Fin 1536) :
    REF X (ix2 r l) = headR
      (fun d => X (ix2 r ⟨l.val / 128 * 128 + d.val, by omega⟩))
      (fun s d => X (ix2 ⟨r.val / 2048 * 2048 + s.val, by omega⟩ ⟨1536 + (l.val / 384 * 128 + d.val), by omega⟩))
      (fun s => X (ix2 ⟨r.val / 2048 * 2048 + s.val, by omega⟩ ⟨2048 + (l.val / 384 * 128 + l.val % 128), by omega⟩)) := by
  unfold REF
  rw [OUT_at]
  have hE : ∀ s : Fin 2048, EX (SC X) (RM (SC X)) (ix5 ⟨r.val / 2048, by omega⟩ ⟨l.val / 384, by omega⟩ ⟨l.val / 128 % 3, by omega⟩ ⟨r.val % 2048, by omega⟩ s)
      = weight (fun d => X (ix2 r ⟨l.val / 128 * 128 + d.val, by omega⟩))
        (fun s d => X (ix2 ⟨r.val / 2048 * 2048 + s.val, by omega⟩ ⟨1536 + (l.val / 384 * 128 + d.val), by omega⟩)) s := by
    intro s
    rw [EX_at, RM_at]
    simp only [SC_at]
    have hq : ∀ d : Fin 128, X (ix2 ⟨r.val / 2048 * 2048 + r.val % 2048, by omega⟩ ⟨l.val / 384 * 384 + l.val / 128 % 3 * 128 + d.val, by omega⟩)
        = X (ix2 r ⟨l.val / 128 * 128 + d.val, by omega⟩) := by
      intro d
      congr 2
      · exact Fin.ext (by show r.val / 2048 * 2048 + r.val % 2048 = r.val; omega)
      · exact Fin.ext (by show l.val / 384 * 384 + l.val / 128 % 3 * 128 + d.val = l.val / 128 * 128 + d.val; omega)
    simp only [hq]
    rfl
  simp only [hE]
  rfl

end Cert.AttnRefIdeal.Attend
end
-- ==== Proof.AttnValue.lean ====
/- The attention call: the kernel's whole result is the reference's function of the argument, for real queries and keys. -/
module

public import proofs.«01_k».proof.Proof.Gen.AttnIdeal.Value
public import proofs.«01_k».proof.Proof.AttnReference
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.AttnIdeal.Attend

open Cert.AttnIdeal Cert.AttnIdeal.Gen Cert.Attend Cert.AttnRefIdeal.Attend

variable (m : (ℓ : Loc nD τ sig) → Buf (Elt Ideal) ℓ)

/-- The block that each window shows at a grid point. -/
theorem idx : ∀ t : Fin cfg0.N,
    win0_0.index t = ![t.val / 32 * 8 + t.val % 8, t.val / 8 % 4] ∧
    win0_1.index t = ![t.val / 32, 12 + t.val / 8 % 4] ∧
    win0_2.index t = ![t.val / 32, 16 + t.val / 8 % 4] ∧
    win0_3.index t = ![t.val / 32 * 8 + t.val % 8, t.val / 8 % 4] := (by decide +kernel : ∀ t : Fin grid0.N, _)

/-- One element of a stored tile against the reference's element at the same place of the result. -/
theorem head_at (c : Dev nD) (t : Fin cfg0.N)
    (hfin : ∀ (r : Fin 8192) (l : Fin 3072), l.val < 2048 → ∃ x : ℝ, (m ((c.tc : Thread nD τ).loc main_arg0) : FVec Ideal S8192x3072 .bf16) (ix2 r l) = (x : EReal))
    (r : Fin 256) (l : Fin 128) (g : Fin 3) (R : Fin 8192) (L : Fin 1536)
    (hR : R.val = (t.val / 32 * 8 + t.val % 8) * 256 + r.val) (hL : L.val = t.val / 8 % 4 * 384 + g.val * 128 + l.val) :
    headK (fun d => (iblk m c 0 t : FVec Ideal S256x384 .bf16) (ix2 r ⟨g.val * 128 + d.val, by omega⟩))
      (fun s d => (iblk m c 1 t : FVec Ideal S2048x128 .bf16) (ix2 s d))
      (fun s => (iblk m c 2 t : FVec Ideal S2048x128 .bf16) (ix2 s l))
      = REF (m ((c.tc : Thread nD τ).loc main_arg0)) (ix2 R L) := by
  have ht : t.val < 128 := lt_of_lt_of_eq t.isLt N_0
  have h0 : ∀ d : Fin 128, (iblk m c 0 t : FVec Ideal S256x384 .bf16) (ix2 r ⟨g.val * 128 + d.val, by omega⟩)
      = (m ((c.tc : Thread nD τ).loc main_arg0) : FVec Ideal S8192x3072 .bf16) (ix2 R ⟨L.val / 128 * 128 + d.val, by omega⟩) := by
    intro d
    blk_point [iblk, V, idx t]
  have h1 : ∀ (s : Fin 2048) (d : Fin 128), (iblk m c 1 t : FVec Ideal S2048x128 .bf16) (ix2 s d)
      = (m ((c.tc : Thread nD τ).loc main_arg0) : FVec Ideal S8192x3072 .bf16) (ix2 ⟨R.val / 2048 * 2048 + s.val, by omega⟩ ⟨1536 + (L.val / 384 * 128 + d.val), by omega⟩) := by
    intro s d
    blk_point [iblk, V, idx t]
  have h2 : ∀ (s : Fin 2048), (iblk m c 2 t : FVec Ideal S2048x128 .bf16) (ix2 s l)
      = (m ((c.tc : Thread nD τ).loc main_arg0) : FVec Ideal S8192x3072 .bf16) (ix2 ⟨R.val / 2048 * 2048 + s.val, by omega⟩ ⟨2048 + (L.val / 384 * 128 + L.val % 128), by omega⟩) := by
    intro s
    blk_point [iblk, V, idx t]
  rw [REF_at, ← headK_eq_headR]
  · simp only [h0, h1, h2]
  · intro d; exact hfin _ _ (by show L.val / 128 * 128 + d.val < 2048; omega)
  · intro s d; exact hfin _ _ (by show 1536 + (L.val / 384 * 128 + d.val) < 2048; omega)

/-- What one grid point writes is the reference's function on the block. -/
theorem point (c : Dev nD) (t : Fin cfg0.N)
    (hfin : ∀ (r : Fin 8192) (l : Fin 3072), l.val < 2048 → ∃ x : ℝ, (m ((c.tc : Thread nD τ).loc main_arg0) : FVec Ideal S8192x3072 .bf16) (ix2 r l) = (x : EReal))
    (y : S256x384.Idx) (R : Fin 8192) (L : Fin 1536)
    (hR : R.val = (t.val / 32 * 8 + t.val % 8) * 256 + (y 0).val) (hL : L.val = t.val / 8 % 4 * 384 + (y 1).val) :
    out0_3 (F := Ideal) (iblk m c 0 t) (iblk m c 1 t) (iblk m c 2 t) y = REF (m ((c.tc : Thread nD τ).loc main_arg0)) (ix2 R L) := by
  canon_tiles x h
  · idx_vars x
    rw [pay1_at]
    refine Eq.trans ?_ (head_at m c t hfin x0 x1 2 R L (by rw [hR, h0]) (by rw [hL, h1]; show _ = _ + 2 * 128 + _; omega))
    refine congr (congr (congrArg headK ?_) ?_) ?_
    · funext d; first | (blk_ext; done) | (pointwise; done)
    · funext s d; first | (blk_ext; done) | (pointwise; done)
    · funext s; first | (blk_ext; done) | (pointwise; done)
  · idx_vars x
    rw [pay3_at]
    refine Eq.trans ?_ (head_at m c t hfin x0 x1 1 R L (by rw [hR, h0]) (by rw [hL, h1]; show _ = _ + 1 * 128 + _; omega))
    refine congr (congr (congrArg headK ?_) ?_) ?_
    · funext d; first | (blk_ext; done) | (pointwise; done)
    · funext s d; first | (blk_ext; done) | (pointwise; done)
    · funext s; first | (blk_ext; done) | (pointwise; done)
  · idx_vars x
    rw [pay2_at]
    refine Eq.trans ?_ (head_at m c t hfin x0 x1 0 R L (by rw [hR, h0]) (by rw [hL, h1]; show _ = _ + 0 * 128 + _; omega))
    refine congr (congr (congrArg headK ?_) ?_) ?_
    · funext d; first | (blk_ext; done) | (pointwise; done)
    · funext s d; first | (blk_ext; done) | (pointwise; done)
    · funext s; first | (blk_ext; done) | (pointwise; done)

/-- The kernel's whole result array is the reference's function of the argument. -/
theorem final (c : Dev nD)
    (hfin : ∀ (r : Fin 8192) (l : Fin 3072), l.val < 2048 → ∃ x : ℝ, (m ((c.tc : Thread nD τ).loc main_arg0) : FVec Ideal S8192x3072 .bf16) (ix2 r l) = (x : EReal)) :
    (dats m 0 c).arrAt 3 (cfgs 0).N = REF (m ((c.tc : Thread nD τ).loc main_arg0)) := by
  refine (dats m 0 c).arrAt_eq_of_covers 3 _ (by decide +kernel) fun t hf y => ?_
  blk_simp
  rw [after0_3]
  have ht : t.val < 128 := lt_of_lt_of_eq t.isLt N_0
  have hy0 : (y 0).val < 256 := (y 0).isLt
  have hy1 : (y 1).val < 384 := (y 1).isLt
  refine (point m c t hfin y ⟨(t.val / 32 * 8 + t.val % 8) * 256 + (y 0).val, by omega⟩ ⟨t.val / 8 % 4 * 384 + (y 1).val, by omega⟩ rfl rfl).trans ?_
  blk_ext [idx t]

end Cert.AttnIdeal.Attend
end
-- ==== Proof.AttnClaims.lean ====
/- The claims about the attention call. -/
module

public import proofs.«01_k».proof.Defs
public import proofs.«01_k».proof.Proof.Gen.Attn.Frame
public import proofs.«01_k».proof.Proof.Gen.Pre_attn_finite
public import proofs.«01_k».proof.Proof.AttnValue
public import Idealize.ShloMosaic.Lib.ReduceAll
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.AttnClaims

theorem frame_p : Cert.quiescent_Attn := fun m ρ _ => Cert.Attn.Gen.frame m ρ
theorem frame_pi : Cert.quiescent_AttnIdeal := fun m ρ _ => Cert.AttnIdeal.Gen.frame m ρ
theorem frame_pi_pre : Cert.quiescent_AttnIdeal_pre_attn_finite := fun m ρ _ => Cert.AttnIdeal.Gen.frame m ρ
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
theorem frame_ri_pre : Cert.quiescent_AttnRefIdeal_pre_attn_finite := fun m ρ _ => frame_ri m ρ trivial

/-- The named constant is the real that the table gives it. -/
theorem preserves : Cert.preserves_Attn_AttnIdeal :=
  IdealRules.named_const.statement Cert.AttnIdeal.κ "inv_sqrt_d" .f32 0x3DB504F3#32 (((Real.sqrt 128)⁻¹ : ℝ) : EReal) rfl

/-- The precondition says that every query and every key component is a real. -/
theorem real_of_pre (X : FVec Ideal Cert.Pre_attn_finite.S8192x3072 .bf16) (h : Cert.Pre_attn_finite.fn (F := Ideal) X = fun _ => 1#1)
    (r : Fin 8192) (l : Fin 3072) (hl : l.val < 2048) : ∃ x : ℝ, X (ix2 r l) = (x : EReal) := by
  have e := congrFun h (Shape.Idx.first Cert.Pre_attn_finite.Gen.facts.h_S_)
  dsimp only [Cert.Pre_attn_finite.fn] at e
  have e2 := Host.reduce_andi_all _ _ _ _ _ e (ix2 r ⟨l.val, hl⟩)
  pointwise at e2
  refine Cert.Softmax.real_of_abs_lt_top ?_
  rw [Cert.Softmax.ofBits_inf] at e2
  have e3 : BitVec.ofBool (decide (max (X (ix2 r l)) (-X (ix2 r l)) < ⊤)) = 1#1 := e2
  by_contra hc
  rw [decide_eq_false hc] at e3
  exact absurd e3 (by decide)

/-- On real queries and keys the kernel's result is the reference's. -/
theorem algebraic : Cert.algebraic_AttnIdeal_AttnRefIdeal_pre_attn_finite := by
  intro m ρ m' ρ' hpre hagree
  refine ⟨_, Cert.AttnIdeal.Value.run_blocks (F := Ideal) m ρ, ?_⟩
  refine (θ_run Cert.AttnRefIdeal.defs _ _).mono (fun _ h c => ⟨(h c).1.trans ?_, (h c).2⟩)
    (Cert.AttnRefIdeal.Value.run (F := Ideal) m' ρ')
  refine (Cert.AttnRefIdeal.Attend.res_eq m' c).trans ?_
  rw [hagree c]
  exact (Cert.AttnIdeal.Attend.final m c fun r l hl => real_of_pre _ (hpre c) r l hl).symm

end Cert.Proof.AttnClaims
end
-- ==== Proof.FfnValue.lean ====
/- The experts' feed-forward call: the kernel's whole result is the reference's function of the arguments. -/
module

public import proofs.«01_k».proof.Proof.Gen.FfnIdeal.Value
public import proofs.«01_k».proof.Proof.Gen.FfnRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.FfnRefIdeal.Experts

open Cert.FfnRefIdeal Cert.FfnRefIdeal.Gen

/-- The reference's product of the rows with one of the two widening weights. -/
def WIDE (X : FVec Ideal S16384x2048 .bf16) (W : FVec Ideal S16x2048x1024 .f32) : FVec Ideal S16x4x256x1024 .f32 :=
  Host.dotGeneral dot_S16x4x256x2048_S16x2048x1024_S16x4x256x1024_3_1_12_2_0_0 none
    (shapeCast S16x4x256x2048 (extf .f32 X bitsLt_bf16_f32) shapeCasts_S16384x2048_S16x4x256x2048) W

/-- The reference's gated product of the two. -/
def GATED (A U : FVec Ideal S16x4x256x1024 .f32) : FVec Ideal S16x4x256x1024 .f32 :=
  mulf (mulf A (Host.divf (broadcastInDim S16x4x256x1024 ![] bcast_S_S16x4x256x1024 (constant S_ .f32 0x3F800000#32))
    (addf (broadcastInDim S16x4x256x1024 ![] bcast_S_S16x4x256x1024 (constant S_ .f32 0x3F800000#32)) (Host.exp (Host.negf A))))) U

/-- The reference's last product, in the layout of the result. -/
def DOWN (G : FVec Ideal S16x4x256x1024 .f32) (W : FVec Ideal S16x1024x2048 .f32) : FVec Ideal S16384x2048 .bf16 :=
  truncf .bf16 (shapeCast S16384x2048 (Host.dotGeneral dot_S16x4x256x1024_S16x1024x2048_S16x4x256x2048_3_1_12_2_0_0 none G W)
    shapeCasts_S16x4x256x2048_S16384x2048) bitsLt_bf16_f32

/-- The reference's function of the rows and the three weights. -/
def REF (X : FVec Ideal S16384x2048 .bf16) (Wg Wu : FVec Ideal S16x2048x1024 .f32) (Wd : FVec Ideal S16x1024x2048 .f32) : FVec Ideal S16384x2048 .bf16 :=
  DOWN (GATED (WIDE X Wg) (WIDE X Wu)) Wd

theorem WIDE_at (X : FVec Ideal S16384x2048 .bf16) (W : FVec Ideal S16x2048x1024 .f32) (e : Fin 16) (b : Fin 4) (r : Fin 256) (k : Fin 1024) :
    WIDE X W (ix4 e b r k) = ∑ d : Fin 2048, X (ix2 ⟨e.val * 1024 + b.val * 256 + r.val, by omega⟩ d) * W (ix3 e d k) := by
  pointwise [WIDE]

theorem GATED_at (A U : FVec Ideal S16x4x256x1024 .f32) (i : S16x4x256x1024.Idx) :
    GATED A U i = A i * Ideal.div 1 (1 + Ideal.exp (- A i)) * U i := by
  pointwise [GATED]

theorem DOWN_at (G : FVec Ideal S16x4x256x1024 .f32) (W : FVec Ideal S16x1024x2048 .f32) (R : Fin 16384) (j : Fin 2048) :
    DOWN G W (ix2 R j) = ∑ k : Fin 1024, G (ix4 ⟨R.val / 1024, by omega⟩ ⟨R.val / 256 % 4, by omega⟩ ⟨R.val % 256, by omega⟩ k) * W (ix3 ⟨R.val / 1024, by omega⟩ k j) := by
  pointwise [DOWN]

end Cert.FfnRefIdeal.Experts

namespace Cert.FfnIdeal.Experts

open Cert.FfnIdeal Cert.FfnIdeal.Gen

/-- Dividing `a` by `1 + exp (-a)` is multiplying it by the quotient of one by that, at the infinities too. -/
theorem silu (a : EReal) : Ideal.div a (1 + Ideal.exp (0 - a)) = a * Ideal.div 1 (1 + Ideal.exp (-a)) := by
  rw [zero_sub]
  have hy : (1 + Ideal.exp (-a) : EReal) ≠ 0 := by
    have h : (0 : EReal) ≤ Ideal.exp (-a) := by
      induction -a with
      | bot => exact le_refl _
      | top => exact le_top
      | coe r => exact EReal.coe_nonneg.mpr (Real.exp_pos r).le
    exact (lt_of_lt_of_le zero_lt_one (le_add_of_nonneg_right h)).ne'
  simp only [Ideal.div, if_neg hy, one_mul]

/-- One block's part of the last product. -/
theorem pay1_at (x : Vec Ideal S1024x2048 .bf16) (wg wu : Vec Ideal S1x2048x256 .f32) (wd : Vec Ideal S1x256x2048 .f32) (r : Fin 1024) (j : Fin 2048) :
    k0_pay1 (F := Ideal) x wg wu wd (ix2 r j) = ∑ k : Fin 256,
      ((∑ d : Fin 2048, x (ix2 r d) * wg (ix3 0 d k)) * Ideal.div 1 (1 + Ideal.exp (-∑ d : Fin 2048, x (ix2 r d) * wg (ix3 0 d k)))
        * ∑ d : Fin 2048, x (ix2 r d) * wu (ix3 0 d k)) * wd (ix3 0 k j) := by
  pointwise [k0_pay1]
  simp only [silu]

theorem pay2_at (x : Vec Ideal S1024x2048 .bf16) (wg wu : Vec Ideal S1x2048x256 .f32) (wd : Vec Ideal S1x256x2048 .f32) (y : S1024x2048.Idx) :
    k0_pay2 (F := Ideal) x wg wu wd y = k0_pay1 (F := Ideal) x wg wu wd y := by
  pointwise [k0_pay2]

theorem pay3_at (x : Vec Ideal S1024x2048 .bf16) (wg wu : Vec Ideal S1x2048x256 .f32) (wd : Vec Ideal S1x256x2048 .f32) (acc : Vec Ideal S1024x2048 .f32)
    (y : S1024x2048.Idx) : k0_pay3 (F := Ideal) x wg wu wd acc y = acc y + k0_pay1 (F := Ideal) x wg wu wd y := by
  pointwise [k0_pay3]

theorem pay4_at (acc : Vec Ideal S1024x2048 .f32) (y : S1024x2048.Idx) : k0_pay4 (F := Ideal) acc y = acc y := by
  pointwise [k0_pay4]

/-- The block that each window shows at a grid point. -/
theorem idx : ∀ t : Fin cfg0.N,
    win0_0.index t = ![t.val / 4, 0] ∧
    win0_1.index t = ![t.val / 4, 0, t.val % 4] ∧
    win0_2.index t = ![t.val / 4, 0, t.val % 4] ∧
    win0_3.index t = ![t.val / 4, t.val % 4, 0] ∧
    win0_4.index t = ![t.val / 4, 0] := (by decide +kernel : ∀ t : Fin grid0.N, _)

variable (m : (ℓ : Loc nD τ sig) → Buf (Elt Ideal) ℓ)

/-- What a grid point adds to the accumulator. -/
def part (c : Dev nD) (t : Fin cfg0.N) : Vec Ideal S1024x2048 .f32 :=
  k0_pay1 (F := Ideal) (iblk m c 0 t) (iblk m c 1 t) (iblk m c 2 t) (iblk m c 3 t)

/-- The accumulator at the last point of an expert's run is the sum of the four parts. -/
theorem scratch (c : Dev nD) (t : Fin cfg0.N) (ht : t.val % 4 = 4 - 1) (y : S1024x2048.Idx) :
    (outsAt0 m c t.val t.isLt).2 y = ∑ s : Fin 4, part m c ⟨4 * (t.val / 4) + s.val, Pipeline.run_point_lt_of_flush t ht s⟩ y := by
  rw [Pipeline.eq_sum_fin_of_reset_step_apply_of_flush (fun n h => (outsAt0 m c n h).2) 4 (fun _ => (0 : EReal)) (part m c)
    (fun t h y => by
      rw [outsAt0_A m c t h (by omega) (by omega)]; frame_out; rw [pay2_at, zero_add]; rfl)
    (fun t h y => by
      by_cases h3 : t.val % 4 = 3
      · rw [outsAt0_C m c t h (by omega) h3]; frame_out; rw [pay3_at]; exact congrArg (· + _) (congrFun ((Memref.isWhole_whole cc0_scratch0).read_unread _) y)
      · rw [outsAt0_B m c t h (by omega) h3]; frame_out; rw [pay3_at]; exact congrArg (· + _) (congrFun ((Memref.isWhole_whole cc0_scratch0).read_unread _) y))
    t ht y, zero_add]

/-- At the last point of an expert's run the output block is the accumulator. -/
theorem out_eq (c : Dev nD) (t : Fin cfg0.N) (ht : t.val % 4 = 3) (y : S1024x2048.Idx) :
    (outsAt0 m c t.val t.isLt).1 y = (outsAt0 m c t.val t.isLt).2 y := by
  rw [outsAt0_C m c t (by omega) (by omega) ht]
  frame_out
  rw [pay4_at]

open Cert.FfnRefIdeal.Experts in
/-- The kernel's whole result array is the reference's function of the arguments. -/
theorem final (c : Dev nD) : (dats m 0 c).arrAt 4 (cfgs 0).N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  have hm : t.val % 4 = 3 := (flush0_4 t).mp hf
  have ht : t.val < 64 := lt_of_lt_of_eq t.isLt N_0
  idx_vars y
  refine (out_eq m c t hm _).trans ((scratch m c t hm _).trans ?_)
  refine Eq.trans ?_ (Eq.trans (DOWN_at (GATED (WIDE (m ((c.tc : Thread nD τ).loc main_arg0)) (m ((c.tc : Thread nD τ).loc main_arg1))) (WIDE (m ((c.tc : Thread nD τ).loc main_arg0)) (m ((c.tc : Thread nD τ).loc main_arg2))))
    (m ((c.tc : Thread nD τ).loc main_arg3)) ⟨t.val / 4 * 1024 + y0.val, by omega⟩ y1).symm ?_)
  · simp only [part, pay1_at]
    refine Fin.sum_mul_add_congr fun s k hl => ?_
    rw [GATED_at, WIDE_at, WIDE_at]
    have hs : 4 * (t.val / 4) + s.val < cfg0.N := Pipeline.run_point_lt_of_flush t hm s
    have h0 : ∀ d : Fin 2048, (iblk m c 0 ⟨4 * (t.val / 4) + s.val, hs⟩ : FVec Ideal S1024x2048 .bf16) (ix2 y0 d)
        = (m ((c.tc : Thread nD τ).loc main_arg0) : FVec Ideal S16384x2048 .bf16) (ix2 ⟨(t.val / 4 * 1024 + y0.val) / 1024 * 1024 + (t.val / 4 * 1024 + y0.val) / 256 % 4 * 256 + (t.val / 4 * 1024 + y0.val) % 256, by omega⟩ d) := by
      intro d
      blk_point [iblk, V, idx ⟨4 * (t.val / 4) + s.val, hs⟩]
    have h1 : ∀ d : Fin 2048, (iblk m c 1 ⟨4 * (t.val / 4) + s.val, hs⟩ : FVec Ideal S1x2048x256 .f32) (ix3 0 d k)
        = (m ((c.tc : Thread nD τ).loc main_arg1) : FVec Ideal S16x2048x1024 .f32) (ix3 ⟨(t.val / 4 * 1024 + y0.val) / 1024, by omega⟩ d ⟨s.val * 256 + k.val, hl⟩) := by
      intro d
      blk_point [iblk, V, idx ⟨4 * (t.val / 4) + s.val, hs⟩]
    have h2 : ∀ d : Fin 2048, (iblk m c 2 ⟨4 * (t.val / 4) + s.val, hs⟩ : FVec Ideal S1x2048x256 .f32) (ix3 0 d k)
        = (m ((c.tc : Thread nD τ).loc main_arg2) : FVec Ideal S16x2048x1024 .f32) (ix3 ⟨(t.val / 4 * 1024 + y0.val) / 1024, by omega⟩ d ⟨s.val * 256 + k.val, hl⟩) := by
      intro d
      blk_point [iblk, V, idx ⟨4 * (t.val / 4) + s.val, hs⟩]
    have h3 : (iblk m c 3 ⟨4 * (t.val / 4) + s.val, hs⟩ : FVec Ideal S1x256x2048 .f32) (ix3 0 k y1)
        = (m ((c.tc : Thread nD τ).loc main_arg3) : FVec Ideal S16x1024x2048 .f32) (ix3 ⟨(t.val / 4 * 1024 + y0.val) / 1024, by omega⟩ ⟨s.val * 256 + k.val, hl⟩ y1) := by
      blk_point [iblk, V, idx ⟨4 * (t.val / 4) + s.val, hs⟩]
    simp only [h0, h1, h2, h3]
  · show DOWN _ _ _ = DOWN _ _ _
    blk_ext [idx t]

end Cert.FfnIdeal.Experts
end
-- ==== Proof.FfnClaims.lean ====
/- The claims about the experts' feed-forward call. -/
module

public import proofs.«01_k».proof.Defs
public import proofs.«01_k».proof.Proof.Gen.Ffn.Frame
public import proofs.«01_k».proof.Proof.FfnValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.FfnClaims

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

theorem preserves : Cert.preserves_Ffn_FfnIdeal := trivial

/-- The kernel's result is the reference's, for all arguments. -/
theorem algebraic : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨(h c).1.trans ?_, (h c).2⟩)
    (Cert.FfnRefIdeal.Value.run (F := Ideal) m' ρ')
  refine Eq.trans (b := Cert.FfnRefIdeal.Experts.REF (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))) rfl ?_
  obtain ⟨e0, e1, e2, e3⟩ := hagree c
  rw [e0, e1, e2, e3]
  exact (Cert.FfnIdeal.Experts.final m c).symm

end Cert.Proof.FfnClaims
end
-- ==== Proof.MmQValue.lean ====
/- The product that forms the cross attention's queries: the kernel's whole result is the reference's function of the arguments. -/
module

public import proofs.«01_k».proof.Proof.Gen.MmQIdeal.Value
public import proofs.«01_k».proof.Proof.Gen.MmQRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MmQRefIdeal.Product

open Cert.MmQRefIdeal Cert.MmQRefIdeal.Gen

/-- The reference's function of the rows and the weight. -/
def REF (X : FVec Ideal S8192x2048 .bf16) (W : FVec Ideal S2048x2048 .f32) : FVec Ideal S8192x2048 .bf16 :=
  truncf .bf16 (Host.dotGeneral dot_S8192x2048_S2048x2048_S8192x2048_1_0_0_1_n_n none (extf .f32 X bitsLt_bf16_f32) W) bitsLt_bf16_f32

theorem REF_at (X : FVec Ideal S8192x2048 .bf16) (W : FVec Ideal S2048x2048 .f32) (r : Fin 8192) (j : Fin 2048) :
    REF X W (ix2 r j) = ∑ d : Fin 2048, X (ix2 r d) * W (ix2 d j) := by
  pointwise [REF]

end Cert.MmQRefIdeal.Product

namespace Cert.MmQIdeal.Product

open Cert.MmQIdeal Cert.MmQIdeal.Gen Cert.MmQRefIdeal.Product

theorem pay1_at (x : Vec Ideal S1024x2048 .bf16) (w : Vec Ideal S2048x512 .f32) (r : Fin 1024) (j : Fin 512) :
    k0_pay1 (F := Ideal) x w (ix2 r j) = ∑ d : Fin 2048, x (ix2 r d) * w (ix2 d j) := by
  pointwise [k0_pay1]

/-- The block that each window shows at a grid point. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ)

/-- The kernel's whole result array is the reference's function of the arguments. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 32 := lt_of_lt_of_eq t.isLt N_0
  idx_vars y
  frame_out
  rw [pay1_at]
  refine Eq.trans ?_ (Eq.trans (REF_at (m ((c.tc : Thread nD τ).loc main_arg0)) (m ((c.tc : Thread nD τ).loc main_arg1))
    ⟨(t.val / 4) * 1024 + y0.val, by omega⟩ ⟨(t.val % 4) * 512 + y1.val, by omega⟩).symm ?_)
  · refine Fin.sum_fin_congr fun d => ?_
    blk_point [iblk, V, idx t]
  · show REF _ _ _ = REF _ _ _
    blk_ext [idx t]

end Cert.MmQIdeal.Product
end
-- ==== Proof.MmQClaims.lean ====
/- The claims about the call that forms the cross attention's queries. -/
module

public import proofs.«01_k».proof.Defs
public import proofs.«01_k».proof.Proof.Gen.MmQ.Frame
public import proofs.«01_k».proof.Proof.MmQValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.MmQClaims

theorem frame_p : Cert.quiescent_MmQ := fun m ρ _ => Cert.MmQ.Gen.frame m ρ
theorem frame_pi : Cert.quiescent_MmQIdeal := fun m ρ _ => Cert.MmQIdeal.Gen.frame m ρ
theorem frame_ri : Cert.quiescent_MmQRefIdeal := fun m ρ _ =>
  (θ_run Cert.MmQRefIdeal.defs _ _).mono (fun r h => ⟨fun c => (h c).2,
      Idealize.ShloMosaic.sem_eq_zero_of_no_sems (by decide) r.2⟩)
    (Cert.MmQRefIdeal.Value.run (F := Ideal) m ρ)

theorem preserves : Cert.preserves_MmQ_MmQIdeal := trivial

/-- The kernel's result is the reference's, for all arguments. -/
theorem algebraic : Cert.algebraic_MmQIdeal_MmQRefIdeal := by
  intro m ρ m' ρ' _ hagree
  refine ⟨_, Cert.MmQIdeal.Value.run_blocks (F := Ideal) m ρ, ?_⟩
  refine (θ_run Cert.MmQRefIdeal.defs _ _).mono (fun _ h c => ⟨(h c).1.trans ?_, (h c).2⟩)
    (Cert.MmQRefIdeal.Value.run (F := Ideal) m' ρ')
  refine Eq.trans (b := Cert.MmQRefIdeal.Product.REF (m' ((c.tc : Thread Cert.MmQRefIdeal.nD Cert.MmQRefIdeal.τ).loc Cert.MmQRefIdeal.main_arg0)) (m' ((c.tc : Thread Cert.MmQRefIdeal.nD Cert.MmQRefIdeal.τ).loc Cert.MmQRefIdeal.main_arg1))) rfl ?_
  obtain ⟨e0, e1⟩ := hagree c
  rw [e0, e1]
  exact (Cert.MmQIdeal.Product.final m c).symm

end Cert.Proof.MmQClaims
end
-- ==== Proof.MmKvValue.lean ====
/- The product that forms the cross attention's keys and values: the kernel's whole result is the reference's function of the arguments. -/
module

public import proofs.«01_k».proof.Proof.Gen.MmKvIdeal.Value
public import proofs.«01_k».proof.Proof.Gen.MmKvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MmKvRefIdeal.Product

open Cert.MmKvRefIdeal Cert.MmKvRefIdeal.Gen

/-- The reference's function of the rows and the weight. -/
def REF (X : FVec Ideal S1024x2048 .bf16) (W : FVec Ideal S2048x2048 .f32) : FVec Ideal S1024x2048 .bf16 :=
  truncf .bf16 (Host.dotGeneral dot_S1024x2048_S2048x2048_S1024x2048_1_0_0_1_n_n none (extf .f32 X bitsLt_bf16_f32) W) bitsLt_bf16_f32

theorem REF_at (X : FVec Ideal S1024x2048 .bf16) (W : FVec Ideal S2048x2048 .f32) (r : Fin 1024) (j : Fin 2048) :
    REF X W (ix2 r j) = ∑ d : Fin 2048, X (ix2 r d) * W (ix2 d j) := by
  pointwise [REF]

end Cert.MmKvRefIdeal.Product

namespace Cert.MmKvIdeal.Product

open Cert.MmKvIdeal Cert.MmKvIdeal.Gen Cert.MmKvRefIdeal.Product

theorem pay1_at (x : Vec Ideal S1024x2048 .bf16) (w : Vec Ideal S2048x512 .f32) (r : Fin 1024) (j : Fin 512) :
    k0_pay1 (F := Ideal) x w (ix2 r j) = ∑ d : Fin 2048, x (ix2 r d) * w (ix2 d j) := by
  pointwise [k0_pay1]

/-- The block that each window shows at a grid point. -/
theorem idx : ∀ t : Fin cfg0.N, win0_0.index t = ![0, 0] ∧ win0_1.index t = ![0, t.val] ∧ win0_2.index t = ![0, t.val] :=
  (by decide +kernel : ∀ t : Fin grid0.N, _)

variable (m : (ℓ : Loc nD τ sig) → Buf (Elt Ideal) ℓ)

/-- The kernel's whole result array is the reference's function of the arguments. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 4 := lt_of_lt_of_eq t.isLt N_0
  idx_vars y
  frame_out
  rw [pay1_at]
  refine Eq.trans ?_ (Eq.trans (REF_at (m ((c.tc : Thread nD τ).loc main_arg0)) (m ((c.tc : Thread nD τ).loc main_arg1))
    ⟨y0.val, by omega⟩ ⟨t.val * 512 + y1.val, by omega⟩).symm ?_)
  · refine Fin.sum_fin_congr fun d => ?_
    blk_point [iblk, V, idx t]
  · show REF _ _ _ = REF _ _ _
    blk_ext [idx t]

end Cert.MmKvIdeal.Product
end
-- ==== Proof.MmKvClaims.lean ====
/- The claims about the call that forms the cross attention's keys, and its values. -/
module

public import proofs.«01_k».proof.Defs
public import proofs.«01_k».proof.Proof.Gen.MmKv.Frame
public import proofs.«01_k».proof.Proof.MmKvValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.MmKvClaims

theorem frame_p : Cert.quiescent_MmKv := fun m ρ _ => Cert.MmKv.Gen.frame m ρ
theorem frame_pi : Cert.quiescent_MmKvIdeal := fun m ρ _ => Cert.MmKvIdeal.Gen.frame m ρ
theorem frame_ri : Cert.quiescent_MmKvRefIdeal := fun m ρ _ =>
  (θ_run Cert.MmKvRefIdeal.defs _ _).mono (fun r h => ⟨fun c => (h c).2,
      Idealize.ShloMosaic.sem_eq_zero_of_no_sems (by decide) r.2⟩)
    (Cert.MmKvRefIdeal.Value.run (F := Ideal) m ρ)

theorem preserves : Cert.preserves_MmKv_MmKvIdeal := trivial

/-- The kernel's result is the reference's, for all arguments. -/
theorem algebraic : Cert.algebraic_MmKvIdeal_MmKvRefIdeal := by
  intro m ρ m' ρ' _ hagree
  refine ⟨_, Cert.MmKvIdeal.Value.run_blocks (F := Ideal) m ρ, ?_⟩
  refine (θ_run Cert.MmKvRefIdeal.defs _ _).mono (fun _ h c => ⟨(h c).1.trans ?_, (h c).2⟩)
    (Cert.MmKvRefIdeal.Value.run (F := Ideal) m' ρ')
  refine Eq.trans (b := Cert.MmKvRefIdeal.Product.REF (m' ((c.tc : Thread Cert.MmKvRefIdeal.nD Cert.MmKvRefIdeal.τ).loc Cert.MmKvRefIdeal.main_arg0)) (m' ((c.tc : Thread Cert.MmKvRefIdeal.nD Cert.MmKvRefIdeal.τ).loc Cert.MmKvRefIdeal.main_arg1))) rfl ?_
  obtain ⟨e0, e1⟩ := hagree c
  rw [e0, e1]
  exact (Cert.MmKvIdeal.Product.final m c).symm

end Cert.Proof.MmKvClaims
end
-- ==== Proof.Rms.lean ====
/- The root-mean-square norm of a row of 2048 numbers, times a gain. -/
module

public import Idealize.ShloMosaic.Lib.Pointwise

@[expose] public section

set_option maxRecDepth 16384

noncomputable section

open Idealize.ShloMosaic Idealize.ShloMosaic.TcCoe Idealize.SL.Sem
open scoped BigOperators

namespace Cert.Rms

/-- The entry of the row at `j`, divided by the root of the mean square of the row plus 1e-6, times the gain at `j`. -/
def norm (row : Fin 2048 → EReal) (g : EReal) (j : Fin 2048) : EReal :=
  row j * Ideal.rsqrt (Ideal.div (∑ x, row x * row x) (Ideal.ofBits .f32 0x45000000#32) + Ideal.ofBits .f32 0x358637BD#32) * g

end Cert.Rms
end
-- ==== Proof.OutValue.lean ====
/- The attention layer's output product with the residual and the norm after it: the kernel's two results are the reference's functions of the arguments. -/
module

public import proofs.«01_k».proof.Proof.Gen.OutIdeal.Value
public import proofs.«01_k».proof.Proof.Gen.OutRefIdeal.Run
public import proofs.«01_k».proof.Proof.Rms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.OutRefIdeal.Residual

open Cert.OutRefIdeal Cert.OutRefIdeal.Gen

/-- The reference's first result: the residual plus the product of the joined heads with the weight. -/
def SUM (A : FVec Ideal S8192x1536 .bf16) (B : FVec Ideal S8192x512 .bf16) (W : FVec Ideal S2048x2048 .f32) (X : FVec Ideal S8192x2048 .f32) : FVec Ideal S8192x2048 .f32 :=
  addf X (Host.dotGeneral dot_S8192x2048_S2048x2048_S8192x2048_1_0_0_1_n_n none (extf .f32 (concatenate S8192x2048 1 [⟨S8192x1536, A⟩, ⟨S8192x512, B⟩] concatenates_S8192x1536_S8192x512_S8192x2048_d1) bitsLt_bf16_f32) W)

/-- The reference's second result from its first: the norm of every row. -/
def NORM (X : FVec Ideal S8192x2048 .f32) (g : FVec Ideal S2048 .f32) : FVec Ideal S8192x2048 .bf16 :=
  truncf .bf16 (mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) bitsLt_bf16_f32

/-- The reference's first result as a function of its arguments. -/
def REF (A : FVec Ideal S8192x1536 .bf16) (B : FVec Ideal S8192x512 .bf16) (W : FVec Ideal S2048x2048 .f32) (X : FVec Ideal S8192x2048 .f32) (g : FVec Ideal S2048 .f32) :
    FVec Ideal S8192x2048 .f32 := SUM A B W X

/-- The reference's second result as a function of its arguments. -/
def REFN (A : FVec Ideal S8192x1536 .bf16) (B : FVec Ideal S8192x512 .bf16) (W : FVec Ideal S2048x2048 .f32) (X : FVec Ideal S8192x2048 .f32) (g : FVec Ideal S2048 .f32) :
    FVec Ideal S8192x2048 .bf16 := NORM (SUM A B W X) g

theorem SUM_at (A : FVec Ideal S8192x1536 .bf16) (B : FVec Ideal S8192x512 .bf16) (W : FVec Ideal S2048x2048 .f32) (X : FVec Ideal S8192x2048 .f32)
    (r : Fin 8192) (j : Fin 2048) :
    SUM A B W X (ix2 r j) = X (ix2 r j) + (∑ d : Fin 1536, A (ix2 r d) * W (ix2 ⟨d.val, by omega⟩ j) + ∑ d : Fin 512, B (ix2 r d) * W (ix2 ⟨1536 + d.val, by omega⟩ j)) := by
  pointwise [SUM]

theorem NORM_at (X : FVec Ideal S8192x2048 .f32) (g : FVec Ideal S2048 .f32) (r : Fin 8192) (j : Fin 2048) :
    NORM X g (ix2 r j) = Cert.Rms.norm (fun x => X (ix2 r x)) (g (ix1 j)) j := by
  pointwise [NORM, Cert.Rms.norm]

end Cert.OutRefIdeal.Residual

namespace Cert.OutIdeal.Residual

open Cert.OutIdeal Cert.OutIdeal.Gen

theorem pay1_at (x : Vec Ideal S512x2048 .f32) (y : S512x2048.Idx) : k0_pay1 (F := Ideal) x y = x y := by
  pointwise [k0_pay1]

theorem pay3_at (w : Vec Ideal S512x2048 .f32) (acc : Vec Ideal S512x2048 .f32) (o : Vec Ideal S512x512 .bf16) (r : Fin 512) (j : Fin 2048) :
    k0_pay3 (F := Ideal) w acc o (ix2 r j) = acc (ix2 r j) + ∑ d : Fin 512, o (ix2 r d) * w (ix2 d j) := by
  pointwise [k0_pay3, k0_pay2]

theorem pay4_at (w : Vec Ideal S512x2048 .f32) (acc : Vec Ideal S512x2048 .f32) (o : Vec Ideal S512x512 .bf16) (r : Fin 512) (j : Fin 2048) :
    k0_pay4 (F := Ideal) w acc o (ix2 r j) = acc (ix2 r j) + ∑ d : Fin 512, o (ix2 r d) * w (ix2 d j) := by
  pointwise [k0_pay4, k0_pay2]

theorem pay5_at (acc : Vec Ideal S512x2048 .f32) (g : Vec Ideal S1x2048 .f32) (r : Fin 512) (j : Fin 2048) :
    k0_pay5 (F := Ideal) acc g (ix2 r j) = Cert.Rms.norm (fun x => acc (ix2 r x)) (g (ix2 0 j)) j := by
  pointwise [k0_pay5, Cert.Rms.norm]

/-- The block that each window shows at a grid point. -/
theorem idx : ∀ t : Fin cfg0.N,
    win0_0.index t = ![t.val / 4, min (t.val % 4) 2] ∧
    win0_1.index t = ![t.val / 4, 0] ∧
    win0_2.index t = ![t.val % 4, 0] ∧
    win0_3.index t = ![t.val / 4, 0] ∧
    win0_4.index t = ![0, 0] ∧
    win0_5.index t = ![t.val / 4, 0] ∧
    win0_6.index t = ![t.val / 4, 0] := (by decide +kernel : ∀ t : Fin grid0.N, _)

variable (m : (ℓ : Loc nD τ sig) → Buf (Elt Ideal) ℓ)

/-- The left factor's block at a grid point. -/
def left (c : Dev nD) (t : Fin cfg0.N) : FVec Ideal S512x512 .bf16 := if t.val % 4 = 3 then iblk m c 1 t else iblk m c 0 t

/-- A block's part of the product. -/
def part (c : Dev nD) (t : Fin cfg0.N) (y : S512x2048.Idx) : EReal :=
  ∑ d : Fin 512, left m c t (ix2 (y 0) d) * (iblk m c 2 t : FVec Ideal S512x2048 .f32) (ix2 d (y 1))

/-- What a grid point adds to the accumulator: its part of the product, and at a run's first point the residual too. -/
def term (c : Dev nD) (t : Fin cfg0.N) (y : S512x2048.Idx) : EReal :=
  @ite EReal (t.val % 4 = 0) _ (iblk m c 3 t y) 0 + part m c t y

/-- The accumulator at the last point of a row block's run. -/
theorem scratch (c : Dev nD) (t : Fin cfg0.N) (ht : t.val % 4 = 4 - 1) (y : S512x2048.Idx) :
    (outsAt0 m c t.val t.isLt).2.2 y = ∑ s : Fin 4, term m c ⟨4 * (t.val / 4) + s.val, Pipeline.run_point_lt_of_flush t ht s⟩ y := by
  rw [Pipeline.eq_sum_fin_of_reset_step_apply_of_flush (fun n h => (outsAt0 m c n h).2.2) 4 (fun _ => (0 : EReal)) (term m c)
    (fun t h y => by
      idx_vars y
      rw [outsAt0_A m c t h (by omega) (by omega) (by omega)]; frame_out; rw [pay3_at, pay1_at, zero_add, term, if_pos h, part, left, if_neg (by omega)]; rfl)
    (fun t h y => by
      idx_vars y
      by_cases h3 : t.val % 4 = 3
      · rw [outsAt0_C m c t h (by omega) h3 h3]; frame_out; rw [pay4_at, term, if_neg h, zero_add, part, left, if_pos h3]
        exact congrArg (· + _) (congrFun ((Memref.isWhole_whole cc0_scratch0).read_unread _) _)
      · rw [outsAt0_B m c t h (by omega) h3 h3]; frame_out; rw [pay3_at, term, if_neg h, zero_add, part, left, if_neg h3]
        exact congrArg (· + _) (congrFun ((Memref.isWhole_whole cc0_scratch0).read_unread _) _))
    t ht y, zero_add]

open Cert.OutRefIdeal.Residual in
/-- The finished accumulator is the reference's first result on the block. -/
theorem scratch_eq (c : Dev nD) (t : Fin cfg0.N) (ht : t.val % 4 = 4 - 1) (r : Fin 512) (j : Fin 2048) (R : Fin 8192) (hR : R.val = t.val / 4 * 512 + r.val) :
    (outsAt0 m c t.val t.isLt).2.2 (ix2 r j) = SUM (m ((c.tc : Thread nD τ).loc main_arg0)) (m ((c.tc : Thread nD τ).loc main_arg1))
      (m ((c.tc : Thread nD τ).loc main_arg2)) (m ((c.tc : Thread nD τ).loc main_arg3)) (ix2 R j) := by
  have hN : t.val < 64 := lt_of_lt_of_eq t.isLt N_0
  rw [scratch m c t ht, SUM_at]
  simp only [term]
  rw [Finset.sum_add_distrib]
  refine congr (congrArg HAdd.hAdd ?_) ?_
  · rw [Fin.sum_univ_four, if_pos (by show (4 * (t.val / 4) + 0) % 4 = 0; omega), if_neg (by show ¬(4 * (t.val / 4) + 1) % 4 = 0; omega),
      if_neg (by show ¬(4 * (t.val / 4) + 2) % 4 = 0; omega), if_neg (by show ¬(4 * (t.val / 4) + 3) % 4 = 0; omega), add_zero, add_zero, add_zero]
    have key : ∀ t' : Fin cfg0.N, t'.val / 4 = t.val / 4 → (iblk m c 3 t' : FVec Ideal S512x2048 .f32) (ix2 r j)
        = (m ((c.tc : Thread nD τ).loc main_arg3) : FVec Ideal S8192x2048 .f32) (ix2 R j) := by
      intro t' h'
      blk_point [iblk, V, idx t']
    exact key _ (by show (4 * (t.val / 4) + 0) / 4 = t.val / 4; omega)
  · rw [Fin.sum_univ_castSucc]
    refine congr (congrArg HAdd.hAdd ?_) ?_
    · refine Fin.sum_mul_add_congr fun s k hl => ?_
      have hs : 4 * (t.val / 4) + s.val < cfg0.N := by have := N_0; omega
      have e : left m c ⟨4 * (t.val / 4) + s.val, hs⟩ = iblk m c 0 ⟨4 * (t.val / 4) + s.val, hs⟩ := if_neg (by show ¬(4 * (t.val / 4) + s.val) % 4 = 3; omega)
      show left m c ⟨4 * (t.val / 4) + s.val, hs⟩ (ix2 r k) * (iblk m c 2 ⟨4 * (t.val / 4) + s.val, hs⟩ : FVec Ideal S512x2048 .f32) (ix2 k j) = _
      rw [e]
      blk_point [iblk, V, idx ⟨4 * (t.val / 4) + s.val, hs⟩]
    · refine Fin.sum_fin_congr fun k => ?_
      have hs : 4 * (t.val / 4) + 3 < cfg0.N := by have := N_0; omega
      have e : left m c ⟨4 * (t.val / 4) + 3, hs⟩ = iblk m c 1 ⟨4 * (t.val / 4) + 3, hs⟩ := if_pos (by show (4 * (t.val / 4) + 3) % 4 = 3; omega)
      show left m c ⟨4 * (t.val / 4) + 3, hs⟩ (ix2 r k) * (iblk m c 2 ⟨4 * (t.val / 4) + 3, hs⟩ : FVec Ideal S512x2048 .f32) (ix2 k j) = _
      rw [e]
      blk_point [iblk, V, idx ⟨4 * (t.val / 4) + 3, hs⟩]

/-- At the last point of a run the first output block is the accumulator. -/
theorem out_eq (c : Dev nD) (t : Fin cfg0.N) (ht : t.val % 4 = 3) (y : S512x2048.Idx) :
    (outsAt0 m c t.val t.isLt).1 y = (outsAt0 m c t.val t.isLt).2.2 y := by
  rw [outsAt0_C m c t (by omega) (by omega) ht ht]
  frame_out

/-- At the last point of a run the second output block is the norm of the accumulator's rows. -/
theorem norm_eq (c : Dev nD) (t : Fin cfg0.N) (ht : t.val % 4 = 3) (r : Fin 512) (j : Fin 2048) :
    (outsAt0 m c t.val t.isLt).2.1 (ix2 r j) = Cert.Rms.norm (fun x => (outsAt0 m c t.val t.isLt).2.2 (ix2 r x)) ((iblk m c 4 t : FVec Ideal S1x2048 .f32) (ix2 0 j)) j := by
  rw [outsAt0_C m c t (by omega) (by omega) ht ht]
  frame_out
  rw [pay5_at]

open Cert.OutRefIdeal.Residual in
/-- The kernel's first result array is the reference's. -/
theorem final (c : Dev nD) : (dats m 0 c).arrAt 5 (cfgs 0).N
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  have hm : t.val % 4 = 3 := (flush0_5 t).mp hf
  have ht : t.val < 64 := lt_of_lt_of_eq t.isLt N_0
  idx_vars y
  refine (out_eq m c t hm _).trans ((scratch_eq m c t hm y0 y1 ⟨t.val / 4 * 512 + y0.val, by omega⟩ rfl).trans ?_)
  show SUM _ _ _ _ _ = SUM _ _ _ _ _
  blk_ext [idx t]

open Cert.OutRefIdeal.Residual in
/-- The kernel's second result array is the reference's. -/
theorem finalN (c : Dev nD) : (dats m 0 c).arrAt 6 (cfgs 0).N
    = REFN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  have hm : t.val % 4 = 3 := (flush0_6 t).mp hf
  have ht : t.val < 64 := lt_of_lt_of_eq t.isLt N_0
  idx_vars y
  refine (norm_eq m c t hm y0 y1).trans ?_
  simp only [scratch_eq m c t hm y0 _ ⟨t.val / 4 * 512 + y0.val, by omega⟩ rfl]
  refine Eq.trans (congrArg (fun g => Cert.Rms.norm _ g y1) ?_) ((NORM_at (SUM (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) ⟨t.val / 4 * 512 + y0.val, by omega⟩ y1).symm.trans ?_)
  · blk_point [iblk, V, idx t]
  · show NORM _ _ _ = NORM _ _ _
    blk_ext [idx t]

end Cert.OutIdeal.Residual
end
-- ==== Proof.OutClaims.lean ====
/- The claims about the attention layer's output product, residual and norm. -/
module

public import proofs.«01_k».proof.Defs
public import proofs.«01_k».proof.Proof.Gen.Out.Frame
public import proofs.«01_k».proof.Proof.OutValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.OutClaims

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2.2,
      Idealize.ShloMosaic.sem_eq_zero_of_no_sems (by decide) r.2⟩)
    (Cert.OutRefIdeal.Value.run (F := Ideal) m ρ)

theorem preserves : Cert.preserves_Out_OutIdeal := trivial

/-- The kernel's results are the reference's, for all arguments. -/
theorem algebraic : Cert.algebraic_OutIdeal_OutRefIdeal := by
  intro m ρ m' ρ' _ hagree
  refine ⟨_, _, Cert.OutIdeal.Value.run_blocks (F := Ideal) m ρ, ?_⟩
  refine (θ_run Cert.OutRefIdeal.defs _ _).mono (fun _ h c => ⟨(h c).1.trans ?_, (h c).2.1.trans ?_, (h c).2.2⟩)
    (Cert.OutRefIdeal.Value.run (F := Ideal) m' ρ')
  · refine Eq.trans (b := Cert.OutRefIdeal.Residual.REF (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3)) (m' ((c.tc : Thread Cert.OutRefIdeal.nD Cert.OutRefIdeal.τ).loc Cert.OutRefIdeal.main_arg4))) rfl ?_
    obtain ⟨e0, e1, e2, e3, e4⟩ := hagree c
    rw [e0, e1, e2, e3, e4]
    exact (Cert.OutIdeal.Residual.final m c).symm
  · refine Eq.trans (b := Cert.OutRefIdeal.Residual.REFN (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3)) (m' ((c.tc : Thread Cert.OutRefIdeal.nD Cert.OutRefIdeal.τ).loc Cert.OutRefIdeal.main_arg4))) rfl ?_
    obtain ⟨e0, e1, e2, e3, e4⟩ := hagree c
    rw [e0, e1, e2, e3, e4]
    exact (Cert.OutIdeal.Residual.finalN m c).symm

end Cert.Proof.OutClaims
end
-- ==== Proof.Router.lean ====
/- The router's softmax over sixteen experts, laid out in 128 lanes of which the rest are masked, and the finiteness of a
   normalized row. -/
module

public import proofs.«01_k».proof.Proof.Softmax
public import proofs.«01_k».proof.Proof.Rms

@[expose] public section

set_option maxRecDepth 16384

noncomputable section

open Idealize.ShloMosaic Idealize.ShloMosaic.TcCoe Idealize.SL.Sem
open scoped BigOperators

namespace Cert.Router

/-- The logits in 128 lanes: past the sixteenth, negative infinity. -/
def lanes (s : Fin 16 → EReal) (l : Fin 128) : EReal := if h : l.val < 16 then s ⟨l.val, h⟩ else ⊥

/-- One lane of a softmax. -/
def soft {n : ℕ} (s : Fin n → EReal) (l : Fin n) : EReal :=
  Ideal.div (Ideal.exp (s l - Finset.univ.fold max (⊥ : EReal) s)) (∑ i, Ideal.exp (s i - Finset.univ.fold max (⊥ : EReal) s))

/-- The masked lanes do not change the maximum. -/
theorem fold_lanes (s : Fin 16 → EReal) : Finset.univ.fold max (⊥ : EReal) (lanes s) = Finset.univ.fold max (⊥ : EReal) s := by
  apply le_antisymm
  · rw [Finset.fold_max_le]
    refine ⟨bot_le, fun l _ => ?_⟩
    unfold lanes
    split
    · exact (Finset.le_fold_max _).2 (Or.inr ⟨_, Finset.mem_univ _, le_rfl⟩)
    · exact bot_le
  · rw [Finset.fold_max_le]
    refine ⟨bot_le, fun i _ => (Finset.le_fold_max _).2 (Or.inr ⟨⟨i.val, by omega⟩, Finset.mem_univ _, ?_⟩)⟩
    unfold lanes
    rw [dif_pos (show (⟨i.val, by omega⟩ : Fin 128).val < 16 from i.isLt)]

/-- For real logits the softmax over the masked lanes is the softmax over the sixteen, and zero past them. -/
theorem soft_lanes (s : Fin 16 → EReal) (hs : ∀ i, ∃ r : ℝ, s i = (r : EReal)) (l : Fin 128) :
    soft (lanes s) l = if h : l.val < 16 then soft s ⟨l.val, h⟩ else 0 := by
  choose r hr using hs
  obtain rfl : s = fun i => (r i : EReal) := funext hr
  obtain ⟨M, hM⟩ := Cert.Softmax.fold_max_real (by norm_num) r
  unfold soft
  rw [fold_lanes, hM]
  have hsum : (∑ i, Ideal.exp (lanes (fun i => (r i : EReal)) i - (M : EReal))) = ∑ i, Ideal.exp ((r i : EReal) - (M : EReal)) := by
    rw [show (∑ i, Ideal.exp (lanes (fun i => (r i : EReal)) i - (M : EReal)))
      = ∑ i : Fin (16 + 112), Ideal.exp (lanes (fun i => (r i : EReal)) i - (M : EReal)) from rfl, Fin.sum_univ_add]
    have h2 : ∀ i : Fin 112, Ideal.exp (lanes (fun i => (r i : EReal)) (Fin.natAdd 16 i) - (M : EReal)) = 0 := by
      intro i
      unfold lanes
      rw [dif_neg (by show ¬(16 + i.val < 16); omega), EReal.bot_sub]
      rfl
    simp only [h2, Finset.sum_const_zero, add_zero]
    refine Finset.sum_congr rfl fun i _ => ?_
    unfold lanes
    rw [dif_pos (show (Fin.castAdd 112 i).val < 16 from i.isLt)]
    rfl
  rw [hsum]
  unfold lanes
  split
  · rfl
  · have he : ∀ i, Ideal.exp ((r i : EReal) - (M : EReal)) = (Real.exp (r i - M) : EReal) := fun i => by
      rw [← EReal.coe_sub]; rfl
    simp only [he]
    rw [← Cert.Softmax.coe_sum]
    have hpos : 0 < ∑ i, Real.exp (r i - M) := Finset.sum_pos (fun i _ => Real.exp_pos _) ⟨⟨0, by norm_num⟩, Finset.mem_univ _⟩
    rw [Ideal.div_coe hpos.ne', EReal.bot_sub]
    show (0 : EReal) * _ = 0
    rw [zero_mul]

/-- The pattern of 2048 is the real 2048. -/
theorem ofBits_2048 : Ideal.ofBits .f32 0x45000000#32 = ((2048 : ℝ) : EReal) := by
  simp [Ideal.ofBits, Ideal.ieee, -EReal.coe_mul]; norm_num

/-- The pattern of the norm's small constant is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A normalized row times a real gain is real: a row with an infinite entry is normalized to zero. -/
theorem norm_real (row : Fin 2048 → EReal) (g : EReal) (hg : ∃ x : ℝ, g = (x : EReal)) (j : Fin 2048) :
    ∃ x : ℝ, Cert.Rms.norm row g j = (x : EReal) := by
  obtain ⟨γ, rfl⟩ := hg
  obtain ⟨e, he, hE⟩ := ofBits_eps
  unfold Cert.Rms.norm
  rw [ofBits_2048, hE]
  have hsq : ∀ x : EReal, 0 ≤ x * x := fun x => by
    induction x using EReal.rec with
    | bot => simp
    | coe r => rw [← EReal.coe_mul]; exact EReal.coe_nonneg.mpr (mul_self_nonneg r)
    | top => simp
  by_cases hall : ∀ x, ∃ r : ℝ, row x = (r : EReal)
  · choose r hr using hall
    simp only [hr, ← EReal.coe_mul, ← Cert.Softmax.coe_sum]
    rw [Ideal.div_coe (by norm_num), ← EReal.coe_mul, ← EReal.coe_add]
    have hp : 0 < (∑ x, r x * r x) * (1 / 2048 : ℝ) + e := by
      have : 0 ≤ ∑ x, r x * r x := Finset.sum_nonneg fun x _ => mul_self_nonneg _
      positivity
    refine ⟨r j * (Real.sqrt ((∑ x, r x * r x) * (1 / 2048 : ℝ) + e))⁻¹ * γ, ?_⟩
    have hrs : Ideal.rsqrt (((∑ x, r x * r x) * (1 / 2048 : ℝ) + e : ℝ) : EReal) = (((Real.sqrt ((∑ x, r x * r x) * (1 / 2048 : ℝ) + e))⁻¹ : ℝ) : EReal) := by
      show (if _ < 0 then _ else if _ = 0 then _ else _) = _
      rw [if_neg hp.le.not_gt, if_neg hp.ne']
    rw [hrs, EReal.coe_mul, EReal.coe_mul]
  · obtain ⟨x, hn⟩ := not_forall.1 hall
    have hx : ∀ r : ℝ, row x ≠ (r : EReal) := fun r e => hn ⟨r, e⟩
    have hxx : row x * row x = ⊤ := by
      have := hx
      generalize row x = y at this ⊢
      induction y using EReal.rec with
      | bot => rfl
      | coe r => exact absurd rfl (this r)
      | top => rfl
    have hS : (∑ x, row x * row x) = ⊤ :=
      top_le_iff.1 (hxx ▸ Finset.single_le_sum (f := fun x => row x * row x) (fun i _ => hsq _) (Finset.mem_univ x))
    rw [hS, Ideal.div_coe (by norm_num), EReal.top_mul_coe_of_pos (by norm_num), EReal.top_add_coe]
    refine ⟨0, ?_⟩
    show row j * 0 * _ = _
    rw [mul_zero, zero_mul]
    rfl

end Cert.Router
end
-- ==== Proof.CrossOutValue.lean ====
/- The cross attention's output product with the residual, the norm and the router's softmax after it: the kernel's three results are
   the reference's functions of the arguments. -/
module

public import proofs.«01_k».proof.Proof.Gen.CrossOutIdeal.Value
public import proofs.«01_k».proof.Proof.Gen.CrossOutRefIdeal.Run
public import proofs.«01_k».proof.Proof.Router
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.CrossOutRefIdeal.Routed

open Cert.CrossOutRefIdeal Cert.CrossOutRefIdeal.Gen

/-- The reference's first result: the residual plus the product with the weight. -/
def SUM (O : FVec Ideal S8192x2048 .bf16) (W : FVec Ideal S2048x2048 .f32) (X : FVec Ideal S8192x2048 .f32) : FVec Ideal S8192x2048 .f32 :=
  addf X (Host.dotGeneral dot_S8192x2048_S2048x2048_S8192x2048_1_0_0_1_n_n none (extf .f32 O bitsLt_bf16_f32) W)

/-- The norm of every row of the first result. -/
def HN (X : FVec Ideal S8192x2048 .f32) (g : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The router's logits. -/
def LG (H : FVec Ideal S8192x2048 .f32) (R : FVec Ideal S2048x16 .f32) : FVec Ideal S8192x16 .f32 :=
  Host.dotGeneral dot_S8192x2048_S2048x16_S8192x16_1_0_0_1_n_n none H R

/-- The row maxima of the logits. -/
def RM (L : FVec Ideal S8192x16 .f32) : FVec Ideal S8192 .f32 :=
  Host.reduce FloatOps.maximumf L (constant S_ .f32 0xFF800000#32) reducesTo_S8192x16_S8192_d1 h_S_

/-- The unnormalized weights. -/
def EX (L : FVec Ideal S8192x16 .f32) (M : FVec Ideal S8192 .f32) : FVec Ideal S8192x16 .f32 :=
  Host.exp (subf L (broadcastInDim S8192x16 ![0, 1] bcast_S8192x1_S8192x16_0_1 (broadcastInDim S8192x1 ![0] bcast_S8192_S8192x1_0
    (maximumf (broadcastInDim S8192 ![] bcast_S_S8192 (constant S_ .f32 0xFF800000#32)) M))))

/-- The normalized weights, with zeros past the sixteenth lane. -/
def AFF (E : FVec Ideal S8192x16 .f32) : FVec Ideal S8192x128 .f32 :=
  pad S8192x128 ![0, 0] ![0, 112] ![0, 0] (Host.divf E (broadcastInDim S8192x16 ![0, 1] bcast_S8192x1_S8192x16_0_1 (broadcastInDim S8192x1 ![0] bcast_S8192_S8192x1_0
    (Host.reduceAdd E (constant S_ .f32 0x00000000#32) reducesTo_S8192x16_S8192_d1 h_S_)))) (sitofp .f32 (constantI S_ 32 0#32)) pads_S8192x16_S8192x128_000_01120 h_S_

/-- The third result from the normalized rows. -/
def ROUTE (H : FVec Ideal S8192x2048 .f32) (R : FVec Ideal S2048x16 .f32) : FVec Ideal S8192x128 .f32 := AFF (EX (LG H R) (RM (LG H R)))

/-- The reference's first result as a function of its arguments. -/
def REF (O : FVec Ideal S8192x2048 .bf16) (W : FVec Ideal S2048x2048 .f32) (X : FVec Ideal S8192x2048 .f32) (g : FVec Ideal S2048 .f32) (R : FVec Ideal S2048x16 .f32) :
    FVec Ideal S8192x2048 .f32 := SUM O W X

/-- The reference's second result as a function of its arguments. -/
def REFN (O : FVec Ideal S8192x2048 .bf16) (W : FVec Ideal S2048x2048 .f32) (X : FVec Ideal S8192x2048 .f32) (g : FVec Ideal S2048 .f32) (R : FVec Ideal S2048x16 .f32) :
    FVec Ideal S8192x2048 .bf16 := truncf .bf16 (HN (SUM O W X) g) bitsLt_bf16_f32

/-- The reference's third result as a function of its arguments. -/
def REFA (O : FVec Ideal S8192x2048 .bf16) (W : FVec Ideal S2048x2048 .f32) (X : FVec Ideal S8192x2048 .f32) (g : FVec Ideal S2048 .f32) (R : FVec Ideal S2048x16 .f32) :
    FVec Ideal S8192x128 .f32 := ROUTE (HN (SUM O W X) g) R

theorem SUM_at (O : FVec Ideal S8192x2048 .bf16) (W : FVec Ideal S2048x2048 .f32) (X : FVec Ideal S8192x2048 .f32) (r : Fin 8192) (j : Fin 2048) :
    SUM O W X (ix2 r j) = X (ix2 r j) + ∑ d : Fin 2048, O (ix2 r d) * W (ix2 d j) := by
  pointwise [SUM]

theorem HN_at (X : FVec Ideal S8192x2048 .f32) (g : FVec Ideal S2048 .f32) (r : Fin 8192) (j : Fin 2048) :
    HN X g (ix2 r j) = Cert.Rms.norm (fun x => X (ix2 r x)) (g (ix1 j)) j := by
  pointwise [HN, Cert.Rms.norm]

theorem LG_at (H : FVec Ideal S8192x2048 .f32) (R : FVec Ideal S2048x16 .f32) (r : Fin 8192) (e : Fin 16) :
    LG H R (ix2 r e) = ∑ d : Fin 2048, H (ix2 r d) * R (ix2 d e) := by
  pointwise [LG]

theorem RM_at (L : FVec Ideal S8192x16 .f32) (r : Fin 8192) : RM L (ix1 r) = Finset.univ.fold max (⊥ : EReal) (fun e => L (ix2 r e)) := by
  have hr : S8192x16.Reduces [1] S8192 := by decide
  unfold RM
  rw [Host.reduce_eq_fold_single _ _ _ _ hr]
  simp only [Function.comp_def]
  have e : ∀ k : Fin 16, hr.lift (ix1 r) k = ix2 r k := by
    intro k
    funext a
    apply Fin.ext
    fin_cases a <;> rfl
  have h0 : (constant S_ .f32 0xFF800000#32 : FVec Ideal S_ .f32) (Shape.Idx.first h_S_) = (⊥ : EReal) := Cert.Softmax.ofBits_neg_inf
  rw [h0]
  exact congrArg (fun f => Finset.univ.fold max (⊥ : EReal) f) (funext fun k => congrArg L (e k))

theorem EX_at (L : FVec Ideal S8192x16 .f32) (M : FVec Ideal S8192 .f32) (r : Fin 8192) (e : Fin 16) :
    EX L M (ix2 r e) = Ideal.exp (L (ix2 r e) - M (ix1 r)) := by
  pointwise [EX]
  rw [Cert.Softmax.ofBits_neg_inf, max_eq_right bot_le]

theorem AFF_at (E : FVec Ideal S8192x16 .f32) (r : Fin 8192) (l : Fin 128) :
    AFF E (ix2 r l) = if h : l.val < 16 then Ideal.div (E (ix2 r ⟨l.val, h⟩)) (∑ e, E (ix2 r e)) else 0 := by
  have h0 : FloatOps.sitofp (F := Ideal) .f32 0#32 = (0 : EReal) := by
    show ((((0#32 : BitVec 32).toInt : ℤ) : ℝ) : EReal) = 0
    simp
  pointwise [AFF]
  rw [h0]

/-- The third result at an index: the softmax of the row's sixteen logits, zero past them. -/
theorem ROUTE_at (H : FVec Ideal S8192x2048 .f32) (R : FVec Ideal S2048x16 .f32) (r : Fin 8192) (l : Fin 128) :
    ROUTE H R (ix2 r l) = if h : l.val < 16 then Cert.Router.soft (fun e : Fin 16 => ∑ d : Fin 2048, H (ix2 r d) * R (ix2 d e)) ⟨l.val, h⟩ else 0 := by
  unfold ROUTE
  rw [AFF_at]
  simp only [EX_at, RM_at, LG_at]
  rfl

end Cert.CrossOutRefIdeal.Routed

namespace Cert.CrossOutIdeal.Routed

open Cert.CrossOutIdeal Cert.CrossOutIdeal.Gen

theorem pay1_at (x : Vec Ideal S512x2048 .f32) (y : S512x2048.Idx) : k0_pay1 (F := Ideal) x y = x y := by
  pointwise [k0_pay1]

theorem pay2_at (w : Vec Ideal S512x2048 .f32) (acc : Vec Ideal S512x2048 .f32) (o : Vec Ideal S512x512 .bf16) (r : Fin 512) (j : Fin 2048) :
    k0_pay2 (F := Ideal) w acc o (ix2 r j) = acc (ix2 r j) + ∑ d : Fin 512, o (ix2 r d) * w (ix2 d j) := by
  pointwise [k0_pay2]

theorem pay5_at (acc : Vec Ideal S512x2048 .f32) (g : Vec Ideal S1x2048 .f32) (r : Fin 512) (j : Fin 2048) :
    k0_pay5 (F := Ideal) acc g (ix2 r j) = Cert.Rms.norm (fun x => acc (ix2 r x)) (g (ix2 0 j)) j := by
  pointwise [k0_pay5, k0_pay4, Cert.Rms.norm]

theorem pay4_at (acc : Vec Ideal S512x2048 .f32) (g : Vec Ideal S1x2048 .f32) (r : Fin 512) (j : Fin 2048) :
    k0_pay4 (F := Ideal) acc g (ix2 r j) = Cert.Rms.norm (fun x => acc (ix2 r x)) (g (ix2 0 j)) j := by
  pointwise [k0_pay4, Cert.Rms.norm]

/-- The three products that the kernel adds, of the rows and their rounding errors with the weight and its rounding error. -/
theorem pay6_at (acc : Vec Ideal S512x2048 .f32) (g : Vec Ideal S1x2048 .f32) (hi hi' lo : Vec Ideal S2048x128 .bf16) (r : Fin 512) (l : Fin 128) :
    k0_pay6 (F := Ideal) acc g hi hi' lo (ix2 r l) = (∑ d : Fin 2048, k0_pay4 (F := Ideal) acc g (ix2 r d) * hi (ix2 d l))
      + (∑ d : Fin 2048, (k0_pay4 (F := Ideal) acc g (ix2 r d) - k0_pay4 (F := Ideal) acc g (ix2 r d)) * hi' (ix2 d l))
      + ∑ d : Fin 2048, k0_pay4 (F := Ideal) acc g (ix2 r d) * lo (ix2 d l) := by
  generalize hG : k0_pay4 (F := Ideal) acc g = G
  unfold k0_pay6
  rw [hG]
  pointwise

/-- The kernel's softmax over the masked lanes. -/
theorem pay3_at (X : FVec Ideal S512x128 .f32) (r : Fin 512) (l : Fin 128) :
    k0_pay3 (F := Ideal) X k0_pay7 (Scalar.ofBits .f32 0xFF800000#32) (ix2 r l)
      = Cert.Router.soft (fun l : Fin 128 => @ite EReal (l.val < 16) _ (X (ix2 r l)) ⊥) l := by
  have hm : ∀ l : Fin 128, Scalar.select (IntOp.cmpi CmpIPredicate.slt (BitVec.ofNat 32 l.val) 16#32) (X (ix2 r l)) (Ideal.ofBits FTy.f32 4286578688#32)
      = @ite EReal (l.val < 16) _ (X (ix2 r l)) ⊥ := by
    intro l
    rw [Cert.Softmax.ofBits_neg_inf]
    have h : IntOp.cmpi CmpIPredicate.slt (BitVec.ofNat 32 l.val) 16#32 = BitVec.ofBool (decide (l.val < 16)) := by
      revert l; decide
    rw [h]
    by_cases h16 : l.val < 16
    · rw [if_pos h16, decide_eq_true h16]; rfl
    · rw [if_neg h16, decide_eq_false h16]; rfl
  pointwise [k0_pay3, k0_pay7]
  simp only [hm]
  rw [Cert.Softmax.ofBits_neg_inf]
  rfl

/-- The block that each window shows at a grid point. -/
theorem idx : ∀ t : Fin cfg0.N,
    win0_0.index t = ![t.val / 4, t.val % 4] ∧
    win0_1.index t = ![t.val % 4, 0] ∧
    win0_2.index t = ![t.val / 4, 0] ∧
    win0_3.index t = ![0, 0] ∧
    win0_4.index t = ![0, 0] ∧
    win0_5.index t = ![0, 0] ∧
    win0_6.index t = ![t.val / 4, 0] ∧
    win0_7.index t = ![t.val / 4, 0] ∧
    win0_8.index t = ![t.val / 4, 0] := (by decide +kernel : ∀ t : Fin grid0.N, _)

variable (m : (ℓ : Loc nD τ sig) → Buf (Elt Ideal) ℓ)

/-- A block's part of the product. -/
def part (c : Dev nD) (t : Fin cfg0.N) (y : S512x2048.Idx) : EReal :=
  ∑ d : Fin 512, @HMul.hMul EReal EReal EReal _ ((iblk m c 0 t : FVec Ideal S512x512 .bf16) (ix2 (y 0) d)) ((iblk m c 1 t : FVec Ideal S512x2048 .f32) (ix2 d (y 1)))

/-- What a grid point adds to the accumulator: its part of the product, and at a run's first point the residual too. -/
def term (c : Dev nD) (t : Fin cfg0.N) (y : S512x2048.Idx) : EReal :=
  @ite EReal (t.val % 4 = 0) _ (iblk m c 2 t y) 0 + part m c t y

/-- The accumulator at the last point of a row block's run. -/
theorem scratch (c : Dev nD) (t : Fin cfg0.N) (ht : t.val % 4 = 4 - 1) (y : S512x2048.Idx) :
    (outsAt0 m c t.val t.isLt).2.2.2 y = ∑ s : Fin 4, term m c ⟨4 * (t.val / 4) + s.val, Pipeline.run_point_lt_of_flush t ht s⟩ y := by
  rw [Pipeline.eq_sum_fin_of_reset_step_apply_of_flush (fun n h => (outsAt0 m c n h).2.2.2) 4 (fun _ => (0 : EReal)) (term m c)
    (fun t h y => by
      idx_vars y
      rw [outsAt0_A m c t h (by omega)]; frame_out; rw [pay2_at, pay1_at, zero_add, term, if_pos h, part]; rfl)
    (fun t h y => by
      idx_vars y
      by_cases h3 : t.val % 4 = 3
      · rw [outsAt0_C m c t h h3]; frame_out; rw [pay2_at, term, if_neg h, zero_add, part]
        exact congrArg (· + _) (congrFun ((Memref.isWhole_whole cc0_scratch0).read_unread _) _)
      · rw [outsAt0_B m c t h h3]; frame_out; rw [pay2_at, term, if_neg h, zero_add, part]
        exact congrArg (· + _) (congrFun ((Memref.isWhole_whole cc0_scratch0).read_unread _) _))
    t ht y, zero_add]

open Cert.CrossOutRefIdeal.Routed in
/-- The finished accumulator is the reference's first result on the block. -/
theorem scratch_eq (c : Dev nD) (t : Fin cfg0.N) (ht : t.val % 4 = 4 - 1) (r : Fin 512) (j : Fin 2048) (R : Fin 8192) (hR : R.val = t.val / 4 * 512 + r.val) :
    (outsAt0 m c t.val t.isLt).2.2.2 (ix2 r j) = SUM (m ((c.tc : Thread nD τ).loc main_arg0)) (m ((c.tc : Thread nD τ).loc main_arg1)) (m ((c.tc : Thread nD τ).loc main_arg2)) (ix2 R j) := by
  have hN : t.val < 64 := lt_of_lt_of_eq t.isLt N_0
  rw [scratch m c t ht, SUM_at]
  simp only [term]
  rw [Finset.sum_add_distrib]
  refine congr (congrArg HAdd.hAdd ?_) ?_
  · rw [Fin.sum_univ_four, if_pos (by show (4 * (t.val / 4) + 0) % 4 = 0; omega), if_neg (by show ¬(4 * (t.val / 4) + 1) % 4 = 0; omega),
      if_neg (by show ¬(4 * (t.val / 4) + 2) % 4 = 0; omega), if_neg (by show ¬(4 * (t.val / 4) + 3) % 4 = 0; omega), add_zero, add_zero, add_zero]
    have key : ∀ t' : Fin cfg0.N, t'.val / 4 = t.val / 4 → (iblk m c 2 t' : FVec Ideal S512x2048 .f32) (ix2 r j)
        = (m ((c.tc : Thread nD τ).loc main_arg2) : FVec Ideal S8192x2048 .f32) (ix2 R j) := by
      intro t' h'
      blk_point [iblk, V, idx t']
    exact key _ (by show (4 * (t.val / 4) + 0) / 4 = t.val / 4; omega)
  · simp only [part]
    refine Fin.sum_mul_add_congr fun s k hl => ?_
    have hs : 4 * (t.val / 4) + s.val < cfg0.N := by have := N_0; omega
    blk_point [iblk, V, idx ⟨4 * (t.val / 4) + s.val, hs⟩]

/-- At the last point of a run the first output block is the accumulator. -/
theorem out_eq (c : Dev nD) (t : Fin cfg0.N) (ht : t.val % 4 = 3) (y : S512x2048.Idx) :
    (outsAt0 m c t.val t.isLt).1 y = (outsAt0 m c t.val t.isLt).2.2.2 y := by
  rw [outsAt0_C m c t (by omega) ht]
  frame_out

/-- At the last point of a run the second output block is the norm of the accumulator's rows. -/
theorem norm_eq (c : Dev nD) (t : Fin cfg0.N) (ht : t.val % 4 = 3) (r : Fin 512) (j : Fin 2048) :
    (outsAt0 m c t.val t.isLt).2.1 (ix2 r j) = Cert.Rms.norm (fun x => (outsAt0 m c t.val t.isLt).2.2.2 (ix2 r x)) ((iblk m c 3 t : FVec Ideal S1x2048 .f32) (ix2 0 j)) j := by
  rw [outsAt0_C m c t (by omega) ht]
  frame_out
  rw [pay5_at]

/-- At the last point of a run the third output block is the kernel's softmax of its logits. -/
theorem aff_eq (c : Dev nD) (t : Fin cfg0.N) (ht : t.val % 4 = 3) (r : Fin 512) (l : Fin 128) :
    (outsAt0 m c t.val t.isLt).2.2.1 (ix2 r l) = Cert.Router.soft (fun l : Fin 128 => @ite EReal (l.val < 16) _
      (k0_pay6 (F := Ideal) (outsAt0 m c t.val t.isLt).2.2.2 (iblk m c 3 t) (iblk m c 4 t) (iblk m c 4 t) (iblk m c 5 t) (ix2 r l)) ⊥) l := by
  rw [outsAt0_C m c t (by omega) ht]
  frame_out
  exact pay3_at _ r l

/-- The router's weight with zero columns past the sixteenth. -/
def PADR (R : FVec Ideal S2048x16 .f32) : FVec Ideal S2048x128 .f32 :=
  pad S2048x128 ![0, 0] ![0, 112] ![0, 0] R (sitofp .f32 (constantI S_ 32 0#32)) pads_S2048x16_S2048x128_000_01120 h_S_

theorem PADR_at (R : FVec Ideal S2048x16 .f32) (d : Fin 2048) (l : Fin 128) (h : l.val < 16) : PADR R (ix2 d l) = R (ix2 d ⟨l.val, h⟩) := by
  pointwise [PADR]
  simp [h]

/-- The gain's row at a grid point. -/
theorem gain_at (c : Dev nD) (t : Fin cfg0.N) (j : Fin 2048) :
    (iblk m c 3 t : FVec Ideal S1x2048 .f32) (ix2 0 j) = (m ((c.tc : Thread nD τ).loc main_arg3) : FVec Ideal S2048 .f32) (ix1 j) := by
  have h : ∀ y : S1x2048.Idx, V m c main_v5 y = m ((c.tc : Thread nD τ).loc main_arg3) (ix1 (y 1)) := by
    intro y
    simp only [V, hostOps0, hostOps0_1, hostOps0_2, List.flatten_cons, List.flatten_nil, List.append_nil, List.cons_append, List.nil_append]
    entry_read
    idx_vars y
    pointwise
  refine Eq.trans (b := V m c main_v5 ((win0_3.blk t).view.emb (ix2 0 j))) rfl ?_
  rw [h]
  blk_ext [idx t]

/-- The rounded router's weight at a grid point. -/
theorem hi_at (c : Dev nD) (t : Fin cfg0.N) (d : Fin 2048) (l : Fin 128) :
    (iblk m c 4 t : FVec Ideal S2048x128 .bf16) (ix2 d l) = PADR (m ((c.tc : Thread nD τ).loc main_arg4)) (ix2 d l) := by
  have h : ∀ y : S2048x128.Idx, V m c main_v1 y = PADR (m ((c.tc : Thread nD τ).loc main_arg4)) y := by
    intro y
    simp only [V, hostOps0, hostOps0_1, hostOps0_2, List.flatten_cons, List.flatten_nil, List.append_nil, List.cons_append, List.nil_append]
    entry_read
    rfl
  refine Eq.trans (b := V m c main_v1 ((win0_4.blk t).view.emb (ix2 d l))) rfl ?_
  rw [h]
  blk_ext [idx t]

/-- The rounding error of the router's weight at a grid point. -/
theorem lo_at (c : Dev nD) (t : Fin cfg0.N) (d : Fin 2048) (l : Fin 128) :
    (iblk m c 5 t : FVec Ideal S2048x128 .bf16) (ix2 d l)
      = PADR (m ((c.tc : Thread nD τ).loc main_arg4)) (ix2 d l) - PADR (m ((c.tc : Thread nD τ).loc main_arg4)) (ix2 d l) := by
  have h : ∀ y : S2048x128.Idx, V m c main_v4 y = PADR (m ((c.tc : Thread nD τ).loc main_arg4)) y - PADR (m ((c.tc : Thread nD τ).loc main_arg4)) y := by
    intro y
    simp only [V, hostOps0, hostOps0_1, hostOps0_2, List.flatten_cons, List.flatten_nil, List.append_nil, List.cons_append, List.nil_append]
    entry_read
    rfl
  refine Eq.trans (b := V m c main_v4 ((win0_5.blk t).view.emb (ix2 d l))) rfl ?_
  rw [h]
  have e : PADR (m ((c.tc : Thread nD τ).loc main_arg4)) ((win0_5.blk t).view.emb (ix2 d l)) = PADR (m ((c.tc : Thread nD τ).loc main_arg4)) (ix2 d l) := by
    blk_ext [idx t]
  exact congr (congrArg HSub.hSub e) e

open Cert.CrossOutRefIdeal.Routed in
/-- The kernel's first result array is the reference's. -/
theorem final (c : Dev nD) : (dats m 0 c).arrAt 6 (cfgs 0).N
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  have hm : t.val % 4 = 3 := (flush0_6 t).mp hf
  have ht : t.val < 64 := lt_of_lt_of_eq t.isLt N_0
  idx_vars y
  refine (out_eq m c t hm _).trans ((scratch_eq m c t hm y0 y1 ⟨t.val / 4 * 512 + y0.val, by omega⟩ rfl).trans ?_)
  show SUM _ _ _ _ = SUM _ _ _ _
  blk_ext [idx t]

open Cert.CrossOutRefIdeal.Routed in
/-- The kernel's second result array is the reference's. -/
theorem finalN (c : Dev nD) : (dats m 0 c).arrAt 7 (cfgs 0).N
    = REFN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7]
  have hm : t.val % 4 = 3 := (flush0_7 t).mp hf
  have ht : t.val < 64 := lt_of_lt_of_eq t.isLt N_0
  idx_vars y
  refine (norm_eq m c t hm y0 y1).trans ?_
  simp only [scratch_eq m c t hm y0 _ ⟨t.val / 4 * 512 + y0.val, by omega⟩ rfl, gain_at]
  refine (HN_at (SUM (m ((c.tc : Thread nD τ).loc main_arg0)) (m ((c.tc : Thread nD τ).loc main_arg1)) (m ((c.tc : Thread nD τ).loc main_arg2))) (m ((c.tc : Thread nD τ).loc main_arg3)) ⟨t.val / 4 * 512 + y0.val, by omega⟩ y1).symm.trans ?_
  show HN _ _ _ = HN _ _ _
  blk_ext [idx t]

open Cert.CrossOutRefIdeal.Routed in
/-- The kernel's logit in one of the first sixteen lanes is the reference's, for a real gain and a real router's weight. -/
theorem logit_eq (c : Dev nD) (t : Fin cfg0.N) (ht : t.val % 4 = 3) (hg : ∀ j, ∃ x : ℝ, m ((c.tc : Thread nD τ).loc main_arg3) j = (x : EReal))
    (hr : ∀ i, ∃ x : ℝ, m ((c.tc : Thread nD τ).loc main_arg4) i = (x : EReal))
    (r : Fin 512) (l : Fin 128) (h : l.val < 16) (R : Fin 8192) (hR : R.val = t.val / 4 * 512 + r.val) :
    k0_pay6 (F := Ideal) (outsAt0 m c t.val t.isLt).2.2.2 (iblk m c 3 t) (iblk m c 4 t) (iblk m c 4 t) (iblk m c 5 t) (ix2 r l)
      = LG (HN (SUM (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)) (ix2 R ⟨l.val, h⟩) := by
  have hN : ∀ d : Fin 2048, k0_pay4 (F := Ideal) (outsAt0 m c t.val t.isLt).2.2.2 (iblk m c 3 t) (ix2 r d)
      = HN (SUM (m ((c.tc : Thread nD τ).loc main_arg0)) (m ((c.tc : Thread nD τ).loc main_arg1)) (m ((c.tc : Thread nD τ).loc main_arg2))) (m ((c.tc : Thread nD τ).loc main_arg3)) (ix2 R d) := by
    intro d
    rw [pay4_at, HN_at]
    simp only [scratch_eq m c t ht r _ R hR, gain_at]
  have hz : ∀ x : EReal, (∃ a : ℝ, x = (a : EReal)) → x - x = 0 := by
    rintro _ ⟨a, rfl⟩
    rw [← EReal.coe_sub, sub_self]
    rfl
  rw [pay6_at, LG_at]
  simp only [hN, hi_at, lo_at, PADR_at _ _ l h]
  rw [Finset.sum_eq_zero (f := fun d => (HN _ _ (ix2 R d) - HN _ _ (ix2 R d)) * _) fun d _ => ?_, Finset.sum_eq_zero (f := fun d => HN _ _ (ix2 R d) * (_ - _)) fun d _ => ?_,
    add_zero, add_zero]
  · rw [hz _ (hr _)]; exact mul_zero _
  · rw [hz _ (by rw [HN_at]; exact Cert.Router.norm_real _ _ (hg _) _)]; exact zero_mul _

open Cert.CrossOutRefIdeal.Routed in
/-- The kernel's third result array is the reference's. -/
theorem finalA (c : Dev nD)
    (hg : ∀ j, ∃ x : ℝ, m ((c.tc : Thread nD τ).loc main_arg3) j = (x : EReal)) (hr : ∀ i, ∃ x : ℝ, m ((c.tc : Thread nD τ).loc main_arg4) i = (x : EReal)) : (dats m 0 c).arrAt 8 (cfgs 0).N
    = REFA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  blk_simp
  rw [after0_8]
  have hm : t.val % 4 = 3 := (flush0_8 t).mp hf
  have ht : t.val < 64 := lt_of_lt_of_eq t.isLt N_0
  idx_vars y
  refine (aff_eq m c t hm y0 y1).trans ?_
  have hl : (fun l : Fin 128 => @ite EReal (l.val < 16) _
      (k0_pay6 (F := Ideal) (outsAt0 m c t.val t.isLt).2.2.2 (iblk m c 3 t) (iblk m c 4 t) (iblk m c 4 t) (iblk m c 5 t) (ix2 y0 l)) ⊥)
      = Cert.Router.lanes (fun e => LG (HN (SUM (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)) (ix2 (⟨t.val / 4 * 512 + y0.val, by omega⟩ : Fin 8192) e)) := by
    funext l
    unfold Cert.Router.lanes
    by_cases h : l.val < 16
    · rw [if_pos h, dif_pos h]; exact logit_eq m c t hm hg hr y0 l h _ rfl
    · rw [if_neg h, dif_neg h]
  rw [hl, Cert.Router.soft_lanes _ fun e => ?_]
  · refine Eq.trans ?_ ((ROUTE_at (HN (SUM (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)) ⟨t.val / 4 * 512 + y0.val, by omega⟩ y1).symm.trans ?_)
    · simp only [LG_at]
    · show ROUTE _ _ _ = ROUTE _ _ _
      blk_ext [idx t]
  · have h1 := Cert.Softmax.score_real (fun d : Fin 2048 => HN (SUM (m ((c.tc : Thread nD τ).loc main_arg0)) (m ((c.tc : Thread nD τ).loc main_arg1)) (m ((c.tc : Thread nD τ).loc main_arg2))) (m ((c.tc : Thread nD τ).loc main_arg3)) (ix2 (⟨t.val / 4 * 512 + y0.val, by omega⟩ : Fin 8192) d))
      (fun d => (m ((c.tc : Thread nD τ).loc main_arg4)) (ix2 d e)) (fun d => by rw [HN_at]; exact Cert.Router.norm_real _ _ (hg _) _) (fun d => hr _) 1 ⟨1, rfl⟩
    rw [mul_one] at h1
    rw [LG_at]
    exact h1

end Cert.CrossOutIdeal.Routed
end
-- ==== Proof.CrossOutClaims.lean ====
/- The claims about the cross attention's output call. -/
module

public import proofs.«01_k».proof.Defs
public import proofs.«01_k».proof.Proof.Gen.CrossOut.Frame
public import proofs.«01_k».proof.Proof.Gen.Pre_cross_out_finite
public import proofs.«01_k».proof.Proof.CrossOutValue
public import proofs.«01_k».proof.Proof.Softmax
public import Idealize.ShloMosaic.Lib.ReduceAll
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.CrossOutClaims

theorem frame_p : Cert.quiescent_CrossOut := fun m ρ _ => Cert.CrossOut.Gen.frame m ρ
theorem frame_pi : Cert.quiescent_CrossOutIdeal := fun m ρ _ => Cert.CrossOutIdeal.Gen.frame m ρ
theorem frame_pi_pre : Cert.quiescent_CrossOutIdeal_pre_cross_out_finite := fun m ρ _ => Cert.CrossOutIdeal.Gen.frame m ρ
theorem frame_ri : Cert.quiescent_CrossOutRefIdeal := fun m ρ _ =>
  (θ_run Cert.CrossOutRefIdeal.defs _ _).mono (fun r h => ⟨fun c => (h c).2.2.2,
      Idealize.ShloMosaic.sem_eq_zero_of_no_sems (by decide) r.2⟩)
    (Cert.CrossOutRefIdeal.Value.run (F := Ideal) m ρ)
theorem frame_ri_pre : Cert.quiescent_CrossOutRefIdeal_pre_cross_out_finite := fun m ρ _ => frame_ri m ρ trivial

/-- The precondition says that every entry of the gain is a real. -/
theorem gain_real (O : FVec Ideal Cert.Pre_cross_out_finite.S8192x2048 .bf16) (W : FVec Ideal Cert.Pre_cross_out_finite.S2048x2048 .f32) (X : FVec Ideal Cert.Pre_cross_out_finite.S8192x2048 .f32)
    (g : FVec Ideal Cert.Pre_cross_out_finite.S2048 .f32) (R : FVec Ideal Cert.Pre_cross_out_finite.S2048x16 .f32)
    (h : Cert.Pre_cross_out_finite.fn (F := Ideal) O W X g R = fun _ => 1#1) (i : Cert.Pre_cross_out_finite.S2048.Idx) : ∃ x : ℝ, g i = (x : EReal) := by
  have e := congrFun h (Shape.Idx.first Cert.Pre_cross_out_finite.Gen.facts.h_S_)
  dsimp only [Cert.Pre_cross_out_finite.fn] at e
  have e2 := Host.reduce_andi_all _ _ _ _ _ (IntOp.andi_eq_one.1 e).1 i
  idx_vars i
  pointwise at e2
  refine Cert.Softmax.real_of_abs_lt_top ?_
  rw [Cert.Softmax.ofBits_inf] at e2
  have e3 : BitVec.ofBool (decide (max (g (ix1 i0)) (-g (ix1 i0)) < ⊤)) = 1#1 := e2
  by_contra hc
  rw [decide_eq_false hc] at e3
  exact absurd e3 (by decide)

/-- The precondition says that every entry of the router's weight is a real. -/
theorem router_real (O : FVec Ideal Cert.Pre_cross_out_finite.S8192x2048 .bf16) (W : FVec Ideal Cert.Pre_cross_out_finite.S2048x2048 .f32) (X : FVec Ideal Cert.Pre_cross_out_finite.S8192x2048 .f32)
    (g : FVec Ideal Cert.Pre_cross_out_finite.S2048 .f32) (R : FVec Ideal Cert.Pre_cross_out_finite.S2048x16 .f32)
    (h : Cert.Pre_cross_out_finite.fn (F := Ideal) O W X g R = fun _ => 1#1) (i : Cert.Pre_cross_out_finite.S2048x16.Idx) : ∃ x : ℝ, R i = (x : EReal) := by
  have e := congrFun h (Shape.Idx.first Cert.Pre_cross_out_finite.Gen.facts.h_S_)
  dsimp only [Cert.Pre_cross_out_finite.fn] at e
  have e2 := Host.reduce_andi_all _ _ _ _ _ (IntOp.andi_eq_one.1 e).2 i
  idx_vars i
  pointwise at e2
  refine Cert.Softmax.real_of_abs_lt_top ?_
  rw [Cert.Softmax.ofBits_inf] at e2
  have e3 : BitVec.ofBool (decide (max (R (ix2 i0 i1)) (-R (ix2 i0 i1)) < ⊤)) = 1#1 := e2
  by_contra hc
  rw [decide_eq_false hc] at e3
  exact absurd e3 (by decide)

/-- The two kernel programs are the same text. -/
theorem preserves : Cert.preserves_CrossOut_CrossOutIdeal := trivial

/-- For a real gain and a real router's weight the kernel's three results are the reference's. -/
theorem algebraic : Cert.algebraic_CrossOutIdeal_CrossOutRefIdeal_pre_cross_out_finite := by
  intro m ρ m' ρ' hpre hagree
  refine ⟨_, _, _, Cert.CrossOutIdeal.Value.run_blocks (F := Ideal) m ρ, ?_⟩
  refine (θ_run Cert.CrossOutRefIdeal.defs _ _).mono (fun _ h c => ⟨(h c).1.trans ?_, (h c).2.1.trans ?_, (h c).2.2.1.trans ?_, (h c).2.2.2⟩)
    (Cert.CrossOutRefIdeal.Value.run (F := Ideal) m' ρ')
  · refine Eq.trans (b := Cert.CrossOutRefIdeal.Routed.REF (m' ((c.tc : Thread Cert.CrossOutRefIdeal.nD Cert.CrossOutRefIdeal.τ).loc Cert.CrossOutRefIdeal.main_arg0)) (m' ((c.tc : Thread Cert.CrossOutRefIdeal.nD Cert.CrossOutRefIdeal.τ).loc Cert.CrossOutRefIdeal.main_arg1)) (m' ((c.tc : Thread Cert.CrossOutRefIdeal.nD Cert.CrossOutRefIdeal.τ).loc Cert.CrossOutRefIdeal.main_arg2)) (m' ((c.tc : Thread Cert.CrossOutRefIdeal.nD Cert.CrossOutRefIdeal.τ).loc Cert.CrossOutRefIdeal.main_arg3)) (m' ((c.tc : Thread Cert.CrossOutRefIdeal.nD Cert.CrossOutRefIdeal.τ).loc Cert.CrossOutRefIdeal.main_arg4))) rfl ?_
    obtain ⟨e0, e1, e2, e3, e4⟩ := hagree c
    rw [e0, e1, e2, e3, e4]
    exact (Cert.CrossOutIdeal.Routed.final m c).symm
  · refine Eq.trans (b := Cert.CrossOutRefIdeal.Routed.REFN (m' ((c.tc : Thread Cert.CrossOutRefIdeal.nD Cert.CrossOutRefIdeal.τ).loc Cert.CrossOutRefIdeal.main_arg0)) (m' ((c.tc : Thread Cert.CrossOutRefIdeal.nD Cert.CrossOutRefIdeal.τ).loc Cert.CrossOutRefIdeal.main_arg1)) (m' ((c.tc : Thread Cert.CrossOutRefIdeal.nD Cert.CrossOutRefIdeal.τ).loc Cert.CrossOutRefIdeal.main_arg2)) (m' ((c.tc : Thread Cert.CrossOutRefIdeal.nD Cert.CrossOutRefIdeal.τ).loc Cert.CrossOutRefIdeal.main_arg3)) (m' ((c.tc : Thread Cert.CrossOutRefIdeal.nD Cert.CrossOutRefIdeal.τ).loc Cert.CrossOutRefIdeal.main_arg4))) rfl ?_
    obtain ⟨e0, e1, e2, e3, e4⟩ := hagree c
    rw [e0, e1, e2, e3, e4]
    exact (Cert.CrossOutIdeal.Routed.finalN m c).symm
  · refine Eq.trans (b := Cert.CrossOutRefIdeal.Routed.REFA (m' ((c.tc : Thread Cert.CrossOutRefIdeal.nD Cert.CrossOutRefIdeal.τ).loc Cert.CrossOutRefIdeal.main_arg0)) (m' ((c.tc : Thread Cert.CrossOutRefIdeal.nD Cert.CrossOutRefIdeal.τ).loc Cert.CrossOutRefIdeal.main_arg1)) (m' ((c.tc : Thread Cert.CrossOutRefIdeal.nD Cert.CrossOutRefIdeal.τ).loc Cert.CrossOutRefIdeal.main_arg2)) (m' ((c.tc : Thread Cert.CrossOutRefIdeal.nD Cert.CrossOutRefIdeal.τ).loc Cert.CrossOutRefIdeal.main_arg3)) (m' ((c.tc : Thread Cert.CrossOutRefIdeal.nD Cert.CrossOutRefIdeal.τ).loc Cert.CrossOutRefIdeal.main_arg4))) rfl ?_
    obtain ⟨e0, e1, e2, e3, e4⟩ := hagree c
    rw [e0, e1, e2, e3, e4]
    exact (Cert.CrossOutIdeal.Routed.finalA m c (fun j => gain_real _ _ _ _ _ (hpre c) j) (fun i => router_real _ _ _ _ _ (hpre c) i)).symm

end Cert.Proof.CrossOutClaims
end
-- ==== Proof.CrossReference.lean ====
/- The cross attention call: what one head computes for one query row, in the kernel's order of operations and in the
   reference's, and the reference's result at an index. -/
module

public import proofs.«01_k».proof.Proof.Gen.CrossRefIdeal.Run
public import proofs.«01_k».proof.Proof.Softmax
public import Idealize.ShloMosaic.Lib.Pointwise

@[expose] public section

set_option maxRecDepth 16384

noncomputable section

open Idealize.ShloMosaic Idealize.ShloMosaic.TcCoe Idealize.SL.Sem
open scoped BigOperators

namespace Cert.CrossAttend

/-- The scale that the scores are multiplied by, the reciprocal root of the head's width. -/
def scale : EReal := (((Real.sqrt 512)⁻¹ : ℝ) : EReal)

/-- The score of one query row against memory row `s`. -/
def score (q : Fin 512 → EReal) (k : Fin 256 → Fin 512 → EReal) (s : Fin 256) : EReal :=
  (∑ d, q d * k s d) * scale

/-- The weight of memory row `s`, before it is normalized. -/
def weight (q : Fin 512 → EReal) (k : Fin 256 → Fin 512 → EReal) (s : Fin 256) : EReal :=
  Ideal.exp (score q k s - Finset.univ.fold max (⊥ : EReal) (score q k))

/-- One component of one head's output as the kernel forms it: the weighted sum of the values over the normalizer. -/
def headK (q : Fin 512 → EReal) (k : Fin 256 → Fin 512 → EReal) (v : Fin 256 → EReal) : EReal :=
  Ideal.div (∑ s, weight q k s * v s) (∑ s, weight q k s)

/-- The same component as the reference forms it: the values under the normalized weights. -/
def headR (q : Fin 512 → EReal) (k : Fin 256 → Fin 512 → EReal) (v : Fin 256 → EReal) : EReal :=
  ∑ s, v s * Ideal.div (weight q k s) (∑ s, weight q k s)

/-- For real queries and keys the two forms agree. -/
theorem headK_eq_headR (q : Fin 512 → EReal) (k : Fin 256 → Fin 512 → EReal) (v : Fin 256 → EReal)
    (hq : ∀ d, ∃ r : ℝ, q d = (r : EReal)) (hk : ∀ s d, ∃ r : ℝ, k s d = (r : EReal)) :
    headK q k v = headR q k v :=
  Cert.Softmax.softmax_dot (by norm_num) (score q k) (fun s => Cert.Softmax.score_real _ _ hq (hk s) _ ⟨_, rfl⟩) v

end Cert.CrossAttend

namespace Cert.CrossRefIdeal.Attend

open Cert.CrossRefIdeal Cert.CrossRefIdeal.Gen Cert.CrossAttend

/-- The reference's scores. -/
def SC (Q : FVec Ideal S8192x2048 .bf16) (K : FVec Ideal S1024x2048 .bf16) : FVec Ideal S4x4x2048x256 .f32 :=
  Host.divf (Host.dotGeneral dot_S4x2048x4x512_S4x256x4x512_S4x4x2048x256_3_3_1_1_02_02 none (shapeCast _ (extf .f32 Q bitsLt_bf16_f32) shapeCasts_S8192x2048_S4x2048x4x512)
    (shapeCast _ (extf .f32 K bitsLt_bf16_f32) shapeCasts_S1024x2048_S4x256x4x512)) (broadcastInDim S4x4x2048x256 ![] bcast_S_S4x4x2048x256 (Host.sqrt (constant S_ .f32 0x44000000#32)))

/-- The reference's row maxima, of its scores. -/
def RM (S : FVec Ideal S4x4x2048x256 .f32) : FVec Ideal S4x4x2048 .f32 :=
  Host.reduce FloatOps.maximumf S (constant S_ .f32 0xFF800000#32) reducesTo_S4x4x2048x256_S4x4x2048_d3 h_S_

/-- The reference's unnormalized weights, of its scores and their row maxima. -/
def EX (S : FVec Ideal S4x4x2048x256 .f32) (M : FVec Ideal S4x4x2048 .f32) : FVec Ideal S4x4x2048x256 .f32 :=
  Host.exp (subf S (broadcastInDim S4x4x2048x256 ![0, 1, 2, 3] bcast_S4x4x2048x1_S4x4x2048x256_0_1_2_3 (broadcastInDim S4x4x2048x1 ![0, 1, 2] bcast_S4x4x2048_S4x4x2048x1_0_1_2
    (maximumf (broadcastInDim S4x4x2048 ![] bcast_S_S4x4x2048 (constant S_ .f32 0xFF800000#32)) M))))

/-- The reference's result, of its weights. -/
def OUT (V : FVec Ideal S1024x2048 .bf16) (E : FVec Ideal S4x4x2048x256 .f32) : FVec Ideal S8192x2048 .bf16 :=
  truncf .bf16 (shapeCast _ (transpose S4x2048x4x512 [0, 3, 1, 2] (Host.dotGeneral dot_S4x256x4x512_S4x4x2048x256_S4x4x512x2048_1_3_3_2_02_01 none
    (shapeCast _ (extf .f32 V bitsLt_bf16_f32) shapeCasts_S1024x2048_S4x256x4x512) (Host.divf E (broadcastInDim S4x4x2048x256 ![0, 1, 2, 3] bcast_S4x4x2048x1_S4x4x2048x256_0_1_2_3
    (broadcastInDim S4x4x2048x1 ![0, 1, 2] bcast_S4x4x2048_S4x4x2048x1_0_1_2 (Host.reduceAdd E (constant S_ .f32 0x00000000#32) reducesTo_S4x4x2048x256_S4x4x2048_d3 h_S_)))))
    transposes_S4x4x512x2048_S4x2048x4x512_0_3_1_2) shapeCasts_S4x2048x4x512_S8192x2048) bitsLt_bf16_f32

/-- The reference's result as a function of its arguments. -/
def REF (Q : FVec Ideal S8192x2048 .bf16) (K V : FVec Ideal S1024x2048 .bf16) : FVec Ideal S8192x2048 .bf16 := OUT V (EX (SC Q K) (RM (SC Q K)))

/-- The pattern of 512 is the real 512. -/
theorem ofBits_512 : Ideal.ofBits .f32 0x44000000#32 = ((512 : ℝ) : EReal) := by
  simp [Ideal.ofBits, Ideal.ieee, -EReal.coe_mul]; norm_num

/-- Dividing by the root of 512 is multiplying by the scale. -/
theorem div_root (x : EReal) : Ideal.div x (Ideal.sqrt (Ideal.ofBits .f32 0x44000000#32)) = x * scale := by
  rw [ofBits_512, Ideal.sqrt_coe, if_neg (by norm_num),
    Ideal.div_coe (show Real.sqrt 512 ≠ 0 from (Real.sqrt_pos.mpr (by norm_num)).ne'), one_div]
  rfl

/-- A score at an index: query row `q` of head `h` in sequence `b` against memory row `s`. -/
theorem SC_at (Q : FVec Ideal S8192x2048 .bf16) (K : FVec Ideal S1024x2048 .bf16) (b h : Fin 4) (q : Fin 2048) (s : Fin 256) :
    SC Q K (ix4 b h q s) = score (fun d => Q (ix2 ⟨b.val * 2048 + q.val, by omega⟩ ⟨h.val * 512 + d.val, by omega⟩))
      (fun s d => K (ix2 ⟨b.val * 256 + s.val, by omega⟩ ⟨h.val * 512 + d.val, by omega⟩)) s := by
  pointwise [SC]
  rw [div_root]
  rfl

/-- A row maximum at an index. -/
theorem RM_at (S : FVec Ideal S4x4x2048x256 .f32) (b h : Fin 4) (q : Fin 2048) :
    RM S (ix3 b h q) = Finset.univ.fold max (⊥ : EReal) (fun s => S (ix4 b h q s)) := by
  have hr : S4x4x2048x256.Reduces [3] S4x4x2048 := by decide
  unfold RM
  rw [Host.reduce_eq_fold_single _ _ _ _ hr]
  simp only [Function.comp_def]
  have e : ∀ k : Fin 256, hr.lift (ix3 b h q) k = ix4 b h q k := by
    intro k
    funext a
    apply Fin.ext
    fin_cases a <;> rfl
  have h0 : (constant S_ .f32 0xFF800000#32 : FVec Ideal S_ .f32) (Shape.Idx.first h_S_) = (⊥ : EReal) := Cert.Softmax.ofBits_neg_inf
  rw [h0]
  exact congrArg (fun f => Finset.univ.fold max (⊥ : EReal) f) (funext fun k => congrArg S (e k))

/-- An unnormalized weight at an index. -/
theorem EX_at (S : FVec Ideal S4x4x2048x256 .f32) (M : FVec Ideal S4x4x2048 .f32) (b h : Fin 4) (q : Fin 2048) (s : Fin 256) :
    EX S M (ix4 b h q s) = Ideal.exp (S (ix4 b h q s) - M (ix3 b h q)) := by
  pointwise [EX]
  rw [Cert.Softmax.ofBits_neg_inf, max_eq_right bot_le]

/-- The result at an index, of its weights. -/
theorem OUT_at (V : FVec Ideal S1024x2048 .bf16) (E : FVec Ideal S4x4x2048x256 .f32) (r : Fin 8192) (l : Fin 2048) :
    OUT V E (ix2 r l) = ∑ s : Fin 256, V (ix2 ⟨r.val / 2048 * 256 + s.val, by omega⟩ l)
      * Ideal.div (E (ix4 ⟨r.val / 2048, by omega⟩ ⟨l.val / 512, by omega⟩ ⟨r.val % 2048, by omega⟩ s))
        (∑ s, E (ix4 ⟨r.val / 2048, by omega⟩ ⟨l.val / 512, by omega⟩ ⟨r.val % 2048, by omega⟩ s)) := by
  pointwise [OUT]

/-- The reference's result at an index is one component of one head, of the query row, memory rows and value column that
    the index names. -/
theorem REF_at (Q : FVec Ideal S8192x2048 .bf16) (K V : FVec Ideal S1024x2048 .bf16) (r : Fin 8192) (l : Fin 2048) :
    REF Q K V (ix2 r l) = headR
      (fun d => Q (ix2 r ⟨l.val / 512 * 512 + d.val, by omega⟩))
      (fun s d => K (ix2 ⟨r.val / 2048 * 256 + s.val, by omega⟩ ⟨l.val / 512 * 512 + d.val, by omega⟩))
      (fun s => V (ix2 ⟨r.val / 2048 * 256 + s.val, by omega⟩ l)) := by
  unfold REF
  rw [OUT_at]
  have hE : ∀ s : Fin 256, EX (SC Q K) (RM (SC Q K)) (ix4 ⟨r.val / 2048, by omega⟩ ⟨l.val / 512, by omega⟩ ⟨r.val % 2048, by omega⟩ s)
      = weight (fun d => Q (ix2 r ⟨l.val / 512 * 512 + d.val, by omega⟩))
        (fun s d => K (ix2 ⟨r.val / 2048 * 256 + s.val, by omega⟩ ⟨l.val / 512 * 512 + d.val, by omega⟩)) s := by
    intro s
    rw [EX_at, RM_at]
    simp only [SC_at]
    have hq : ∀ d : Fin 512, Q (ix2 ⟨r.val / 2048 * 2048 + r.val % 2048, by omega⟩ ⟨l.val / 512 * 512 + d.val, by omega⟩)
        = Q (ix2 r ⟨l.val / 512 * 512 + d.val, by omega⟩) := by
      intro d
      congr 2
      exact Fin.ext (by show r.val / 2048 * 2048 + r.val % 2048 = r.val; omega)
    simp only [hq]
    rfl
  simp only [hE]
  rfl

end Cert.CrossRefIdeal.Attend
end
-- ==== Proof.CrossValue.lean ====
/- The cross attention call: the kernel's whole result is the reference's function of the arguments, for real queries and keys. -/
module

public import proofs.«01_k».proof.Proof.Gen.CrossIdeal.Value
public import proofs.«01_k».proof.Proof.CrossReference
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.CrossIdeal.Attend

open Cert.CrossIdeal Cert.CrossIdeal.Gen Cert.CrossAttend Cert.CrossRefIdeal.Attend

variable (m : (ℓ : Loc nD τ sig) → Buf (Elt Ideal) ℓ)

/-- The kernel's named constant is the scale. -/
theorem inv_sqrt_m : Named.named (F := Ideal) Cert.CrossIdeal.κ "inv_sqrt_m" (φ := .f32) 0x3D3504F3#32 = scale :=
  IdealRules.named_const.ideal_named_scalar _ _ _ _ rfl

/-- The fourth head's stored tile at an index. -/
theorem pay1_at (q : Vec Ideal S512x512 .bf16) (k v : Vec Ideal S256x512 .bf16) (r l : Fin 512) :
    k0_pay1 (F := Ideal) (k0_pay8 q k) (k0_pay9 q k) v (ix2 r l) = headK (fun d => q (ix2 r d)) (fun s d => k (ix2 s d)) (fun s => v (ix2 s l)) := by
  pointwise [k0_pay1, k0_pay8, k0_pay9]
  rw [inv_sqrt_m, Cert.Softmax.ofBits_neg_inf]
  rfl

/-- The first head's stored tile at an index. -/
theorem pay2_at (q : Vec Ideal S512x512 .bf16) (k v : Vec Ideal S256x512 .bf16) (r l : Fin 512) :
    k0_pay2 (F := Ideal) q k v (ix2 r l) = headK (fun d => q (ix2 r d)) (fun s d => k (ix2 s d)) (fun s => v (ix2 s l)) := by
  pointwise [k0_pay2]
  rw [inv_sqrt_m, Cert.Softmax.ofBits_neg_inf]
  rfl

/-- The second head's stored tile at an index. -/
theorem pay6_at (q : Vec Ideal S512x512 .bf16) (k v : Vec Ideal S256x512 .bf16) (r l : Fin 512) :
    k0_pay6 (F := Ideal) (k0_pay4 q k) (k0_pay5 q k) v (constant S512x512 .f32 0x00000000#32) (ix2 r l) = headK (fun d => q (ix2 r d)) (fun s d => k (ix2 s d)) (fun s => v (ix2 s l)) := by
  pointwise [k0_pay6, k0_pay5, k0_pay4, k0_pay3]
  rw [inv_sqrt_m, Cert.Softmax.ofBits_neg_inf]
  rfl

/-- The third head's stored tile at an index. -/
theorem pay7_at (q : Vec Ideal S512x512 .bf16) (k v : Vec Ideal S256x512 .bf16) (r l : Fin 512) :
    k0_pay7 (F := Ideal) q k v (ix2 r l) = headK (fun d => q (ix2 r d)) (fun s d => k (ix2 s d)) (fun s => v (ix2 s l)) := by
  pointwise [k0_pay7]
  rw [inv_sqrt_m, Cert.Softmax.ofBits_neg_inf]
  rfl

/-- The block that each window shows at a grid point. -/
theorem idx : ∀ t : Fin cfg0.N,
    win0_0.index t = ![t.val, 0] ∧
    win0_1.index t = ![t.val / 4, 0] ∧
    win0_2.index t = ![t.val / 4, 0] ∧
    win0_3.index t = ![t.val, 0] := (by decide +kernel : ∀ t : Fin grid0.N, _)

/-- One element of a stored tile against the reference's element at the same place of the result. -/
theorem head_at (c : Dev nD) (t : Fin cfg0.N)
    (hq : ∀ (r : Fin 8192) (l : Fin 2048), ∃ x : ℝ, (m ((c.tc : Thread nD τ).loc main_arg0) : FVec Ideal S8192x2048 .bf16) (ix2 r l) = (x : EReal))
    (hk : ∀ (r : Fin 1024) (l : Fin 2048), ∃ x : ℝ, (m ((c.tc : Thread nD τ).loc main_arg1) : FVec Ideal S1024x2048 .bf16) (ix2 r l) = (x : EReal))
    (r l : Fin 512) (h : Fin 4) (R : Fin 8192) (L : Fin 2048) (hR : R.val = t.val * 512 + r.val) (hL : L.val = h.val * 512 + l.val) :
    headK (fun d => (iblk m c 0 t : FVec Ideal S512x2048 .bf16) (ix2 r ⟨h.val * 512 + d.val, by omega⟩))
      (fun s d => (iblk m c 1 t : FVec Ideal S256x2048 .bf16) (ix2 s ⟨h.val * 512 + d.val, by omega⟩))
      (fun s => (iblk m c 2 t : FVec Ideal S256x2048 .bf16) (ix2 s L))
      = REF (m ((c.tc : Thread nD τ).loc main_arg0)) (m ((c.tc : Thread nD τ).loc main_arg1)) (m ((c.tc : Thread nD τ).loc main_arg2)) (ix2 R L) := by
  have ht : t.val < 16 := lt_of_lt_of_eq t.isLt N_0
  have h0 : ∀ d : Fin 512, (iblk m c 0 t : FVec Ideal S512x2048 .bf16) (ix2 r ⟨h.val * 512 + d.val, by omega⟩)
      = (m ((c.tc : Thread nD τ).loc main_arg0) : FVec Ideal S8192x2048 .bf16) (ix2 R ⟨L.val / 512 * 512 + d.val, by omega⟩) := by
    intro d
    blk_point [iblk, V, idx t]
  have h1 : ∀ (s : Fin 256) (d : Fin 512), (iblk m c 1 t : FVec Ideal S256x2048 .bf16) (ix2 s ⟨h.val * 512 + d.val, by omega⟩)
      = (m ((c.tc : Thread nD τ).loc main_arg1) : FVec Ideal S1024x2048 .bf16) (ix2 ⟨R.val / 2048 * 256 + s.val, by omega⟩ ⟨L.val / 512 * 512 + d.val, by omega⟩) := by
    intro s d
    blk_point [iblk, V, idx t]
  have h2 : ∀ (s : Fin 256), (iblk m c 2 t : FVec Ideal S256x2048 .bf16) (ix2 s L)
      = (m ((c.tc : Thread nD τ).loc main_arg2) : FVec Ideal S1024x2048 .bf16) (ix2 ⟨R.val / 2048 * 256 + s.val, by omega⟩ L) := by
    intro s
    blk_point [iblk, V, idx t]
  rw [REF_at, ← headK_eq_headR]
  · simp only [h0, h1, h2]
  · intro d; exact hq _ _
  · intro s d; exact hk _ _

/-- What one grid point writes is the reference's function on the block. -/
theorem point (c : Dev nD) (t : Fin cfg0.N)
    (hq : ∀ (r : Fin 8192) (l : Fin 2048), ∃ x : ℝ, (m ((c.tc : Thread nD τ).loc main_arg0) : FVec Ideal S8192x2048 .bf16) (ix2 r l) = (x : EReal))
    (hk : ∀ (r : Fin 1024) (l : Fin 2048), ∃ x : ℝ, (m ((c.tc : Thread nD τ).loc main_arg1) : FVec Ideal S1024x2048 .bf16) (ix2 r l) = (x : EReal))
    (y : S512x2048.Idx) (R : Fin 8192) (L : Fin 2048) (hR : R.val = t.val * 512 + (y 0).val) (hL : L.val = (y 1).val) :
    out0_3 (F := Ideal) (iblk m c 0 t) (iblk m c 1 t) (iblk m c 2 t) y = REF (m ((c.tc : Thread nD τ).loc main_arg0)) (m ((c.tc : Thread nD τ).loc main_arg1)) (m ((c.tc : Thread nD τ).loc main_arg2)) (ix2 R L) := by
  canon_tiles x h
  · idx_vars x
    rw [pay1_at]
    refine Eq.trans ?_ (head_at m c t hq hk x0 x1 3 R L (by rw [hR, h0]) (by rw [hL, h1]; show _ = 3 * 512 + _; omega))
    refine congr (congr (congrArg headK ?_) ?_) ?_
    · funext d; first | (blk_ext; done) | (pointwise; done)
    · funext s d; first | (blk_ext; done) | (pointwise; done)
    · funext s
      refine congrArg (iblk m c 2 t) ?_
      blk_ext
      · show 0 + 1 * s.val = s.val
        omega
      · show 1536 + 1 * x1.val = L.val
        omega
  · idx_vars x
    rw [pay7_at]
    refine Eq.trans ?_ (head_at m c t hq hk x0 x1 2 R L (by rw [hR, h0]) (by rw [hL, h1]; show _ = 2 * 512 + _; omega))
    refine congr (congr (congrArg headK ?_) ?_) ?_
    · funext d; first | (blk_ext; done) | (pointwise; done)
    · funext s d; first | (blk_ext; done) | (pointwise; done)
    · funext s
      refine congrArg (iblk m c 2 t) ?_
      blk_ext
      · show 0 + 1 * s.val = s.val
        omega
      · show 1024 + 1 * x1.val = L.val
        omega
  · idx_vars x
    rw [pay6_at]
    refine Eq.trans ?_ (head_at m c t hq hk x0 x1 1 R L (by rw [hR, h0]) (by rw [hL, h1]; show _ = 1 * 512 + _; omega))
    refine congr (congr (congrArg headK ?_) ?_) ?_
    · funext d; first | (blk_ext; done) | (pointwise; done)
    · funext s d; first | (blk_ext; done) | (pointwise; done)
    · funext s
      refine congrArg (iblk m c 2 t) ?_
      blk_ext
      · show 0 + 1 * s.val = s.val
        omega
      · show 512 + 1 * x1.val = L.val
        omega
  · idx_vars x
    rw [pay2_at]
    refine Eq.trans ?_ (head_at m c t hq hk x0 x1 0 R L (by rw [hR, h0]) (by rw [hL, h1]; show _ = 0 * 512 + _; omega))
    refine congr (congr (congrArg headK ?_) ?_) ?_
    · funext d; first | (blk_ext; done) | (pointwise; done)
    · funext s d; first | (blk_ext; done) | (pointwise; done)
    · funext s
      refine congrArg (iblk m c 2 t) ?_
      blk_ext
      · show 0 + 1 * s.val = s.val
        omega
      · show 0 + 1 * x1.val = L.val
        omega

/-- The kernel's whole result array is the reference's function of the arguments. -/
theorem final (c : Dev nD)
    (hq : ∀ (r : Fin 8192) (l : Fin 2048), ∃ x : ℝ, (m ((c.tc : Thread nD τ).loc main_arg0) : FVec Ideal S8192x2048 .bf16) (ix2 r l) = (x : EReal))
    (hk : ∀ (r : Fin 1024) (l : Fin 2048), ∃ x : ℝ, (m ((c.tc : Thread nD τ).loc main_arg1) : FVec Ideal S1024x2048 .bf16) (ix2 r l) = (x : EReal)) :
    (dats m 0 c).arrAt 3 (cfgs 0).N = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have ht : t.val < 16 := lt_of_lt_of_eq t.isLt N_0
  have hy0 : (y 0).val < 512 := (y 0).isLt
  have hy1 : (y 1).val < 2048 := (y 1).isLt
  refine (point m c t hq hk y ⟨t.val * 512 + (y 0).val, by omega⟩ ⟨(y 1).val, by omega⟩ rfl rfl).trans ?_
  blk_ext [idx t]

end Cert.CrossIdeal.Attend
end
-- ==== Proof.CrossClaims.lean ====
/- The claims about the cross attention call. -/
module

public import proofs.«01_k».proof.Defs
public import proofs.«01_k».proof.Proof.Gen.Cross.Frame
public import proofs.«01_k».proof.Proof.Gen.Pre_cross_finite
public import proofs.«01_k».proof.Proof.CrossValue
public import proofs.«01_k».proof.Proof.Softmax
public import Idealize.ShloMosaic.Lib.ReduceAll
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.CrossClaims

theorem frame_p : Cert.quiescent_Cross := fun m ρ _ => Cert.Cross.Gen.frame m ρ
theorem frame_pi : Cert.quiescent_CrossIdeal := fun m ρ _ => Cert.CrossIdeal.Gen.frame m ρ
theorem frame_pi_pre : Cert.quiescent_CrossIdeal_pre_cross_finite := fun m ρ _ => Cert.CrossIdeal.Gen.frame m ρ
theorem frame_ri : Cert.quiescent_CrossRefIdeal := fun m ρ _ =>
  (θ_run Cert.CrossRefIdeal.defs _ _).mono (fun r h => ⟨fun c => (h c).2,
      Idealize.ShloMosaic.sem_eq_zero_of_no_sems (by decide) r.2⟩)
    (Cert.CrossRefIdeal.Value.run (F := Ideal) m ρ)
theorem frame_ri_pre : Cert.quiescent_CrossRefIdeal_pre_cross_finite := fun m ρ _ => frame_ri m ρ trivial

/-- The precondition says that every query component is a real. -/
theorem query_real (Q : FVec Ideal Cert.Pre_cross_finite.S8192x2048 .bf16) (K V : FVec Ideal Cert.Pre_cross_finite.S1024x2048 .bf16)
    (h : Cert.Pre_cross_finite.fn (F := Ideal) Q K V = fun _ => 1#1) (i : Cert.Pre_cross_finite.S8192x2048.Idx) : ∃ x : ℝ, Q i = (x : EReal) := by
  have e := congrFun h (Shape.Idx.first Cert.Pre_cross_finite.Gen.facts.h_S_)
  dsimp only [Cert.Pre_cross_finite.fn] at e
  have e2 := Host.reduce_andi_all _ _ _ _ _ (IntOp.andi_eq_one.1 e).1 i
  idx_vars i
  pointwise at e2
  refine Cert.Softmax.real_of_abs_lt_top ?_
  rw [Cert.Softmax.ofBits_inf] at e2
  have e3 : BitVec.ofBool (decide (max (Q (ix2 i0 i1)) (-Q (ix2 i0 i1)) < ⊤)) = 1#1 := e2
  by_contra hc
  rw [decide_eq_false hc] at e3
  exact absurd e3 (by decide)

/-- The precondition says that every key component is a real. -/
theorem key_real (Q : FVec Ideal Cert.Pre_cross_finite.S8192x2048 .bf16) (K V : FVec Ideal Cert.Pre_cross_finite.S1024x2048 .bf16)
    (h : Cert.Pre_cross_finite.fn (F := Ideal) Q K V = fun _ => 1#1) (i : Cert.Pre_cross_finite.S1024x2048.Idx) : ∃ x : ℝ, K i = (x : EReal) := by
  have e := congrFun h (Shape.Idx.first Cert.Pre_cross_finite.Gen.facts.h_S_)
  dsimp only [Cert.Pre_cross_finite.fn] at e
  have e2 := Host.reduce_andi_all _ _ _ _ _ (IntOp.andi_eq_one.1 e).2 i
  idx_vars i
  pointwise at e2
  refine Cert.Softmax.real_of_abs_lt_top ?_
  rw [Cert.Softmax.ofBits_inf] at e2
  have e3 : BitVec.ofBool (decide (max (K (ix2 i0 i1)) (-K (ix2 i0 i1)) < ⊤)) = 1#1 := e2
  by_contra hc
  rw [decide_eq_false hc] at e3
  exact absurd e3 (by decide)

/-- The named constant is the real that the table gives it. -/
theorem preserves : Cert.preserves_Cross_CrossIdeal :=
  IdealRules.named_const.statement Cert.CrossIdeal.κ "inv_sqrt_m" .f32 0x3D3504F3#32 (((Real.sqrt 512)⁻¹ : ℝ) : EReal) rfl

/-- On real queries and keys the kernel's result is the reference's. -/
theorem algebraic : Cert.algebraic_CrossIdeal_CrossRefIdeal_pre_cross_finite := by
  intro m ρ m' ρ' hpre hagree
  refine ⟨_, Cert.CrossIdeal.Value.run_blocks (F := Ideal) m ρ, ?_⟩
  refine (θ_run Cert.CrossRefIdeal.defs _ _).mono (fun _ h c => ⟨(h c).1.trans ?_, (h c).2⟩)
    (Cert.CrossRefIdeal.Value.run (F := Ideal) m' ρ')
  refine Eq.trans (b := Cert.CrossRefIdeal.Attend.REF (m' ((c.tc : Thread Cert.CrossRefIdeal.nD Cert.CrossRefIdeal.τ).loc Cert.CrossRefIdeal.main_arg0)) (m' ((c.tc : Thread Cert.CrossRefIdeal.nD Cert.CrossRefIdeal.τ).loc Cert.CrossRefIdeal.main_arg1)) (m' ((c.tc : Thread Cert.CrossRefIdeal.nD Cert.CrossRefIdeal.τ).loc Cert.CrossRefIdeal.main_arg2))) rfl ?_
  obtain ⟨e0, e1, e2⟩ := hagree c
  rw [e0, e1, e2]
  exact (Cert.CrossIdeal.Attend.final m c (fun r l => query_real _ _ _ (hpre c) (ix2 r l)) (fun r l => key_real _ _ _ (hpre c) (ix2 r l))).symm

end Cert.Proof.CrossClaims
end
-- ==== Proof.ProjValue.lean ====
/- The input projection with the heads' norm and rotation: the kernel's result is the reference's function of the arguments. -/
module

public import proofs.«01_k».proof.Proof.Gen.ProjIdeal.Value
public import proofs.«01_k».proof.Proof.Gen.ProjRefIdeal.Run
public import proofs.«01_k».proof.Proof.Softmax
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Rotary

/-- A head divided by its root mean square. -/
def hn (row : Fin 128 → EReal) (d : Fin 128) : EReal :=
  row d * Ideal.rsqrt (Ideal.div (∑ e, row e * row e) (Ideal.ofBits .f32 0x43000000#32) + Ideal.ofBits .f32 0x358637BD#32)

/-- A head rotated: each even component with the odd one after it is a point of the plane, turned by the angle of the cosine and the sine. -/
def rope (y : Fin 128 → EReal) (c s : Fin 64 → EReal) (d : Fin 128) : EReal :=
  if h : d.val % 2 < 1 then y d * c ⟨d.val / 2, by omega⟩ - y ⟨d.val + 1, by omega⟩ * s ⟨d.val / 2, by omega⟩
  else y ⟨d.val - 1, by omega⟩ * s ⟨d.val / 2, by omega⟩ + y d * c ⟨d.val / 2, by omega⟩

theorem half_odd {a : ℕ} (h : ¬a % 2 < 1) : 2 * (a / 2) = a - 1 := by omega

theorem fin_eq {n a b : ℕ} (ha : a < n) (hb : b < n) (h : a = b) : (⟨a, ha⟩ : Fin n) = ⟨b, hb⟩ := by
  subst h; rfl

end Cert.Rotary

namespace Cert.ProjRefIdeal.Rotate

open Cert.ProjRefIdeal Cert.ProjRefIdeal.Gen Cert.Rotary

/-- The product of the rows with the weight. -/
def PROD (h : FVec Ideal S8192x2048 .bf16) (w : FVec Ideal S2048x3072 .f32) : FVec Ideal S8192x3072 .f32 :=
  Host.dotGeneral dot_S8192x2048_S2048x3072_S8192x3072_1_0_0_1_n_n none (extf .f32 h bitsLt_bf16_f32) w

/-- The query heads of the product. -/
def HEADSQ (P : FVec Ideal S8192x3072 .f32) : FVec Ideal S4x2048x12x128 .f32 :=
  shapeCast S4x2048x12x128 (extractStridedSlice S4x2048x1536 ![0, 0, 0] (shapeCast S4x2048x3072 P shapeCasts_S8192x3072_S4x2048x3072) slices_S4x2048x3072_S4x2048x1536_0_0_0) shapeCasts_S4x2048x1536_S4x2048x12x128

/-- The norm of every query head. -/
def NORMQ (X : FVec Ideal S4x2048x12x128 .f32) (g : FVec Ideal S128 .f32) : FVec Ideal S4x2048x12x128 .f32 :=
  mulf (mulf X (broadcastInDim S4x2048x12x128 ![0, 1, 2, 3] bcast_S4x2048x12x1_S4x2048x12x128_0_1_2_3 (Host.rsqrt (addf (Host.divf (broadcastInDim S4x2048x12x1 ![0, 1, 2] bcast_S4x2048x12_S4x2048x12x1_0_1_2
    (Host.reduceAdd (mulf X X) (constant S_ .f32 0x00000000#32) reducesTo_S4x2048x12x128_S4x2048x12_d3 h_S_)) (broadcastInDim S4x2048x12x1 ![] bcast_S_S4x2048x12x1 (constant S_ .f32 0x43000000#32)))
    (broadcastInDim S4x2048x12x1 ![] bcast_S_S4x2048x12x1 (constant S_ .f32 0x358637BD#32)))))) (broadcastInDim S4x2048x12x128 ![0, 1, 2, 3] bcast_S1x1x1x128_S4x2048x12x128_0_1_2_3 (broadcastInDim S1x1x1x128 ![3] bcast_S128_S1x1x1x128_3 g))

/-- The rotation of every query head by its position. -/
def ROPEQ (Y : FVec Ideal S4x2048x12x128 .f32) (c s : FVec Ideal S2048x64 .f32) : FVec Ideal S4x2048x12x128 .f32 :=
  shapeCast S4x2048x12x128 (concatenate S4x2048x12x64x2 4
    [⟨S4x2048x12x64x1, (broadcastInDim S4x2048x12x64x1 ![0, 1, 2, 3] bcast_S4x2048x12x64_S4x2048x12x64x1_0_1_2_3
      (subf (mulf (Host.slice S4x2048x12x64 ![0, 0, 0, 0] ![1, 1, 1, 2] Y slicesBy_S4x2048x12x128_S4x2048x12x64_0s1_0s1_0s1_0s2) (broadcastInDim S4x2048x12x64 ![0, 1, 2, 3] bcast_S1x2048x1x64_S4x2048x12x64_0_1_2_3 (broadcastInDim S1x2048x1x64 ![1, 3] bcast_S2048x64_S1x2048x1x64_1_3 c)))
        (mulf (Host.slice S4x2048x12x64 ![0, 0, 0, 1] ![1, 1, 1, 2] Y slicesBy_S4x2048x12x128_S4x2048x12x64_0s1_0s1_0s1_1s2) (broadcastInDim S4x2048x12x64 ![0, 1, 2, 3] bcast_S1x2048x1x64_S4x2048x12x64_0_1_2_3 (broadcastInDim S1x2048x1x64 ![1, 3] bcast_S2048x64_S1x2048x1x64_1_3 s)))))⟩,
     ⟨S4x2048x12x64x1, (broadcastInDim S4x2048x12x64x1 ![0, 1, 2, 3] bcast_S4x2048x12x64_S4x2048x12x64x1_0_1_2_3
      (addf (mulf (Host.slice S4x2048x12x64 ![0, 0, 0, 0] ![1, 1, 1, 2] Y slicesBy_S4x2048x12x128_S4x2048x12x64_0s1_0s1_0s1_0s2) (broadcastInDim S4x2048x12x64 ![0, 1, 2, 3] bcast_S1x2048x1x64_S4x2048x12x64_0_1_2_3 (broadcastInDim S1x2048x1x64 ![1, 3] bcast_S2048x64_S1x2048x1x64_1_3 s)))
        (mulf (Host.slice S4x2048x12x64 ![0, 0, 0, 1] ![1, 1, 1, 2] Y slicesBy_S4x2048x12x128_S4x2048x12x64_0s1_0s1_0s1_1s2) (broadcastInDim S4x2048x12x64 ![0, 1, 2, 3] bcast_S1x2048x1x64_S4x2048x12x64_0_1_2_3 (broadcastInDim S1x2048x1x64 ![1, 3] bcast_S2048x64_S1x2048x1x64_1_3 c)))))⟩]
    concatenates_S4x2048x12x64x1_S4x2048x12x64x1_S4x2048x12x64x2_d4) shapeCasts_S4x2048x12x64x2_S4x2048x12x128

/-- The key heads of the product. -/
def HEADSK (P : FVec Ideal S8192x3072 .f32) : FVec Ideal S4x2048x4x128 .f32 :=
  shapeCast S4x2048x4x128 (extractStridedSlice S4x2048x512 ![0, 0, 1536] (shapeCast S4x2048x3072 P shapeCasts_S8192x3072_S4x2048x3072) slices_S4x2048x3072_S4x2048x512_0_0_1536) shapeCasts_S4x2048x512_S4x2048x4x128

/-- The norm of every key head. -/
def NORMK (X : FVec Ideal S4x2048x4x128 .f32) (g : FVec Ideal S128 .f32) : FVec Ideal S4x2048x4x128 .f32 :=
  mulf (mulf X (broadcastInDim S4x2048x4x128 ![0, 1, 2, 3] bcast_S4x2048x4x1_S4x2048x4x128_0_1_2_3 (Host.rsqrt (addf (Host.divf (broadcastInDim S4x2048x4x1 ![0, 1, 2] bcast_S4x2048x4_S4x2048x4x1_0_1_2
    (Host.reduceAdd (mulf X X) (constant S_ .f32 0x00000000#32) reducesTo_S4x2048x4x128_S4x2048x4_d3 h_S_)) (broadcastInDim S4x2048x4x1 ![] bcast_S_S4x2048x4x1 (constant S_ .f32 0x43000000#32)))
    (broadcastInDim S4x2048x4x1 ![] bcast_S_S4x2048x4x1 (constant S_ .f32 0x358637BD#32)))))) (broadcastInDim S4x2048x4x128 ![0, 1, 2, 3] bcast_S1x1x1x128_S4x2048x4x128_0_1_2_3 (broadcastInDim S1x1x1x128 ![3] bcast_S128_S1x1x1x128_3 g))

/-- The rotation of every key head by its position. -/
def ROPEK (Y : FVec Ideal S4x2048x4x128 .f32) (c s : FVec Ideal S2048x64 .f32) : FVec Ideal S4x2048x4x128 .f32 :=
  shapeCast S4x2048x4x128 (concatenate S4x2048x4x64x2 4
    [⟨S4x2048x4x64x1, (broadcastInDim S4x2048x4x64x1 ![0, 1, 2, 3] bcast_S4x2048x4x64_S4x2048x4x64x1_0_1_2_3
      (subf (mulf (Host.slice S4x2048x4x64 ![0, 0, 0, 0] ![1, 1, 1, 2] Y slicesBy_S4x2048x4x128_S4x2048x4x64_0s1_0s1_0s1_0s2) (broadcastInDim S4x2048x4x64 ![0, 1, 2, 3] bcast_S1x2048x1x64_S4x2048x4x64_0_1_2_3 (broadcastInDim S1x2048x1x64 ![1, 3] bcast_S2048x64_S1x2048x1x64_1_3 c)))
        (mulf (Host.slice S4x2048x4x64 ![0, 0, 0, 1] ![1, 1, 1, 2] Y slicesBy_S4x2048x4x128_S4x2048x4x64_0s1_0s1_0s1_1s2) (broadcastInDim S4x2048x4x64 ![0, 1, 2, 3] bcast_S1x2048x1x64_S4x2048x4x64_0_1_2_3 (broadcastInDim S1x2048x1x64 ![1, 3] bcast_S2048x64_S1x2048x1x64_1_3 s)))))⟩,
     ⟨S4x2048x4x64x1, (broadcastInDim S4x2048x4x64x1 ![0, 1, 2, 3] bcast_S4x2048x4x64_S4x2048x4x64x1_0_1_2_3
      (addf (mulf (Host.slice S4x2048x4x64 ![0, 0, 0, 0] ![1, 1, 1, 2] Y slicesBy_S4x2048x4x128_S4x2048x4x64_0s1_0s1_0s1_0s2) (broadcastInDim S4x2048x4x64 ![0, 1, 2, 3] bcast_S1x2048x1x64_S4x2048x4x64_0_1_2_3 (broadcastInDim S1x2048x1x64 ![1, 3] bcast_S2048x64_S1x2048x1x64_1_3 s)))
        (mulf (Host.slice S4x2048x4x64 ![0, 0, 0, 1] ![1, 1, 1, 2] Y slicesBy_S4x2048x4x128_S4x2048x4x64_0s1_0s1_0s1_1s2) (broadcastInDim S4x2048x4x64 ![0, 1, 2, 3] bcast_S1x2048x1x64_S4x2048x4x64_0_1_2_3 (broadcastInDim S1x2048x1x64 ![1, 3] bcast_S2048x64_S1x2048x1x64_1_3 c)))))⟩]
    concatenates_S4x2048x4x64x1_S4x2048x4x64x1_S4x2048x4x64x2_d4) shapeCasts_S4x2048x4x64x2_S4x2048x4x128

/-- The rotated query heads, the rotated key heads and the value columns side by side. -/
def JOIN (A : FVec Ideal S4x2048x12x128 .f32) (B : FVec Ideal S4x2048x4x128 .f32) (P : FVec Ideal S8192x3072 .f32) : FVec Ideal S8192x3072 .f32 :=
  shapeCast S8192x3072 (concatenate S4x2048x3072 2 [⟨S4x2048x1536, shapeCast S4x2048x1536 A shapeCasts_S4x2048x12x128_S4x2048x1536⟩, ⟨S4x2048x512, shapeCast S4x2048x512 B shapeCasts_S4x2048x4x128_S4x2048x512⟩,
    ⟨S4x2048x1024, extractStridedSlice S4x2048x1024 ![0, 0, 2048] (shapeCast S4x2048x3072 P shapeCasts_S8192x3072_S4x2048x3072) slices_S4x2048x3072_S4x2048x1024_0_0_2048⟩]
    concatenates_S4x2048x1536_S4x2048x512_S4x2048x1024_S4x2048x3072_d2) shapeCasts_S4x2048x3072_S8192x3072

/-- The reference's result from the product. -/
def OUT (P : FVec Ideal S8192x3072 .f32) (gq gk : FVec Ideal S128 .f32) (c s : FVec Ideal S2048x64 .f32) : FVec Ideal S8192x3072 .f32 :=
  JOIN (ROPEQ (NORMQ (HEADSQ P) gq) c s) (ROPEK (NORMK (HEADSK P) gk) c s) P

/-- The reference's result as a function of its arguments. -/
def REF (h : FVec Ideal S8192x2048 .bf16) (w : FVec Ideal S2048x3072 .f32) (gq gk : FVec Ideal S128 .f32) (c s : FVec Ideal S2048x64 .f32) : FVec Ideal S8192x3072 .bf16 :=
  truncf .bf16 (OUT (PROD h w) gq gk c s) bitsLt_bf16_f32

theorem PROD_at (h : FVec Ideal S8192x2048 .bf16) (w : FVec Ideal S2048x3072 .f32) (r : Fin 8192) (j : Fin 3072) :
    PROD h w (ix2 r j) = ∑ d : Fin 2048, h (ix2 r d) * w (ix2 d j) := by
  pointwise [PROD]

theorem HEADSQ_at (P : FVec Ideal S8192x3072 .f32) (b : Fin 4) (p : Fin 2048) (h : Fin 12) (d : Fin 128) :
    HEADSQ P (ix4 b p h d) = P (ix2 ⟨b.val * 2048 + p.val, by omega⟩ ⟨h.val * 128 + d.val, by omega⟩) := by
  pointwise [HEADSQ]

theorem NORMQ_at (X : FVec Ideal S4x2048x12x128 .f32) (g : FVec Ideal S128 .f32) (b : Fin 4) (p : Fin 2048) (h : Fin 12) (d : Fin 128) :
    NORMQ X g (ix4 b p h d) = hn (fun e => X (ix4 b p h e)) d * g (ix1 d) := by
  pointwise [NORMQ, hn]

set_option maxHeartbeats 2000000 in
theorem ROPEQ_at (Y : FVec Ideal S4x2048x12x128 .f32) (c s : FVec Ideal S2048x64 .f32) (b : Fin 4) (p : Fin 2048) (h : Fin 12) (d : Fin 128) :
    ROPEQ Y c s (ix4 b p h d) = rope (fun e => Y (ix4 b p h e)) (fun e => c (ix2 p e)) (fun e => s (ix2 p e)) d := by
  pointwise [ROPEQ]
  unfold rope
  have e2 : d.val / 2 < 64 := by omega
  by_cases h2 : d.val % 2 < 1
  · rw [dif_pos h2, dif_pos h2]
    have e0 : (⟨2 * (d.val / 2), by omega⟩ : Fin 128) = d := Fin.ext (by show 2 * (d.val / 2) = d.val; omega)
    have e1 : (⟨1 + 2 * (d.val / 2), by omega⟩ : Fin 128) = ⟨d.val + 1, by omega⟩ := Fin.ext (by show 1 + 2 * (d.val / 2) = d.val + 1; omega)
    rw [e0, e1]
  · refine (dif_neg h2).trans (Eq.trans ?_ (dif_neg h2).symm)
    have e0 : (⟨2 * (d.val / 2), by omega⟩ : Fin 128) = ⟨d.val - 1, by omega⟩ := @fin_eq 128 (2 * (d.val / 2)) (d.val - 1) (by omega) (lt_of_le_of_lt (Nat.sub_le _ _) d.isLt) (half_odd h2)
    have e1 : (⟨1 + 2 * (d.val / 2), by omega⟩ : Fin 128) = d := @fin_eq 128 (1 + 2 * (d.val / 2)) d.val (by omega) (by omega) (by omega)
    rw [e0, e1]

theorem HEADSK_at (P : FVec Ideal S8192x3072 .f32) (b : Fin 4) (p : Fin 2048) (h : Fin 4) (d : Fin 128) :
    HEADSK P (ix4 b p h d) = P (ix2 ⟨b.val * 2048 + p.val, by omega⟩ ⟨1536 + h.val * 128 + d.val, by omega⟩) := by
  pointwise [HEADSK]
  exact congrArg (fun j => P (ix2 _ j)) (Fin.ext (by show 1536 + (h.val * 128 + d.val) = 1536 + h.val * 128 + d.val; omega))

theorem NORMK_at (X : FVec Ideal S4x2048x4x128 .f32) (g : FVec Ideal S128 .f32) (b : Fin 4) (p : Fin 2048) (h : Fin 4) (d : Fin 128) :
    NORMK X g (ix4 b p h d) = hn (fun e => X (ix4 b p h e)) d * g (ix1 d) := by
  pointwise [NORMK, hn]

set_option maxHeartbeats 2000000 in
theorem ROPEK_at (Y : FVec Ideal S4x2048x4x128 .f32) (c s : FVec Ideal S2048x64 .f32) (b : Fin 4) (p : Fin 2048) (h : Fin 4) (d : Fin 128) :
    ROPEK Y c s (ix4 b p h d) = rope (fun e => Y (ix4 b p h e)) (fun e => c (ix2 p e)) (fun e => s (ix2 p e)) d := by
  pointwise [ROPEK]
  unfold rope
  have e2 : d.val / 2 < 64 := by omega
  by_cases h2 : d.val % 2 < 1
  · rw [dif_pos h2, dif_pos h2]
    have e0 : (⟨2 * (d.val / 2), by omega⟩ : Fin 128) = d := Fin.ext (by show 2 * (d.val / 2) = d.val; omega)
    have e1 : (⟨1 + 2 * (d.val / 2), by omega⟩ : Fin 128) = ⟨d.val + 1, by omega⟩ := Fin.ext (by show 1 + 2 * (d.val / 2) = d.val + 1; omega)
    rw [e0, e1]
  · refine (dif_neg h2).trans (Eq.trans ?_ (dif_neg h2).symm)
    have e0 : (⟨2 * (d.val / 2), by omega⟩ : Fin 128) = ⟨d.val - 1, by omega⟩ := @fin_eq 128 (2 * (d.val / 2)) (d.val - 1) (by omega) (lt_of_le_of_lt (Nat.sub_le _ _) d.isLt) (half_odd h2)
    have e1 : (⟨1 + 2 * (d.val / 2), by omega⟩ : Fin 128) = d := @fin_eq 128 (1 + 2 * (d.val / 2)) d.val (by omega) (by omega) (by omega)
    rw [e0, e1]

theorem JOIN_at (A : FVec Ideal S4x2048x12x128 .f32) (B : FVec Ideal S4x2048x4x128 .f32) (P : FVec Ideal S8192x3072 .f32) (r : Fin 8192) (j : Fin 3072) :
    JOIN A B P (ix2 r j) = if h : j.val < 1536 then A (ix4 ⟨r.val / 2048, by omega⟩ ⟨r.val % 2048, by omega⟩ ⟨j.val / 128, by omega⟩ ⟨j.val % 128, by omega⟩)
      else if h : j.val - 1536 < 512 then B (ix4 ⟨r.val / 2048, by omega⟩ ⟨r.val % 2048, by omega⟩ ⟨(j.val - 1536) / 128, by omega⟩ ⟨(j.val - 1536) % 128, by omega⟩)
      else P (ix2 r ⟨2048 + (j.val - 1536 - 512), by omega⟩) := by
  pointwise [JOIN]

/-- The row of a head. -/
def row (P : FVec Ideal S8192x3072 .f32) (r : Fin 8192) (j : ℕ) (hj : j + 128 ≤ 3072) (e : Fin 128) : EReal := P (ix2 r ⟨j + e.val, by omega⟩)

/-- The result in a query head's column. -/
theorem OUT_q (P : FVec Ideal S8192x3072 .f32) (gq gk : FVec Ideal S128 .f32) (c s : FVec Ideal S2048x64 .f32) (r : Fin 8192) (j : Fin 3072) (h : j.val < 1536) :
    OUT P gq gk c s (ix2 r j) = rope (fun e => hn (row P r (j.val / 128 * 128) (by omega)) e * gq (ix1 e))
      (fun e => c (ix2 ⟨r.val % 2048, by omega⟩ e)) (fun e => s (ix2 ⟨r.val % 2048, by omega⟩ e)) ⟨j.val % 128, by omega⟩ := by
  unfold OUT
  rw [JOIN_at, dif_pos h, ROPEQ_at]
  simp only [NORMQ_at, HEADSQ_at]
  have hr : (⟨r.val / 2048 * 2048 + r.val % 2048, by omega⟩ : Fin 8192) = r := Fin.ext (by show r.val / 2048 * 2048 + r.val % 2048 = r.val; omega)
  simp only [hr]
  rfl

/-- The result in a key head's column. -/
theorem OUT_k (P : FVec Ideal S8192x3072 .f32) (gq gk : FVec Ideal S128 .f32) (c s : FVec Ideal S2048x64 .f32) (r : Fin 8192) (j : Fin 3072) (h : ¬j.val < 1536) (h' : j.val < 2048) :
    OUT P gq gk c s (ix2 r j) = rope (fun e => hn (row P r (j.val / 128 * 128) (by omega)) e * gk (ix1 e))
      (fun e => c (ix2 ⟨r.val % 2048, by omega⟩ e)) (fun e => s (ix2 ⟨r.val % 2048, by omega⟩ e)) ⟨j.val % 128, by omega⟩ := by
  unfold OUT
  rw [JOIN_at, dif_neg h, dif_pos (show j.val - 1536 < 512 by omega), ROPEK_at]
  simp only [NORMK_at, HEADSK_at]
  have hr : (⟨r.val / 2048 * 2048 + r.val % 2048, by omega⟩ : Fin 8192) = r := Fin.ext (by show r.val / 2048 * 2048 + r.val % 2048 = r.val; omega)
  have hd : (⟨(j.val - 1536) % 128, by omega⟩ : Fin 128) = ⟨j.val % 128, by omega⟩ := Fin.ext (by show (j.val - 1536) % 128 = j.val % 128; omega)
  have hj : ∀ e : Fin 128, (⟨1536 + (j.val - 1536) / 128 * 128 + e.val, by omega⟩ : Fin 3072) = ⟨j.val / 128 * 128 + e.val, by omega⟩ := fun e =>
    Fin.ext (by show 1536 + (j.val - 1536) / 128 * 128 + e.val = j.val / 128 * 128 + e.val; omega)
  simp only [hr, hd, hj]
  rfl

/-- The result in a value column. -/
theorem OUT_v (P : FVec Ideal S8192x3072 .f32) (gq gk : FVec Ideal S128 .f32) (c s : FVec Ideal S2048x64 .f32) (r : Fin 8192) (j : Fin 3072) (h : ¬j.val < 2048) :
    OUT P gq gk c s (ix2 r j) = P (ix2 r j) := by
  unfold OUT
  rw [JOIN_at, dif_neg (by omega), dif_neg (by omega)]
  exact congrArg (fun j => P (ix2 r j)) (Fin.ext (by show 2048 + (j.val - 1536 - 512) = j.val; omega))

end Cert.ProjRefIdeal.Rotate

namespace Cert.ProjIdeal.Rotate

open Cert.ProjIdeal Cert.ProjIdeal.Gen Cert.Rotary

theorem pay1_at (h : Vec Ideal S512x2048 .bf16) (w : Vec Ideal S2048x512 .f32) (r j : Fin 512) :
    k0_pay1 (F := Ideal) h w (ix2 r j) = ∑ d : Fin 2048, h (ix2 r d) * w (ix2 d j) := by
  pointwise [k0_pay1]

/-- The norm of 128 columns as the kernel writes it. -/
def hns (x : FVec Ideal S512x128 .f32) : FVec Ideal S512x128 .f32 :=
  mulf x (broadcastTo S512x128 (rsqrt (addf (divf (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128)

theorem hns_at (x : FVec Ideal S512x128 .f32) (r : Fin 512) (d : Fin 128) : hns x (ix2 r d) = hn (fun e => x (ix2 r e)) d := by
  pointwise [hns, hn]

theorem pay4_at (X : FVec Ideal S512x512 .f32) (r x : Fin 512) :
    k0_pay4 (F := Ideal) X (ix2 r x) = hn (fun e => X (ix2 r ⟨x.val / 128 * 128 + e.val, by omega⟩)) ⟨x.val % 128, by omega⟩ := by
  have e : k0_pay4 (F := Ideal) X = concatenate S512x512 1 [⟨S512x128, hns (extractStridedSlice S512x128 ![0, 0] X slices_S512x512_o0_0_S512x128)⟩,
      ⟨S512x128, hns (extractStridedSlice S512x128 ![0, 128] X slices_S512x512_o0_128_S512x128)⟩, ⟨S512x128, hns (extractStridedSlice S512x128 ![0, 256] X slices_S512x512_o0_256_S512x128)⟩,
      ⟨S512x128, hns (extractStridedSlice S512x128 ![0, 384] X slices_S512x512_o0_384_S512x128)⟩] concatenates_S512x128_S512x128_S512x128_S512x128_S512x512_d1 := rfl
  have key : ∀ (o : ℕ) (ho : o + 128 ≤ 512) (Z : FVec Ideal S512x128 .f32), (∀ e : Fin 128, Z (ix2 r e) = X (ix2 r ⟨o + e.val, by omega⟩)) →
      ∀ d : Fin 128, o = x.val / 128 * 128 → d.val = x.val % 128 → hns Z (ix2 r d) = hn (fun e => X (ix2 r ⟨x.val / 128 * 128 + e.val, by omega⟩)) ⟨x.val % 128, by omega⟩ := by
    intro o ho Z hZ d h1 h2
    subst h1
    rw [hns_at]
    simp only [hZ]
    exact congrArg (hn _) (Fin.ext h2)
  rw [e]
  pointwise
  by_cases h1 : x.val < 128
  · rw [dif_pos h1]
    exact key 0 (by omega) _ (fun e => by pointwise) _ (by omega) (by show x.val = _; omega)
  rw [dif_neg h1]
  by_cases h2 : x.val - 128 < 128
  · rw [dif_pos h2]
    exact key 128 (by omega) _ (fun e => by pointwise) _ (by omega) (by show x.val - 128 = _; omega)
  rw [dif_neg h2]
  by_cases h3 : x.val - 128 - 128 < 128
  · rw [dif_pos h3]
    exact key 256 (by omega) _ (fun e => by pointwise) _ (by omega) (by show x.val - 128 - 128 = _; omega)
  rw [dif_neg h3]
  exact key 384 (by omega) _ (fun e => by pointwise) _ (by omega) (by show x.val - 128 - 128 - 128 = _; omega)

/-- The kernel's rotation at an index. -/
theorem pay2_at (Y : FVec Ideal S512x512 .f32) (g : Vec Ideal S1x512 .f32) (a b c : Vec Ideal S512x512 .f32) (r x : Fin 512) :
    k0_pay2 (F := Ideal) Y g a b c (ix2 r x) = Y (ix2 r x) * g (ix2 0 x) * a (ix2 r x)
      + Y (ix2 r ⟨(x.val + 512 - 511) % 512, by omega⟩) * g (ix2 0 ⟨(x.val + 512 - 511) % 512, by omega⟩) * b (ix2 r x)
      + Y (ix2 r ⟨(x.val + 512 - 1) % 512, by omega⟩) * g (ix2 0 ⟨(x.val + 512 - 1) % 512, by omega⟩) * c (ix2 r x) := by
  pointwise [k0_pay2]

/-- The kernel's rotation by whole rows is the rotation of the head. -/
theorem rope_eq (Y : Fin 512 → EReal) (y : Fin 128 → EReal) (co si : Fin 64 → EReal) (x : Fin 512) (a b c : EReal)
    (hy : ∀ e : Fin 128, Y ⟨x.val / 128 * 128 + e.val, by omega⟩ = y e) (ha : a = co ⟨x.val % 128 / 2, by omega⟩)
    (hb : b = @ite EReal (x.val % 2 < 1) _ (-si ⟨x.val % 128 / 2, by omega⟩) 0) (hc : c = @ite EReal (x.val % 2 < 1) _ 0 (si ⟨x.val % 128 / 2, by omega⟩)) :
    Y x * a + Y ⟨(x.val + 512 - 511) % 512, by omega⟩ * b + Y ⟨(x.val + 512 - 1) % 512, by omega⟩ * c = rope y co si ⟨x.val % 128, by omega⟩ := by
  have h0 : Y x = y ⟨x.val % 128, by omega⟩ := by
    rw [← hy]; exact congrArg Y (Fin.ext (by show x.val = x.val / 128 * 128 + x.val % 128; omega))
  unfold rope
  subst ha hb hc
  by_cases h2 : x.val % 2 < 1
  · have h1 : Y ⟨(x.val + 512 - 511) % 512, by omega⟩ = y ⟨x.val % 128 + 1, by omega⟩ := by
      rw [← hy]; exact congrArg Y (Fin.ext (by show (x.val + 512 - 511) % 512 = x.val / 128 * 128 + (x.val % 128 + 1); omega))
    rw [dif_pos (show x.val % 128 % 2 < 1 by omega), if_pos h2, if_pos h2, mul_zero, add_zero, h0, h1, mul_neg, sub_eq_add_neg]
  · have h1 : Y ⟨(x.val + 512 - 1) % 512, by omega⟩ = y ⟨x.val % 128 - 1, by omega⟩ := by
      rw [← hy]; exact congrArg Y (Fin.ext (by show (x.val + 512 - 1) % 512 = x.val / 128 * 128 + (x.val % 128 - 1); omega))
    rw [dif_neg (show ¬x.val % 128 % 2 < 1 by omega), if_neg h2, if_neg h2, mul_zero, add_zero, h0, h1, add_comm]

/-- The block that each window shows at a grid point. -/
theorem idx : ∀ t : Fin cfg0.N,
    win0_0.index t = ![t.val / 6, 0] ∧
    win0_1.index t = ![0, t.val % 6] ∧
    win0_2.index t = ![0, t.val % 6] ∧
    win0_3.index t = ![t.val / 6 % 4, 0] ∧
    win0_4.index t = ![t.val / 6 % 4, 0] ∧
    win0_5.index t = ![t.val / 6 % 4, 0] ∧
    win0_6.index t = ![t.val / 6, t.val % 6] := (by decide +kernel : ∀ t : Fin grid0.N, _)

variable (m : (ℓ : Loc nD τ sig) → Buf (Elt Ideal) ℓ)

set_option maxHeartbeats 4000000 in
theorem V8 (c : Dev nD) (j : Fin 3072) : (V m c main_v8 : FVec Ideal S1x3072 .f32) (ix2 0 j) = @dite EReal (j.val < 1536) _ (fun h => (m ((c.tc : Thread nD τ).loc main_arg2) : FVec Ideal S128 .f32) (ix1 ⟨j.val % 128, by omega⟩))
    (fun _ => @ite EReal (j.val < 2048) _ ((m ((c.tc : Thread nD τ).loc main_arg3) : FVec Ideal S128 .f32) (ix1 ⟨j.val % 128, by omega⟩)) 1) := by
  unfold V hostOps0
  after_results
  pointwise
  by_cases h1 : j.val < 1536
  · refine (dif_pos h1).trans (Eq.trans ?_ (dif_pos h1).symm)
    after_results_steps
    show shapeCast S1536 (broadcastInDim S12x128 ![0, 1] bcast_S1x128_S12x128_0_1 (shapeCast S1x128 (m ((c.tc : Thread nD τ).loc main_arg2) : FVec Ideal S128 .f32) shapeCasts_S128_S1x128)) shapeCasts_S12x128_S1536 (ix1 ⟨j.val, h1⟩) = _
    pointwise
  · refine (dif_neg h1).trans (Eq.trans ?_ (dif_neg h1).symm)
    by_cases h2 : j.val < 2048
    · refine (dif_pos (by omega : j.val - 1536 < 512)).trans (Eq.trans ?_ (if_pos h2).symm)
      after_results_steps
      show shapeCast S512 (broadcastInDim S4x128 ![0, 1] bcast_S1x128_S4x128_0_1 (shapeCast S1x128 (m ((c.tc : Thread nD τ).loc main_arg3) : FVec Ideal S128 .f32) shapeCasts_S128_S1x128)) shapeCasts_S4x128_S512 (ix1 ⟨j.val - 1536, by omega⟩) = _
      pointwise
      exact congrArg _ (congrArg ix1 (Fin.ext (by show (j.val - 1536) % 128 = j.val % 128; omega)))
    · refine (dif_neg (by omega : ¬ j.val - 1536 < 512)).trans (Eq.trans ?_ (if_neg h2).symm)
      after_results_steps
      pointwise
theorem V25 (c : Dev nD) (p : Fin 2048) (x : Fin 512) : (V m c main_v25 : FVec Ideal S2048x512 .f32) (ix2 p x) = (m ((c.tc : Thread nD τ).loc main_arg4) : FVec Ideal S2048x64 .f32) (ix2 p ⟨x.val % 128 / 2, by omega⟩) := by
  entry_read
  pointwise
  split <;> rfl

theorem V28 (c : Dev nD) (p : Fin 2048) (x : Fin 512) : (V m c main_v28 : FVec Ideal S2048x512 .f32) (ix2 p x) = @ite EReal (x.val % 2 < 1) _ (@Neg.neg EReal _ ((m ((c.tc : Thread nD τ).loc main_arg5) : FVec Ideal S2048x64 .f32) (ix2 p ⟨x.val % 128 / 2, by omega⟩))) 0 := by
  have e : (x.val % 128 % 2 < 1) = (x.val % 2 < 1) := propext (by omega)
  entry_read
  pointwise
  simp only [e]
  split <;> rfl

theorem V31 (c : Dev nD) (p : Fin 2048) (x : Fin 512) : (V m c main_v31 : FVec Ideal S2048x512 .f32) (ix2 p x) = @ite EReal (x.val % 2 < 1) _ 0 ((m ((c.tc : Thread nD τ).loc main_arg5) : FVec Ideal S2048x64 .f32) (ix2 p ⟨x.val % 128 / 2, by omega⟩)) := by
  have e : (x.val % 128 % 2 < 1) = (x.val % 2 < 1) := propext (by omega)
  entry_read
  pointwise
  simp only [e]
  split <;> rfl

/-- The gain's row at a grid point, for the columns of the query heads. -/
theorem gain_q (c : Dev nD) (t : Fin cfg0.N) (ht : t.val % 6 < 3) (x : Fin 512) :
    (iblk m c 2 t : FVec Ideal S1x512 .f32) (ix2 0 x) = (m ((c.tc : Thread nD τ).loc main_arg2) : FVec Ideal S128 .f32) (ix1 ⟨x.val % 128, by omega⟩) := by
  refine Eq.trans (b := V m c main_v8 ((win0_2.blk t).view.emb (ix2 0 x))) rfl ?_
  refine Eq.trans (b := V m c main_v8 (ix2 (0 : Fin 1) (⟨t.val % 6 * 512 + x.val, by omega⟩ : Fin 3072))) (by blk_ext [idx t]) ?_
  refine (V8 m c _).trans ((dif_pos (show t.val % 6 * 512 + x.val < 1536 by omega)).trans ?_)
  exact congrArg (fun i => (m ((c.tc : Thread nD τ).loc main_arg2) : FVec Ideal S128 .f32) (ix1 i)) (Fin.ext (by show (t.val % 6 * 512 + x.val) % 128 = x.val % 128; omega))

/-- The gain's row at a grid point, for the columns of the key heads. -/
theorem gain_k (c : Dev nD) (t : Fin cfg0.N) (ht : t.val % 6 = 3) (x : Fin 512) :
    (iblk m c 2 t : FVec Ideal S1x512 .f32) (ix2 0 x) = (m ((c.tc : Thread nD τ).loc main_arg3) : FVec Ideal S128 .f32) (ix1 ⟨x.val % 128, by omega⟩) := by
  refine Eq.trans (b := V m c main_v8 ((win0_2.blk t).view.emb (ix2 0 x))) rfl ?_
  refine Eq.trans (b := V m c main_v8 (ix2 (0 : Fin 1) (⟨t.val % 6 * 512 + x.val, by omega⟩ : Fin 3072))) (by blk_ext [idx t]) ?_
  refine (V8 m c _).trans ((dif_neg (show ¬t.val % 6 * 512 + x.val < 1536 by omega)).trans ((if_pos (show t.val % 6 * 512 + x.val < 2048 by omega)).trans ?_))
  exact congrArg (fun i => (m ((c.tc : Thread nD τ).loc main_arg3) : FVec Ideal S128 .f32) (ix1 i)) (Fin.ext (by show (t.val % 6 * 512 + x.val) % 128 = x.val % 128; omega))

/-- The cosines' block at a grid point. -/
theorem cos_at (c : Dev nD) (t : Fin cfg0.N) (r x : Fin 512) :
    (iblk m c 3 t : FVec Ideal S512x512 .f32) (ix2 r x) = (m ((c.tc : Thread nD τ).loc main_arg4) : FVec Ideal S2048x64 .f32) (ix2 ⟨t.val / 6 % 4 * 512 + r.val, by omega⟩ ⟨x.val % 128 / 2, by omega⟩) := by
  refine Eq.trans (b := V m c main_v25 ((win0_3.blk t).view.emb (ix2 r x))) rfl ?_
  refine Eq.trans (b := V m c main_v25 (ix2 (⟨t.val / 6 % 4 * 512 + r.val, by omega⟩ : Fin 2048) x)) (by blk_ext [idx t]) ?_
  exact V25 m c _ x

/-- The negated sines' block at a grid point. -/
theorem nsin_at (c : Dev nD) (t : Fin cfg0.N) (r x : Fin 512) :
    (iblk m c 4 t : FVec Ideal S512x512 .f32) (ix2 r x) = @ite EReal (x.val % 2 < 1) _ (@Neg.neg EReal _ ((m ((c.tc : Thread nD τ).loc main_arg5) : FVec Ideal S2048x64 .f32) (ix2 ⟨t.val / 6 % 4 * 512 + r.val, by omega⟩ ⟨x.val % 128 / 2, by omega⟩))) 0 := by
  refine Eq.trans (b := V m c main_v28 ((win0_4.blk t).view.emb (ix2 r x))) rfl ?_
  refine Eq.trans (b := V m c main_v28 (ix2 (⟨t.val / 6 % 4 * 512 + r.val, by omega⟩ : Fin 2048) x)) (by blk_ext [idx t]) ?_
  exact V28 m c _ x

/-- The sines' block at a grid point. -/
theorem sin_at (c : Dev nD) (t : Fin cfg0.N) (r x : Fin 512) :
    (iblk m c 5 t : FVec Ideal S512x512 .f32) (ix2 r x) = @ite EReal (x.val % 2 < 1) _ 0 ((m ((c.tc : Thread nD τ).loc main_arg5) : FVec Ideal S2048x64 .f32) (ix2 ⟨t.val / 6 % 4 * 512 + r.val, by omega⟩ ⟨x.val % 128 / 2, by omega⟩)) := by
  refine Eq.trans (b := V m c main_v31 ((win0_5.blk t).view.emb (ix2 r x))) rfl ?_
  refine Eq.trans (b := V m c main_v31 (ix2 (⟨t.val / 6 % 4 * 512 + r.val, by omega⟩ : Fin 2048) x)) (by blk_ext [idx t]) ?_
  exact V31 m c _ x

open Cert.ProjRefIdeal.Rotate

/-- The product at a grid point is the reference's. -/
theorem prod_eq (c : Dev nD) (t : Fin cfg0.N) (r x : Fin 512) (R : Fin 8192) (J : Fin 3072) (hR : R.val = t.val / 6 * 512 + r.val) (hJ : J.val = t.val % 6 * 512 + x.val) :
    k0_pay1 (F := Ideal) (iblk m c 0 t) (iblk m c 1 t) (ix2 r x) = PROD (m ((c.tc : Thread nD τ).loc main_arg0) : FVec Ideal S8192x2048 .bf16) (m ((c.tc : Thread nD τ).loc main_arg1) : FVec Ideal S2048x3072 .f32) (ix2 R J) := by
  have ht : t.val < 96 := lt_of_lt_of_eq t.isLt N_0
  have hr : t.val / 6 * 512 + r.val < 8192 := by clear hR hJ; omega
  have hx : t.val % 6 * 512 + x.val < 3072 := by clear hR hJ; omega
  obtain rfl : R = ⟨t.val / 6 * 512 + r.val, hr⟩ := Fin.ext hR
  obtain rfl : J = ⟨t.val % 6 * 512 + x.val, hx⟩ := Fin.ext hJ
  rw [pay1_at, PROD_at]
  refine Fin.sum_fin_congr fun d => ?_
  blk_point [iblk, V, idx t]

/-- At a point of the query and key heads, with gain `g`, the kernel's block is the head's rotation. -/
theorem heads_eq (c : Dev nD) (t : Fin cfg0.N) (ht : t.val % 6 < 4) (g : FVec Ideal S128 .f32)
    (hg : ∀ x : Fin 512, (iblk m c 2 t : FVec Ideal S1x512 .f32) (ix2 0 x) = g (ix1 ⟨x.val % 128, by omega⟩))
    (r x : Fin 512) (R : Fin 8192) (J : Fin 3072) (hR : R.val = t.val / 6 * 512 + r.val) (hJ : J.val = t.val % 6 * 512 + x.val) :
    (outsAt0 m c t.val t.isLt : FVec Ideal S512x512 .bf16) (ix2 r x)
      = rope (fun e => hn (row (PROD (m ((c.tc : Thread nD τ).loc main_arg0) : FVec Ideal S8192x2048 .bf16) (m ((c.tc : Thread nD τ).loc main_arg1) : FVec Ideal S2048x3072 .f32)) R (J.val / 128 * 128) (by omega)) e * g (ix1 e))
        (fun e => (m ((c.tc : Thread nD τ).loc main_arg4) : FVec Ideal S2048x64 .f32) (ix2 ⟨R.val % 2048, by omega⟩ e)) (fun e => (m ((c.tc : Thread nD τ).loc main_arg5) : FVec Ideal S2048x64 .f32) (ix2 ⟨R.val % 2048, by omega⟩ e)) ⟨J.val % 128, by omega⟩ := by
  rw [outsAt0_A m c t (by omega) (by omega)]
  frame_out
  rw [pay2_at]
  have hx : (⟨J.val % 128, by omega⟩ : Fin 128) = ⟨x.val % 128, by omega⟩ := fin_eq _ _ (by omega)
  have hr : (⟨R.val % 2048, by omega⟩ : Fin 2048) = ⟨t.val / 6 % 4 * 512 + r.val, by omega⟩ := fin_eq _ _ (by omega)
  rw [hx, hr]
  refine rope_eq (fun x : Fin 512 => k0_pay4 (F := Ideal) (k0_pay1 (F := Ideal) (iblk m c 0 t) (iblk m c 1 t)) (ix2 r x) * (iblk m c 2 t : FVec Ideal S1x512 .f32) (ix2 0 x))
    _ _ _ x _ _ _ (fun e => ?_) (cos_at m c t r x) (nsin_at m c t r x) (sin_at m c t r x)
  show k0_pay4 (F := Ideal) _ _ * _ = _
  rw [pay4_at, hg]
  have h1 : (⟨(x.val / 128 * 128 + e.val) % 128, by omega⟩ : Fin 128) = e := Fin.ext (by show (x.val / 128 * 128 + e.val) % 128 = e.val; omega)
  rw [h1]
  refine congrArg (fun z => hn z e * g (ix1 e)) (funext fun d => ?_)
  exact prod_eq m c t r _ R _ hR (by show J.val / 128 * 128 + d.val = t.val % 6 * 512 + ((x.val / 128 * 128 + e.val) / 128 * 128 + d.val); omega)

/-- The kernel's whole result array is the reference's function of the arguments. -/
theorem final (c : Dev nD) : (dats m 0 c).arrAt 6 (cfgs 0).N
    = REF (m ((c.tc : Thread nD τ).loc main_arg0) : FVec Ideal S8192x2048 .bf16) (m ((c.tc : Thread nD τ).loc main_arg1) : FVec Ideal S2048x3072 .f32) (m ((c.tc : Thread nD τ).loc main_arg2) : FVec Ideal S128 .f32) (m ((c.tc : Thread nD τ).loc main_arg3) : FVec Ideal S128 .f32) (m ((c.tc : Thread nD τ).loc main_arg4) : FVec Ideal S2048x64 .f32) (m ((c.tc : Thread nD τ).loc main_arg5) : FVec Ideal S2048x64 .f32) := by
  refine (dats m 0 c).arrAt_eq_of_covers 6 _ (by decide +kernel) fun t hf y => ?_
  blk_simp
  rw [after0_6]
  have ht : t.val < 96 := lt_of_lt_of_eq t.isLt N_0
  idx_vars y
  refine Eq.trans (b := OUT (PROD (m ((c.tc : Thread nD τ).loc main_arg0) : FVec Ideal S8192x2048 .bf16) (m ((c.tc : Thread nD τ).loc main_arg1) : FVec Ideal S2048x3072 .f32)) (m ((c.tc : Thread nD τ).loc main_arg2) : FVec Ideal S128 .f32) (m ((c.tc : Thread nD τ).loc main_arg3) : FVec Ideal S128 .f32) (m ((c.tc : Thread nD τ).loc main_arg4) : FVec Ideal S2048x64 .f32) (m ((c.tc : Thread nD τ).loc main_arg5) : FVec Ideal S2048x64 .f32)
    (ix2 ⟨t.val / 6 * 512 + y0.val, by omega⟩ ⟨t.val % 6 * 512 + y1.val, by omega⟩)) ?_ (by show OUT _ _ _ _ _ _ = OUT _ _ _ _ _ _; blk_ext [idx t])
  by_cases h1 : t.val % 6 < 3
  · rw [OUT_q _ _ _ _ _ _ _ (show t.val % 6 * 512 + y1.val < 1536 by omega)]
    exact heads_eq m c t (by omega) _ (gain_q m c t h1) y0 y1 _ _ rfl rfl
  by_cases h2 : t.val % 6 = 3
  · rw [OUT_k _ _ _ _ _ _ _ (show ¬t.val % 6 * 512 + y1.val < 1536 by omega) (show t.val % 6 * 512 + y1.val < 2048 by omega)]
    exact heads_eq m c t (by omega) _ (gain_k m c t h2) y0 y1 _ _ rfl rfl
  rw [OUT_v _ _ _ _ _ _ _ (show ¬t.val % 6 * 512 + y1.val < 2048 by omega), outsAt0_B m c t (by omega) (by omega)]
  frame_out
  exact prod_eq m c t y0 y1 _ _ rfl rfl

end Cert.ProjIdeal.Rotate
end
-- ==== Proof.ProjClaims.lean ====
/- The claims about the attention layer's input projection, head norms and rotation. -/
module

public import proofs.«01_k».proof.Defs
public import proofs.«01_k».proof.Proof.Gen.Proj.Frame
public import proofs.«01_k».proof.Proof.ProjValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.ProjClaims

theorem frame_p : Cert.quiescent_Proj := fun m ρ _ => Cert.Proj.Gen.frame m ρ
theorem frame_pi : Cert.quiescent_ProjIdeal := fun m ρ _ => Cert.ProjIdeal.Gen.frame m ρ
theorem frame_ri : Cert.quiescent_ProjRefIdeal := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

theorem preserves : Cert.preserves_Proj_ProjIdeal := trivial

/-- The kernel's result is the reference's, for all arguments. -/
theorem algebraic : Cert.algebraic_ProjIdeal_ProjRefIdeal := by
  intro m ρ m' ρ' _ hagree
  refine ⟨_, Cert.ProjIdeal.Value.run_blocks (F := Ideal) m ρ, ?_⟩
  refine (θ_run Cert.ProjRefIdeal.defs _ _).mono (fun _ h c => ⟨(h c).1.trans ?_, (h c).2⟩)
    (Cert.ProjRefIdeal.Value.run (F := Ideal) m' ρ')
  refine Eq.trans (b := Cert.ProjRefIdeal.Rotate.REF (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg5))) rfl ?_
  obtain ⟨e0, e1, e2, e3, e4, e5⟩ := hagree c
  rw [e0, e1, e2, e3, e4, e5]
  exact (Cert.ProjIdeal.Rotate.final m c).symm

end Cert.Proof.ProjClaims
end
-- ==== Proof.PoolOutValue.lean ====
/- The pooled branch's grouped product with the residual and the norm after it: the kernel's two results are the reference's functions of the arguments. -/
module

public import proofs.«01_k».proof.Proof.Gen.PoolOutIdeal.Value
public import proofs.«01_k».proof.Proof.Gen.PoolOutRefIdeal.Run
public import proofs.«01_k».proof.Proof.Rms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.PoolOutRefIdeal.Pooled

open Cert.PoolOutRefIdeal Cert.PoolOutRefIdeal.Gen

/-- The reference's first result: the grouped product of the pooled rows, scaled, plus the residual. -/
def SUM (P : FVec Ideal S8192x2048 .bf16) (W : FVec Ideal S4x512x512 .f32) (s : FVec Ideal S2048 .f32) (X : FVec Ideal S8192x2048 .f32) : FVec Ideal S8192x2048 .f32 :=
  addf (mulf (shapeCast S8192x2048 (transpose S4x2048x4x512 [2, 3, 0, 1] (Host.dotGeneral dot_S4x512x512_S4x2048x4x512_S4x512x4x2048_1_3_2_01_0_2 none W
    (shapeCast S4x2048x4x512 (extf .f32 P bitsLt_bf16_f32) shapeCasts_S8192x2048_S4x2048x4x512)) transposes_S4x512x4x2048_S4x2048x4x512_2_3_0_1) shapeCasts_S4x2048x4x512_S8192x2048)
    (broadcastInDim S8192x2048 ![0, 1] bcast_S1x2048_S8192x2048_0_1 (broadcastInDim S1x2048 ![1] bcast_S2048_S1x2048_1 s))) X

/-- The reference's second result from its first: the norm of every row. -/
def NORM (X : FVec Ideal S8192x2048 .f32) (g : FVec Ideal S2048 .f32) : FVec Ideal S8192x2048 .bf16 :=
  truncf .bf16 (mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) bitsLt_bf16_f32

/-- The reference's first result as a function of its arguments. -/
def REF (P : FVec Ideal S8192x2048 .bf16) (W : FVec Ideal S4x512x512 .f32) (s : FVec Ideal S2048 .f32) (X : FVec Ideal S8192x2048 .f32) (g : FVec Ideal S2048 .f32) :
    FVec Ideal S8192x2048 .f32 := SUM P W s X

/-- The reference's second result as a function of its arguments. -/
def REFN (P : FVec Ideal S8192x2048 .bf16) (W : FVec Ideal S4x512x512 .f32) (s : FVec Ideal S2048 .f32) (X : FVec Ideal S8192x2048 .f32) (g : FVec Ideal S2048 .f32) :
    FVec Ideal S8192x2048 .bf16 := NORM (SUM P W s X) g

theorem SUM_at (P : FVec Ideal S8192x2048 .bf16) (W : FVec Ideal S4x512x512 .f32) (s : FVec Ideal S2048 .f32) (X : FVec Ideal S8192x2048 .f32)
    (r : Fin 8192) (j : Fin 2048) :
    SUM P W s X (ix2 r j) = (∑ d : Fin 512, W (ix3 ⟨j.val / 512, by omega⟩ d ⟨j.val % 512, by omega⟩)
      * P (ix2 r ⟨j.val / 512 * 512 + d.val, by omega⟩)) * s (ix1 j) + X (ix2 r j) := by
  pointwise [SUM]

theorem NORM_at (X : FVec Ideal S8192x2048 .f32) (g : FVec Ideal S2048 .f32) (r : Fin 8192) (j : Fin 2048) :
    NORM X g (ix2 r j) = Cert.Rms.norm (fun x => X (ix2 r x)) (g (ix1 j)) j := by
  pointwise [NORM, Cert.Rms.norm]

end Cert.PoolOutRefIdeal.Pooled

namespace Cert.PoolOutIdeal.Pooled

open Cert.PoolOutIdeal Cert.PoolOutIdeal.Gen

variable (m : (ℓ : Loc nD τ sig) → Buf (Elt Ideal) ℓ)

theorem pay2_at (p : Vec Ideal S512x512 .bf16) (w : Vec Ideal S1x512x512 .f32) (s : Vec Ideal S1x512 .f32) (x : Vec Ideal S512x512 .f32) (r j : Fin 512) :
    k0_pay2 (F := Ideal) p w s x (ix2 r j) = (∑ d : Fin 512, p (ix2 r d) * w (ix3 0 d j)) * s (ix2 0 j) + x (ix2 r j) := by
  pointwise [k0_pay2]

theorem pay3_at (p : Vec Ideal S512x512 .bf16) (w : Vec Ideal S1x512x512 .f32) (s : Vec Ideal S1x512 .f32) (x : Vec Ideal S512x512 .f32) (r j : Fin 512) :
    k0_pay3 (F := Ideal) p w s x (ix2 r j) = (∑ d : Fin 512, p (ix2 r d) * w (ix3 0 d j)) * s (ix2 0 j) + x (ix2 r j) := by
  pointwise [k0_pay3]

theorem pay5_at (p : Vec Ideal S512x512 .bf16) (w : Vec Ideal S1x512x512 .f32) (s : Vec Ideal S1x512 .f32) (x : Vec Ideal S512x512 .f32) (r j : Fin 512) :
    k0_pay5 (F := Ideal) p (k0_pay4 (F := Ideal) w) s x (ix2 r j) = (∑ d : Fin 512, p (ix2 r d) * w (ix3 0 d j)) * s (ix2 0 j) + x (ix2 r j) := by
  pointwise [k0_pay5, k0_pay4]

theorem pay6_at (p : Vec Ideal S512x512 .bf16) (w : Vec Ideal S1x512x512 .f32) (s : Vec Ideal S1x512 .f32) (x : Vec Ideal S512x512 .f32) (r j : Fin 512) :
    k0_pay6 (F := Ideal) p w s x (ix2 r j) = (∑ d : Fin 512, p (ix2 r d) * w (ix3 0 d j)) * s (ix2 0 j) + x (ix2 r j) := by
  pointwise [k0_pay6]

/-- What the kernel stores in its second result is the norm of the rows that it reads back from its first. -/
theorem norm_at (X : Vec Ideal S512x2048 .f32) (g : Vec Ideal S1x2048 .f32) (r : Fin 512) (j : Fin 2048) :
    k0_pay1 (F := Ideal) (k0_pay7 X) (k0_pay8 g) (k0_pay9 X) (ix2 r j) = Cert.Rms.norm (fun x => X (ix2 r x)) (g (ix2 0 j)) j := by
  pointwise [k0_pay1, k0_pay7, k0_pay8, k0_pay9, Cert.Rms.norm]

/-- The block that each window shows at a grid point. -/
theorem idx : ∀ t : Fin cfg0.N,
    win0_0.index t = ![t.val, 0] ∧
    win0_1.index t = ![0, 0, 0] ∧
    win0_2.index t = ![0, 0] ∧
    win0_3.index t = ![t.val, 0] ∧
    win0_4.index t = ![0, 0] ∧
    win0_5.index t = ![t.val, 0] ∧
    win0_6.index t = ![t.val, 0] := (by decide +kernel : ∀ t : Fin grid0.N, _)

/-- The block of scales is the scale vector. -/
theorem scale_at (c : Dev nD) (t : Fin cfg0.N) (j : Fin 2048) :
    iblk m c 2 t (ix2 0 j) = m ((c.tc : Thread nD τ).loc main_arg2) (ix1 j) := by
  have h : ∀ y : S1x2048.Idx, V m c main_v0 y = m ((c.tc : Thread nD τ).loc main_arg2) (ix1 (y 1)) := by
    intro y
    entry_read
    idx_vars y
    pointwise
  refine Eq.trans (b := V m c main_v0 ((win0_2.blk t).view.emb (ix2 0 j))) rfl ?_
  rw [h]
  blk_ext [idx t]

/-- The block of gains is the gain vector. -/
theorem gain_at (c : Dev nD) (t : Fin cfg0.N) (j : Fin 2048) :
    iblk m c 4 t (ix2 0 j) = m ((c.tc : Thread nD τ).loc main_arg4) (ix1 j) := by
  have h : ∀ y : S1x2048.Idx, V m c main_v1 y = m ((c.tc : Thread nD τ).loc main_arg4) (ix1 (y 1)) := by
    intro y
    entry_read
    idx_vars y
    pointwise
  refine Eq.trans (b := V m c main_v1 ((win0_4.blk t).view.emb (ix2 0 j))) rfl ?_
  rw [h]
  blk_ext [idx t]

open Cert.PoolOutRefIdeal.Pooled in
/-- The first output block is the reference's first result on the block. -/
theorem out (c : Dev nD) (t : Fin cfg0.N) (y : S512x2048.Idx) (R : Fin 8192) (L : Fin 2048) (hR : R.val = t.val * 512 + (y 0).val) (hL : L.val = (y 1).val) :
    (outsAt0 m c t).1 y = SUM (m ((c.tc : Thread nD τ).loc main_arg0)) (m ((c.tc : Thread nD τ).loc main_arg1)) (m ((c.tc : Thread nD τ).loc main_arg2)) (m ((c.tc : Thread nD τ).loc main_arg3)) (ix2 R L) := by
  rw [SUM_at, outsAt0]
  have ht : t.val < 16 := lt_of_lt_of_eq t.isLt N_0
  frame_out
  canon_tiles x h
  · idx_vars x
    rw [pay6_at]
    refine congr (congrArg HAdd.hAdd (congr (congrArg HMul.hMul (Fin.sum_fin_congr fun d => ?_)) ?_)) ?_
    · rw [mul_comm]
      blk_point [iblk, V, idx t]
    · refine Eq.trans (congrArg (iblk m c 2 t) ?_) (scale_at m c t L)
      blk_ext [idx t]
      show 1536 + 1 * x1.val = L.val
      omega
    · blk_point [iblk, V, idx t]
  · idx_vars x
    rw [pay5_at]
    refine congr (congrArg HAdd.hAdd (congr (congrArg HMul.hMul (Fin.sum_fin_congr fun d => ?_)) ?_)) ?_
    · rw [mul_comm]
      blk_point [iblk, V, idx t]
    · refine Eq.trans (congrArg (iblk m c 2 t) ?_) (scale_at m c t L)
      blk_ext [idx t]
      show 1024 + 1 * x1.val = L.val
      omega
    · blk_point [iblk, V, idx t]
  · idx_vars x
    rw [pay3_at]
    refine congr (congrArg HAdd.hAdd (congr (congrArg HMul.hMul (Fin.sum_fin_congr fun d => ?_)) ?_)) ?_
    · rw [mul_comm]
      blk_point [iblk, V, idx t]
    · refine Eq.trans (congrArg (iblk m c 2 t) ?_) (scale_at m c t L)
      blk_ext [idx t]
      show 512 + 1 * x1.val = L.val
      omega
    · blk_point [iblk, V, idx t]
  · idx_vars x
    rw [pay2_at]
    refine congr (congrArg HAdd.hAdd (congr (congrArg HMul.hMul (Fin.sum_fin_congr fun d => ?_)) ?_)) ?_
    · rw [mul_comm]
      blk_point [iblk, V, idx t]
    · refine Eq.trans (congrArg (iblk m c 2 t) ?_) (scale_at m c t L)
      blk_ext [idx t]
      show 0 + 1 * x1.val = L.val
      omega
    · blk_point [iblk, V, idx t]

open Cert.PoolOutRefIdeal.Pooled in
/-- The second output block is the norm of the reference's first result on the block. -/
theorem outN (c : Dev nD) (t : Fin cfg0.N) (r : Fin 512) (j : Fin 2048) (R : Fin 8192) (hR : R.val = t.val * 512 + r.val) :
    (outsAt0 m c t).2 (ix2 r j) = NORM (SUM (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg4)) (ix2 R j) := by
  have key : ∀ x : Fin 2048, (outsAt0 m c t).1 (ix2 r x) = SUM (m ((c.tc : Thread nD τ).loc main_arg0)) (m ((c.tc : Thread nD τ).loc main_arg1)) (m ((c.tc : Thread nD τ).loc main_arg2)) (m ((c.tc : Thread nD τ).loc main_arg3)) (ix2 R x) :=
    fun x => out m c t (ix2 r x) R x hR rfl
  rw [outsAt0] at key ⊢
  revert key
  frame_out
  intro key
  rw [View.readCov_eq_canon', norm_at, NORM_at, gain_at]
  simp only [← key]
  refine congrArg (fun f => Cert.Rms.norm f _ j) (funext fun x => congrArg (View.canon _) ?_)
  blk_ext
  · show 0 + 1 * r.val = r.val
    omega
  · show 0 + 1 * x.val = x.val
    omega

open Cert.PoolOutRefIdeal.Pooled in
/-- The kernel's first result array is the reference's. -/
theorem final (c : Dev nD) : (dats m 0 c).arrAt 5 (cfgs 0).N
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  have ht : t.val < 16 := lt_of_lt_of_eq t.isLt N_0
  idx_vars y
  refine (out m c t (ix2 y0 y1) ⟨t.val * 512 + y0.val, by omega⟩ y1 rfl rfl).trans ?_
  show SUM _ _ _ _ _ = SUM _ _ _ _ _
  blk_ext [idx t]

open Cert.PoolOutRefIdeal.Pooled in
/-- The kernel's second result array is the reference's. -/
theorem finalN (c : Dev nD) : (dats m 0 c).arrAt 6 (cfgs 0).N
    = REFN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  have ht : t.val < 16 := lt_of_lt_of_eq t.isLt N_0
  idx_vars y
  refine (outN m c t y0 y1 ⟨t.val * 512 + y0.val, by omega⟩ rfl).trans ?_
  show NORM _ _ _ = NORM _ _ _
  blk_ext [idx t]

end Cert.PoolOutIdeal.Pooled
end
-- ==== Proof.PoolOutClaims.lean ====
/- The claims about the pooled branch's grouped product, residual and norm. -/
module

public import proofs.«01_k».proof.Defs
public import proofs.«01_k».proof.Proof.Gen.PoolOut.Frame
public import proofs.«01_k».proof.Proof.PoolOutValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.PoolOutClaims

theorem frame_p : Cert.quiescent_PoolOut := fun m ρ _ => Cert.PoolOut.Gen.frame m ρ
theorem frame_pi : Cert.quiescent_PoolOutIdeal := fun m ρ _ => Cert.PoolOutIdeal.Gen.frame m ρ
theorem frame_ri : Cert.quiescent_PoolOutRefIdeal := fun m ρ _ =>
  (θ_run Cert.PoolOutRefIdeal.defs _ _).mono (fun r h => ⟨fun c => (h c).2.2,
      Idealize.ShloMosaic.sem_eq_zero_of_no_sems (by decide) r.2⟩)
    (Cert.PoolOutRefIdeal.Value.run (F := Ideal) m ρ)

theorem preserves : Cert.preserves_PoolOut_PoolOutIdeal := trivial

/-- The kernel's results are the reference's, for all arguments. -/
theorem algebraic : Cert.algebraic_PoolOutIdeal_PoolOutRefIdeal := by
  intro m ρ m' ρ' _ hagree
  refine ⟨_, _, Cert.PoolOutIdeal.Value.run_blocks (F := Ideal) m ρ, ?_⟩
  refine (θ_run Cert.PoolOutRefIdeal.defs _ _).mono (fun _ h c => ⟨(h c).1.trans ?_, (h c).2.1.trans ?_, (h c).2.2⟩)
    (Cert.PoolOutRefIdeal.Value.run (F := Ideal) m' ρ')
  · refine Eq.trans (b := Cert.PoolOutRefIdeal.Pooled.REF (m' ((c.tc : Thread Cert.PoolOutRefIdeal.nD Cert.PoolOutRefIdeal.τ).loc Cert.PoolOutRefIdeal.main_arg0)) (m' ((c.tc : Thread Cert.PoolOutRefIdeal.nD Cert.PoolOutRefIdeal.τ).loc Cert.PoolOutRefIdeal.main_arg1)) (m' ((c.tc : Thread Cert.PoolOutRefIdeal.nD Cert.PoolOutRefIdeal.τ).loc Cert.PoolOutRefIdeal.main_arg2)) (m' ((c.tc : Thread Cert.PoolOutRefIdeal.nD Cert.PoolOutRefIdeal.τ).loc Cert.PoolOutRefIdeal.main_arg3)) (m' ((c.tc : Thread Cert.PoolOutRefIdeal.nD Cert.PoolOutRefIdeal.τ).loc Cert.PoolOutRefIdeal.main_arg4))) rfl ?_
    obtain ⟨e0, e1, e2, e3, e4⟩ := hagree c
    rw [e0, e1, e2, e3, e4]
    exact (Cert.PoolOutIdeal.Pooled.final m c).symm
  · refine Eq.trans (b := Cert.PoolOutRefIdeal.Pooled.REFN (m' ((c.tc : Thread Cert.PoolOutRefIdeal.nD Cert.PoolOutRefIdeal.τ).loc Cert.PoolOutRefIdeal.main_arg0)) (m' ((c.tc : Thread Cert.PoolOutRefIdeal.nD Cert.PoolOutRefIdeal.τ).loc Cert.PoolOutRefIdeal.main_arg1)) (m' ((c.tc : Thread Cert.PoolOutRefIdeal.nD Cert.PoolOutRefIdeal.τ).loc Cert.PoolOutRefIdeal.main_arg2)) (m' ((c.tc : Thread Cert.PoolOutRefIdeal.nD Cert.PoolOutRefIdeal.τ).loc Cert.PoolOutRefIdeal.main_arg3)) (m' ((c.tc : Thread Cert.PoolOutRefIdeal.nD Cert.PoolOutRefIdeal.τ).loc Cert.PoolOutRefIdeal.main_arg4))) rfl ?_
    obtain ⟨e0, e1, e2, e3, e4⟩ := hagree c
    rw [e0, e1, e2, e3, e4]
    exact (Cert.PoolOutIdeal.Pooled.finalN m c).symm

end Cert.Proof.PoolOutClaims
end
-- ==== Proof.CombineValue.lean ====
/- The call that adds the experts' rows to the residual: the slots, the reference's results at an index, what the kernel
   computes at a grid point, and that the kernel's two results are the reference's. -/
module

public import proofs.«01_k».proof.Proof.Gen.CombineRefIdeal.Run
public import proofs.«01_k».proof.Proof.Gen.CombineIdeal.Frame
public import proofs.«01_k».proof.Proof.Gen.CombineIdeal.Value
public import proofs.«01_k».proof.Proof.Rms
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Slots

/-- The number of a slot: an integer below 256 that 32 bits hold. -/
def IsSlot (p : EReal) : Prop := ∃ k : ℤ, -2147483648 ≤ k ∧ k < 256 ∧ p = ((k : ℝ) : EReal)

/-- A slot's number converted to an integer is that integer. -/
theorem fptosi_int (k : ℤ) (h1 : -2147483648 ≤ k) (h2 : k < 256) : Ideal.fptosi 32 ((k : ℝ) : EReal) = BitVec.ofInt 32 k := by
  show BitVec.ofInt 32 (max (-(2 ^ (32 - 1) : Nat)) (min (((2 ^ (32 - 1) : Nat) : ℤ) - 1) (if 0 ≤ (k : ℝ) then ⌊(k : ℝ)⌋ else ⌈(k : ℝ)⌉))) = _
  have e : (if 0 ≤ (k : ℝ) then ⌊(k : ℝ)⌋ else ⌈(k : ℝ)⌉) = k := by simp
  rw [e]
  congr 1
  omega

/-- A quotient of a small number, as bits. -/
theorem div_bits (R : Nat) (hR : R < 8192) : IntOp.divsi .host (BitVec.ofNat 32 R) 2048#32 = BitVec.ofNat 32 (R / 2048) := by
  have hc : ¬ IntOp.SDivCorner (BitVec.ofNat 32 R) 2048#32 := by
    unfold IntOp.SDivCorner
    rintro (h | ⟨-, h⟩)
    · exact absurd h (by decide)
    · exact absurd h (by decide)
  unfold IntOp.divsi
  rw [if_neg hc]
  have hm : (BitVec.ofNat 32 R).msb = false := by
    rw [BitVec.msb_eq_decide]
    simp
    omega
  have hm2 : (2048#32).msb = false := by decide
  rw [BitVec.sdiv_eq, hm, hm2]
  apply BitVec.eq_of_toNat_eq
  simp
  omega

/-- A slot's number, as bits, read as an integer. -/
theorem toInt_bits (k : ℤ) (h1 : -2147483648 ≤ k) (h2 : k < 256) : (BitVec.ofInt 32 k).toInt = k := by
  rw [BitVec.toInt_ofInt, Int.bmod_eq_of_le (by omega) (by omega)]

/-- The greater of a slot's number and zero, as bits. -/
theorem max_bits (k : ℤ) (h1 : -2147483648 ≤ k) (h2 : k < 256) : IntOp.maxsi (BitVec.ofInt 32 k) 0#32 = BitVec.ofNat 32 k.toNat := by
  apply BitVec.eq_of_toInt_eq
  have e : (BitVec.ofNat 32 k.toNat).toInt = max k 0 := by
    rw [BitVec.toInt_eq_toNat_of_lt] <;> rw [BitVec.toNat_ofNat, Nat.mod_eq_of_lt (by omega)] <;> omega
  rw [e]
  unfold IntOp.maxsi
  have e2 : (0#32).slt (BitVec.ofInt 32 k) = decide (0 < k) := by
    rw [BitVec.slt_eq_decide, toInt_bits k h1 h2]
    rfl
  rw [e2]
  by_cases h : 0 < k
  · rw [if_pos (decide_eq_true h), toInt_bits k h1 h2]
    omega
  · rw [if_neg (by simpa using h)]
    show (0 : ℤ) = max k 0
    omega

/-- A slot's number, as bits, is nonnegative just when the number is. -/
theorem sle_bits (k : ℤ) (h1 : -2147483648 ≤ k) (h2 : k < 256) : (0#32).sle (BitVec.ofInt 32 k) = decide (0 ≤ k) := by
  rw [BitVec.sle_eq_decide, toInt_bits k h1 h2]
  rfl

/-- The row's number in the experts' results, as bits, is the number. -/
theorem row_eq (e R : Nat) (he : e < 16) (hR : R < 8192) (k : ℤ) (h1 : -2147483648 ≤ k) (h2 : k < 256) :
    (IntOp.addi (IntOp.muli (IntOp.addi (IntOp.muli (BitVec.ofNat 32 e) 4#32) (IntOp.divsi .host (BitVec.ofNat 32 R) 2048#32)) 256#32) (IntOp.maxsi (BitVec.ofInt 32 k) 0#32)).toInt.toNat
      = (e * 4 + R / 2048) * 256 + k.toNat := by
  rw [div_bits R hR, max_bits k h1 h2]
  show (((BitVec.ofNat 32 e * BitVec.ofNat 32 4 + BitVec.ofNat 32 (R / 2048)) * BitVec.ofNat 32 256) + BitVec.ofNat 32 k.toNat).toInt.toNat = _
  rw [← BitVec.ofNat_mul, ← BitVec.ofNat_add, ← BitVec.ofNat_mul, ← BitVec.ofNat_add]
  have hb : (e * 4 + R / 2048) * 256 + k.toNat < 16384 := by omega
  generalize (e * 4 + R / 2048) * 256 + k.toNat = N at hb
  have e : (BitVec.ofNat 32 N).toInt = ((N : ℕ) : ℤ) := by
    rw [BitVec.toInt_eq_toNat_of_lt] <;> rw [BitVec.toNat_ofNat, Nat.mod_eq_of_lt (by omega)]
    omega
  rw [e]
  rfl

end Cert.Slots

namespace Cert.CombineRefIdeal.Combined

open Cert.CombineRefIdeal Cert.CombineRefIdeal.Gen

/-- The slot of every token with every expert. -/
def SLOT (p : FVec Ideal S8192x128 .f32) : IVec S8192x16 32 := fptosi 32 (extractStridedSlice S8192x16 ![0, 0] p slices_S8192x128_S8192x16_0_0)

/-- The row of the experts' results that holds a token's slot with an expert. -/
def ROW (s : IVec S8192x16 32) : IVec S8192x16 32 :=
  addi (muli (addi (broadcastInDim S8192x16 ![0, 1] bcast_S1x16_S8192x16_0_1 (muli (broadcastInDim S1x16 ![1] bcast_S16_S1x16_1 (iotaInDim S16 32 0)) (broadcastInDim S1x16 ![] bcast_S_S1x16 (constantI S_ 32 4#32))))
    (broadcastInDim S8192x16 ![0, 1] bcast_S8192x1_S8192x16_0_1 (broadcastInDim S8192x1 ![0] bcast_S8192_S8192x1_0 (Host.divsi (iotaInDim S8192 32 0) (broadcastInDim S8192 ![] bcast_S_S8192 (constantI S_ 32 2048#32))))))
    (broadcastInDim S8192x16 ![] bcast_S_S8192x16 (constantI S_ 32 256#32))) (maxsi s (broadcastInDim S8192x16 ![] bcast_S_S8192x16 (constantI S_ 32 0#32)))

/-- The rows that the tokens take from the experts' results. -/
def PICK (y : FVec Ideal S16384x2048 .bf16) (r : IVec S8192x16 32) : FVec Ideal S8192x16x2048 .bf16 :=
  Host.gather gather_S16384x2048_S8192x16x1_S8192x16x2048_2_0_n_n_0_2_12048 y (broadcastInDim S8192x16x1 ![0, 1] bcast_S8192x16_S8192x16x1_0_1 r)

/-- The weight of every expert for every token: the affinity where the token has a slot, else zero. -/
def GATE (s : IVec S8192x16 32) (a : FVec Ideal S8192x128 .f32) : FVec Ideal S8192x16 .f32 :=
  select (cmpi .sge s (broadcastInDim S8192x16 ![] bcast_S_S8192x16 (constantI S_ 32 0#32))) (extractStridedSlice S8192x16 ![0, 0] a slices_S8192x128_S8192x16_0_0)
    (broadcastInDim S8192x16 ![] bcast_S_S8192x16 (id (constant S_ .f32 0x00000000#32)))

/-- The residual plus the weighted sum of the rows. -/
def TOTAL (x : FVec Ideal S8192x2048 .f32) (k : FVec Ideal S8192x16x2048 .bf16) (g : FVec Ideal S8192x16 .f32) : FVec Ideal S8192x2048 .f32 :=
  addf x (Host.reduceAdd (mulf (extf .f32 k bitsLt_bf16_f32) (broadcastInDim S8192x16x2048 ![0, 1, 2] bcast_S8192x16x1_S8192x16x2048_0_1_2
    (broadcastInDim S8192x16x1 ![0, 1] bcast_S8192x16_S8192x16x1_0_1 g))) (constant S_ .f32 0x00000000#32) reducesTo_S8192x16x2048_S8192x2048_d1 h_S_)

/-- The norm of every row of the first result. -/
def NORM (X : FVec Ideal S8192x2048 .f32) (g : FVec Ideal S2048 .f32) : FVec Ideal S8192x2048 .f32 :=
  mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The reference's first result as a function of its arguments. -/
def REF (x : FVec Ideal S8192x2048 .f32) (y : FVec Ideal S16384x2048 .bf16) (p a : FVec Ideal S8192x128 .f32) (g : FVec Ideal S2048 .f32) : FVec Ideal S8192x2048 .f32 :=
  TOTAL x (PICK y (ROW (SLOT p))) (GATE (SLOT p) a)

/-- The reference's second result as a function of its arguments. -/
def REFN (x : FVec Ideal S8192x2048 .f32) (y : FVec Ideal S16384x2048 .bf16) (p a : FVec Ideal S8192x128 .f32) (g : FVec Ideal S2048 .f32) : FVec Ideal S8192x2048 .f32 :=
  NORM (TOTAL x (PICK y (ROW (SLOT p))) (GATE (SLOT p) a)) g

theorem SLOT_at (p : FVec Ideal S8192x128 .f32) (R : Fin 8192) (e : Fin 16) : SLOT p (ix2 R e) = Ideal.fptosi 32 (p (ix2 R ⟨e.val, by omega⟩)) := by
  pointwise [SLOT]
  try rfl

theorem ROW_at (s : IVec S8192x16 32) (R : Fin 8192) (e : Fin 16) (k : ℤ) (h1 : -2147483648 ≤ k) (h2 : k < 256) (h : s (ix2 R e) = BitVec.ofInt 32 k) :
    (ROW s (ix2 R e)).toInt.toNat = (e.val * 4 + R.val / 2048) * 256 + k.toNat := by
  pointwise [ROW]
  rw [h]
  exact Cert.Slots.row_eq e.val R.val e.isLt R.isLt k h1 h2

theorem PICK_at (y : FVec Ideal S16384x2048 .bf16) (r : IVec S8192x16 32) (R : Fin 8192) (e : Fin 16) (j : Fin 2048) :
    PICK y r (ix3 R e j) = y (ix2 ⟨min (r (ix2 R e)).toInt.toNat 16383, by omega⟩ j) := by
  unfold PICK Host.gather
  congr 1
  funext a
  refine Fin.ext ?_
  show (gather_S16384x2048_S8192x16x1_S8192x16x2048_2_0_n_n_0_2_12048).start _ _ a + (gather_S16384x2048_S8192x16x1_S8192x16x2048_2_0_n_n_0_2_12048).batchCoord _ a
      + (gather_S16384x2048_S8192x16x1_S8192x16x2048_2_0_n_n_0_2_12048).offCoord _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S16384x2048_S8192x16x1_S8192x16x2048_2_0_n_n_0_2_12048).startIndexMap from List.mem_singleton.mpr rfl)]
    have hsi : (gather_S16384x2048_S8192x16x1_S8192x16x2048_2_0_n_n_0_2_12048).siIdx (ix3 R e j) ⟨List.idxOf (0 : Fin 2) (gather_S16384x2048_S8192x16x1_S8192x16x2048_2_0_n_n_0_2_12048).startIndexMap,
        List.idxOf_lt_length_iff.2 (List.mem_singleton.mpr rfl)⟩ = ix3 R e 0 := by
      funext b; refine Fin.ext ?_
      match b with
      | ⟨0, _⟩ => rfl
      | ⟨1, _⟩ => rfl
      | ⟨2, _⟩ => rfl
    rw [hsi]
    have hb : (broadcastInDim S8192x16x1 ![0, 1] bcast_S8192x16_S8192x16x1_0_1 r) (ix3 R e 0) = r (ix2 R e) := by pointwise
    rw [hb]
    rfl
  · have hs : (gather_S16384x2048_S8192x16x1_S8192x16x2048_2_0_n_n_0_2_12048).start (ix3 R e j) (broadcastInDim S8192x16x1 ![0, 1] bcast_S8192x16_S8192x16x1_0_1 r) 1 = 0 := by
      unfold GatherDims.start
      exact dif_neg (show ¬ (1 : Fin 2) ∈ [(0 : Fin 2)] by decide)
    rw [hs]
    simp only [Nat.zero_add, Nat.add_zero]
    rfl

theorem GATE_at (s : IVec S8192x16 32) (a : FVec Ideal S8192x128 .f32) (R : Fin 8192) (e : Fin 16) :
    GATE s a (ix2 R e) = if BitVec.ofBool ((0#32).sle (s (ix2 R e))) = 1#1 then a (ix2 R ⟨e.val, by omega⟩) else 0 := by
  have hz : (id (constant S_ .f32 0x00000000#32 : FVec Ideal S_ .f32)) ix0 = (0 : EReal) := by
    show (constant S_ .f32 0x00000000#32 : FVec Ideal S_ .f32) ix0 = (0 : EReal)
    pointwise
  pointwise [GATE]
  rw [hz]
  rfl

theorem TOTAL_at (x : FVec Ideal S8192x2048 .f32) (k : FVec Ideal S8192x16x2048 .bf16) (g : FVec Ideal S8192x16 .f32) (R : Fin 8192) (j : Fin 2048) :
    TOTAL x k g (ix2 R j) = x (ix2 R j) + ∑ e : Fin 16, k (ix3 R e j) * g (ix2 R e) := by
  pointwise [TOTAL]

theorem NORM_at (X : FVec Ideal S8192x2048 .f32) (g : FVec Ideal S2048 .f32) (r : Fin 8192) (j : Fin 2048) :
    NORM X g (ix2 r j) = Cert.Rms.norm (fun x => X (ix2 r x)) (g (ix1 j)) j := by
  pointwise [NORM, Cert.Rms.norm]

end Cert.CombineRefIdeal.Combined

namespace Cert.CombineIdeal.Combined

open Cert.CombineIdeal Cert.CombineIdeal.Gen

/-- The sum over a row's lanes of the entries whose lane is the expert's. -/
def lane (i : grid0.Coords) (v : Vec Ideal S512x128 .f32) (r : Fin 512) : EReal :=
  ∑ l : Fin 128, Scalar.select (IntOp.cmpi .eq (BitVec.ofNat 32 l.val) (BitVec.ofNat 32 (i 2).val)) (v (ix2 r l)) (0 : EReal)

/-- One where the slot's number is `s`, else zero, as the kernel computes it. -/
def hot (q : EReal) (s : Fin 256) : EReal :=
  FloatOps.sitofp (F := Ideal) .f32 (BitVec.setWidth 32 (BitVec.ofBool (decide ((FloatOps.sitofp (F := Ideal) .f32 (BitVec.ofNat 32 s.val) : EReal) = q))))

/-- What a grid point adds to the residual's entry. -/
def added (i : grid0.Coords) (p a : Vec Ideal S512x128 .f32) (y : Vec Ideal S256x2048 .bf16) (r : Fin 512) (j : Fin 2048) : EReal :=
  lane i a r * ∑ s : Fin 256, @HMul.hMul EReal EReal EReal _ (hot (lane i p r) s) (y (ix2 s j))

theorem pay1_at (i : grid0.Coords) (p a : Vec Ideal S512x128 .f32) (x : Vec Ideal S512x2048 .f32) (y : Vec Ideal S256x2048 .bf16) (r : Fin 512) (j : Fin 2048) :
    k0_pay1 (F := Ideal) i p a x y (ix2 r j) = x (ix2 r j) + added i p a y r j := by
  pointwise [k0_pay1, added, lane, hot]

theorem pay2_at (acc : Vec Ideal S512x2048 .f32) (g : Vec Ideal S1x2048 .f32) (r : Fin 512) (j : Fin 2048) :
    k0_pay2 (F := Ideal) acc g (ix2 r j) = Cert.Rms.norm (fun x => acc (ix2 r x)) (g (ix2 0 j)) j := by
  pointwise [k0_pay2, Cert.Rms.norm]

/-- The block that each window shows at a grid point. -/
theorem idx : ∀ t : Fin cfg0.N,
    win0_0.index t = ![t.val / 16, 0] ∧
    win0_1.index t = ![t.val % 16 * 4 + t.val / 64, 0] ∧
    win0_2.index t = ![t.val / 16, 0] ∧
    win0_3.index t = ![t.val / 16, 0] ∧
    win0_4.index t = ![0, 0] ∧
    win0_5.index t = ![t.val / 16, 0] ∧
    win0_6.index t = ![t.val / 16, 0] := (by decide +kernel : ∀ t : Fin grid0.N, _)

/-- The expert of a grid point. -/
theorem expert_eq : ∀ t : Fin cfg0.N, (grid0.coords t 2).val = t.val % 16 := (by decide +kernel : ∀ t : Fin grid0.N, _)

/-- The sum over the lanes is the expert's lane. -/
theorem lane_eq (i : grid0.Coords) (v : Vec Ideal S512x128 .f32) (r : Fin 512) (e : Fin 128) (he : (i 2).val = e.val) : lane i v r = v (ix2 r e) := by
  unfold lane
  rw [he]
  have key : ∀ l : Fin 128, IntOp.cmpi .eq (BitVec.ofNat 32 l.val) (BitVec.ofNat 32 e.val) = BitVec.ofBool (decide (l = e)) := by
    intro l
    show BitVec.ofBool (BitVec.ofNat 32 l.val == BitVec.ofNat 32 e.val) = _
    congr 1
    rw [Bool.eq_iff_iff, beq_iff_eq, decide_eq_true_iff]
    constructor
    · intro h
      have h' := congrArg BitVec.toNat h
      rw [BitVec.toNat_ofNat, BitVec.toNat_ofNat, Nat.mod_eq_of_lt (by omega), Nat.mod_eq_of_lt (by omega)] at h'
      exact Fin.ext h'
    · intro h
      rw [h]
  simp only [key]
  rw [Finset.sum_eq_single e]
  · rw [decide_eq_true rfl]
    rfl
  · intro l _ hl
    rw [decide_eq_false hl]
    rfl
  · intro h
    exact absurd (Finset.mem_univ _) h

/-- The comparison's value for a slot's number. -/
theorem hot_eq (k : ℤ) (s : Fin 256) : hot ((k : ℝ) : EReal) s = if (s.val : ℤ) = k then 1 else 0 := by
  have h0 : (FloatOps.sitofp (F := Ideal) .f32 (BitVec.ofNat 32 s.val) : EReal) = (((s.val : ℤ) : ℝ) : EReal) := by
    show ((((BitVec.ofNat 32 s.val).toInt : ℤ) : ℝ) : EReal) = _
    have e : (BitVec.ofNat 32 s.val).toInt = (s.val : ℤ) := by
      have hs := s.isLt
      rw [BitVec.toInt_eq_toNat_of_lt] <;> rw [BitVec.toNat_ofNat, Nat.mod_eq_of_lt (by omega)]
      omega
    rw [e]
  unfold hot
  rw [h0]
  by_cases h : (s.val : ℤ) = k
  · rw [if_pos h, h, decide_eq_true rfl]
    show ((((BitVec.setWidth 32 (BitVec.ofBool true)).toInt : ℤ) : ℝ) : EReal) = 1
    rw [show (BitVec.setWidth 32 (BitVec.ofBool true)).toInt = 1 by decide]
    simp
  · rw [if_neg h, decide_eq_false (fun e => h (by exact_mod_cast e))]
    show ((((BitVec.setWidth 32 (BitVec.ofBool false)).toInt : ℤ) : ℝ) : EReal) = 0
    rw [show (BitVec.setWidth 32 (BitVec.ofBool false)).toInt = 0 by decide]
    simp

/-- The product with the comparison's row takes the row of the slot, or nothing when there is none. -/
theorem hot_sum (k : ℤ) (h1 : -2147483648 ≤ k) (h2 : k < 256) (f : Fin 256 → EReal) :
    ∑ s : Fin 256, hot ((k : ℝ) : EReal) s * f s = if 0 ≤ k then f ⟨k.toNat, by omega⟩ else 0 := by
  simp only [hot_eq]
  by_cases h : 0 ≤ k
  · rw [if_pos h, Finset.sum_eq_single ⟨k.toNat, by omega⟩]
    · rw [if_pos (by show ((k.toNat : ℕ) : ℤ) = k; omega), one_mul]
    · intro s _ hs
      rw [if_neg (fun e => hs (Fin.ext (by show s.val = k.toNat; omega))), zero_mul]
    · intro h'
      exact absurd (Finset.mem_univ _) h'
  · rw [if_neg h]
    refine Finset.sum_eq_zero fun s _ => ?_
    rw [if_neg (by omega), zero_mul]

variable (m : (ℓ : Loc nD τ sig) → Buf (Elt Ideal) ℓ)

/-- A grid point's part of the sum. -/
def part (c : Dev nD) (t : Fin cfg0.N) (y : S512x2048.Idx) : EReal :=
  added (grid0.coords t) (iblk m c 2 t) (iblk m c 3 t) (iblk m c 1 t) (y 0) (y 1)

/-- What a grid point adds to the first output block: its part of the sum, and at a run's first point the residual too. -/
def term (c : Dev nD) (t : Fin cfg0.N) (y : S512x2048.Idx) : EReal :=
  @ite EReal (t.val % 16 = 0) _ (iblk m c 0 t y) 0 + part m c t y

/-- The first output block at the last point of its run. -/
theorem scratch (c : Dev nD) (t : Fin cfg0.N) (ht : t.val % 16 = 16 - 1) (y : S512x2048.Idx) :
    (outsAt0 m c t.val t.isLt).1 y = ∑ s : Fin 16, term m c ⟨16 * (t.val / 16) + s.val, Pipeline.run_point_lt_of_flush t ht s⟩ y := by
  rw [Pipeline.eq_sum_fin_of_reset_step_apply_of_flush (fun n h => (outsAt0 m c n h).1) 16 (fun _ => (0 : EReal)) (term m c)
    (fun t h y => by
      idx_vars y
      rw [outsAt0_A m c t h (by omega)]; frame_out; rw [pay1_at, zero_add, term, if_pos h, part]; rfl)
    (fun t h y => by
      idx_vars y
      by_cases h3 : t.val % 16 = 15
      · rw [outsAt0_C m c t h h3]; frame_out; rw [pay1_at, term, if_neg h, zero_add, part]; rfl
      · rw [outsAt0_B m c t h h3]; frame_out; rw [pay1_at, term, if_neg h, zero_add, part]; rfl)
    t ht y, zero_add]

/-- The gain's entry in its block. -/
theorem gain_at (c : Dev nD) (t : Fin cfg0.N) (j : Fin 2048) :
    (iblk m c 4 t : FVec Ideal S1x2048 .f32) (ix2 0 j) = ((m ((c.tc : Thread nD τ).loc main_arg4)) : FVec Ideal S2048 .f32) (ix1 j) := by
  have h : ∀ y : S1x2048.Idx, (V m c main_v0 : FVec Ideal S1x2048 .f32) y = ((m ((c.tc : Thread nD τ).loc main_arg4)) : FVec Ideal S2048 .f32) (ix1 (y 1)) := by
    intro y
    entry_read
    idx_vars y
    pointwise
  refine Eq.trans (b := (V m c main_v0 : FVec Ideal S1x2048 .f32) ((win0_4.blk t).view.emb (ix2 0 j))) rfl ?_
  rw [h]
  blk_ext [idx t]

open Cert.CombineRefIdeal.Combined in
/-- What one expert adds to a token's entry is its part of the reference's sum. -/
theorem added_eq (c : Dev nD) (t : Fin cfg0.N) (r : Fin 512) (j : Fin 2048) (R : Fin 8192) (e : Fin 16) (hR : R.val = t.val / 16 * 512 + r.val) (he : t.val % 16 = e.val)
    (hp : Cert.Slots.IsSlot (((m ((c.tc : Thread nD τ).loc main_arg2)) : FVec Ideal S8192x128 .f32) (ix2 R ⟨e.val, by omega⟩))) :
    part m c t (ix2 r j) = @HMul.hMul EReal EReal EReal _ (PICK (m ((c.tc : Thread nD τ).loc main_arg1)) (ROW (SLOT (m ((c.tc : Thread nD τ).loc main_arg2)))) (ix3 R e j)) (GATE (SLOT (m ((c.tc : Thread nD τ).loc main_arg2))) (m ((c.tc : Thread nD τ).loc main_arg3)) (ix2 R e)) := by
  have hN : t.val < 256 := lt_of_lt_of_eq t.isLt N_0
  obtain ⟨k, h1, h2, hk⟩ := hp
  have hs : SLOT (m ((c.tc : Thread nD τ).loc main_arg2)) (ix2 R e) = BitVec.ofInt 32 k := by
    rw [SLOT_at, hk]
    exact Cert.Slots.fptosi_int k h1 h2
  have b2 : (iblk m c 2 t : FVec Ideal S512x128 .f32) (ix2 r ⟨e.val, by omega⟩) = ((m ((c.tc : Thread nD τ).loc main_arg2)) : FVec Ideal S8192x128 .f32) (ix2 R ⟨e.val, by omega⟩) := by
    blk_point [iblk, V, idx t]
  have b3 : (iblk m c 3 t : FVec Ideal S512x128 .f32) (ix2 r ⟨e.val, by omega⟩) = ((m ((c.tc : Thread nD τ).loc main_arg3)) : FVec Ideal S8192x128 .f32) (ix2 R ⟨e.val, by omega⟩) := by
    blk_point [iblk, V, idx t]
  have b1 : ∀ s : Fin 256, (iblk m c 1 t : FVec Ideal S256x2048 .bf16) (ix2 s j)
      = ((m ((c.tc : Thread nD τ).loc main_arg1)) : FVec Ideal S16384x2048 .bf16) (ix2 ⟨(t.val % 16 * 4 + t.val / 64) * 256 + s.val, by omega⟩ j) := by
    intro s
    blk_point [iblk, V, idx t]
  show added (grid0.coords t) (iblk m c 2 t) (iblk m c 3 t) (iblk m c 1 t) r j = _
  unfold added
  rw [lane_eq (grid0.coords t) (iblk m c 2 t) r ⟨e.val, by omega⟩ ((expert_eq t).trans he), lane_eq (grid0.coords t) (iblk m c 3 t) r ⟨e.val, by omega⟩ ((expert_eq t).trans he), b2, b3, hk,
    hot_sum k h1 h2, GATE_at, hs, PICK_at, Cert.Slots.sle_bits k h1 h2]
  by_cases h : 0 ≤ k
  · rw [if_pos h, b1, decide_eq_true h, if_pos (by decide), mul_comm]
    refine congrArg (· * _) (congrArg _ ?_)
    refine congrArg (fun n => ix2 n j) (Fin.ext ?_)
    show (t.val % 16 * 4 + t.val / 64) * 256 + k.toNat = min (ROW (SLOT (m ((c.tc : Thread nD τ).loc main_arg2))) (ix2 R e)).toInt.toNat 16383
    rw [ROW_at _ R e k h1 h2 hs]
    omega
  · rw [if_neg h, decide_eq_false h, if_neg (by decide), mul_zero, mul_zero]

open Cert.CombineRefIdeal.Combined in
/-- The finished first output block is the reference's first result on the block. -/
theorem scratch_eq (c : Dev nD) (t : Fin cfg0.N) (ht : t.val % 16 = 16 - 1) (r : Fin 512) (j : Fin 2048) (R : Fin 8192) (hR : R.val = t.val / 16 * 512 + r.val)
    (hp : ∀ (R : Fin 8192) (e : Fin 16), Cert.Slots.IsSlot (((m ((c.tc : Thread nD τ).loc main_arg2)) : FVec Ideal S8192x128 .f32) (ix2 R ⟨e.val, by omega⟩))) :
    (outsAt0 m c t.val t.isLt).1 (ix2 r j) = TOTAL (m ((c.tc : Thread nD τ).loc main_arg0)) (PICK (m ((c.tc : Thread nD τ).loc main_arg1)) (ROW (SLOT (m ((c.tc : Thread nD τ).loc main_arg2))))) (GATE (SLOT (m ((c.tc : Thread nD τ).loc main_arg2))) (m ((c.tc : Thread nD τ).loc main_arg3))) (ix2 R j) := by
  have hN : t.val < 256 := lt_of_lt_of_eq t.isLt N_0
  rw [scratch m c t ht, TOTAL_at]
  simp only [term]
  rw [Finset.sum_add_distrib]
  refine congr (congrArg HAdd.hAdd ?_) ?_
  · rw [Finset.sum_eq_single (0 : Fin 16)]
    · have key : ∀ t' : Fin cfg0.N, t'.val / 16 = t.val / 16 → (iblk m c 0 t' : FVec Ideal S512x2048 .f32) (ix2 r j)
          = ((m ((c.tc : Thread nD τ).loc main_arg0)) : FVec Ideal S8192x2048 .f32) (ix2 R j) := by
        intro t' h'
        blk_point [iblk, V, idx t']
      rw [if_pos (by show (16 * (t.val / 16) + 0) % 16 = 0; omega)]
      exact key _ (by show (16 * (t.val / 16) + 0) / 16 = t.val / 16; omega)
    · intro s _ hs
      have hs' : s.val ≠ 0 := fun h => hs (Fin.ext h)
      exact if_neg (by show ¬ (16 * (t.val / 16) + s.val) % 16 = 0; omega)
    · intro h
      exact absurd (Finset.mem_univ _) h
  · refine Finset.sum_congr rfl fun s _ => ?_
    exact added_eq m c ⟨16 * (t.val / 16) + s.val, _⟩ r j R s (by show R.val = (16 * (t.val / 16) + s.val) / 16 * 512 + r.val; omega)
      (by show (16 * (t.val / 16) + s.val) % 16 = s.val; omega) (hp R s)

/-- At the last point of a run the second output block is the norm of the first one's rows. -/
theorem norm_eq (c : Dev nD) (t : Fin cfg0.N) (ht : t.val % 16 = 15) (r : Fin 512) (j : Fin 2048) :
    (outsAt0 m c t.val t.isLt).2 (ix2 r j) = Cert.Rms.norm (fun x => (outsAt0 m c t.val t.isLt).1 (ix2 r x)) ((iblk m c 4 t : FVec Ideal S1x2048 .f32) (ix2 0 j)) j := by
  rw [outsAt0_C m c t (by omega) ht]
  frame_out
  rw [pay2_at]

open Cert.CombineRefIdeal.Combined in
/-- For slots' numbers in range the kernel's first result array is the reference's. -/
theorem final (c : Dev nD) (hp : ∀ (R : Fin 8192) (e : Fin 16), Cert.Slots.IsSlot (((m ((c.tc : Thread nD τ).loc main_arg2)) : FVec Ideal S8192x128 .f32) (ix2 R ⟨e.val, by omega⟩))) :
    (dats m 0 c).arrAt 5 (cfgs 0).N = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  have hm : t.val % 16 = 15 := (flush0_5 t).mp hf
  have ht : t.val < 256 := lt_of_lt_of_eq t.isLt N_0
  idx_vars y
  refine (scratch_eq m c t hm y0 y1 ⟨t.val / 16 * 512 + y0.val, by omega⟩ rfl hp).trans ?_
  show TOTAL _ _ _ _ = TOTAL _ _ _ _
  blk_ext [idx t]

open Cert.CombineRefIdeal.Combined in
/-- For slots' numbers in range the kernel's second result array is the reference's. -/
theorem finalN (c : Dev nD) (hp : ∀ (R : Fin 8192) (e : Fin 16), Cert.Slots.IsSlot (((m ((c.tc : Thread nD τ).loc main_arg2)) : FVec Ideal S8192x128 .f32) (ix2 R ⟨e.val, by omega⟩))) :
    (dats m 0 c).arrAt 6 (cfgs 0).N = REFN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  have hm : t.val % 16 = 15 := (flush0_6 t).mp hf
  have ht : t.val < 256 := lt_of_lt_of_eq t.isLt N_0
  idx_vars y
  refine (norm_eq m c t hm y0 y1).trans ?_
  simp only [fun x => scratch_eq m c t hm y0 x ⟨t.val / 16 * 512 + y0.val, by omega⟩ rfl hp]
  rw [gain_at]
  refine (NORM_at (TOTAL (m ((c.tc : Thread nD τ).loc main_arg0)) (PICK (m ((c.tc : Thread nD τ).loc main_arg1)) (ROW (SLOT (m ((c.tc : Thread nD τ).loc main_arg2))))) (GATE (SLOT (m ((c.tc : Thread nD τ).loc main_arg2))) (m ((c.tc : Thread nD τ).loc main_arg3)))) (m ((c.tc : Thread nD τ).loc main_arg4)) ⟨t.val / 16 * 512 + y0.val, by omega⟩ y1).symm.trans ?_
  show NORM _ _ _ = NORM _ _ _
  blk_ext [idx t]

end Cert.CombineIdeal.Combined
end
-- ==== Proof.CombineClaims.lean ====
/- The claims about the call that adds the experts' rows to the residual. -/
module

public import proofs.«01_k».proof.Defs
public import proofs.«01_k».proof.Proof.Gen.Combine.Frame
public import proofs.«01_k».proof.Proof.Gen.Pre_combine_slots
public import proofs.«01_k».proof.Proof.CombineValue
public import Idealize.ShloMosaic.Lib.Pointwise
public import Idealize.ShloMosaic.Lib.ReduceAll
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.CombineClaims

theorem frame_p : Cert.quiescent_Combine := fun m ρ _ => Cert.Combine.Gen.frame m ρ
theorem frame_pi : Cert.quiescent_CombineIdeal := fun m ρ _ => Cert.CombineIdeal.Gen.frame m ρ
theorem frame_pi_pre : Cert.quiescent_CombineIdeal_pre_combine_slots := fun m ρ _ => Cert.CombineIdeal.Gen.frame m ρ
theorem frame_ri : Cert.quiescent_CombineRefIdeal := fun m ρ _ =>
  (θ_run Cert.CombineRefIdeal.defs _ _).mono (fun r h => ⟨fun c => (h c).2.2,
      Idealize.ShloMosaic.sem_eq_zero_of_no_sems (by decide) r.2⟩)
    (Cert.CombineRefIdeal.Value.run (F := Ideal) m ρ)
theorem frame_ri_pre : Cert.quiescent_CombineRefIdeal_pre_combine_slots := fun m ρ _ => frame_ri m ρ trivial

/-- The bound on the slots' numbers is 256. -/
theorem ofBits_256 : Ideal.ofBits .f32 0x43800000#32 = ((256 : ℝ) : EReal) := by
  simp [Ideal.ofBits, Ideal.ieee, -EReal.coe_mul]; norm_num

/-- The precondition says that every slot's number is an integer below 256. -/
theorem slots (x : FVec Ideal Cert.Pre_combine_slots.S8192x2048 .f32) (y : FVec Ideal Cert.Pre_combine_slots.S16384x2048 .bf16) (p a : FVec Ideal Cert.Pre_combine_slots.S8192x128 .f32)
    (g : FVec Ideal Cert.Pre_combine_slots.S2048 .f32)
    (h : Cert.Pre_combine_slots.fn (F := Ideal) x y p a g = fun _ => 1#1) (R : Fin 8192) (e : Fin 16) : Cert.Slots.IsSlot (p (ix2 R ⟨e.val, by omega⟩)) := by
  have e1 := congrFun h (Shape.Idx.first Cert.Pre_combine_slots.Gen.facts.h_S_)
  dsimp only [Cert.Pre_combine_slots.fn] at e1
  have e2 := IntOp.andi_eq_one.1 (Host.reduce_andi_all _ _ _ _ _ e1 (ix2 R e))
  have ha := e2.1
  have hb := e2.2
  pointwise at ha
  pointwise at hb
  rw [ofBits_256] at hb
  have hc : p (ix2 R ⟨e.val, by omega⟩) = ((((Ideal.fptosi 32 (p (ix2 R ⟨e.val, by omega⟩))).toInt : ℤ) : ℝ) : EReal) := by
    by_contra hc
    have h' : BitVec.ofBool (decide (p (ix2 R ⟨e.val, by omega⟩) = ((((Ideal.fptosi 32 (p (ix2 R ⟨e.val, by omega⟩))).toInt : ℤ) : ℝ) : EReal))) = 1#1 := ha
    rw [decide_eq_false hc] at h'
    exact absurd h' (by decide)
  have hd : p (ix2 R ⟨e.val, by omega⟩) < ((256 : ℝ) : EReal) := by
    by_contra hd
    have h' : BitVec.ofBool (decide (p (ix2 R ⟨e.val, by omega⟩) < ((256 : ℝ) : EReal))) = 1#1 := hb
    rw [decide_eq_false hd] at h'
    exact absurd h' (by decide)
  refine ⟨(Ideal.fptosi 32 (p (ix2 R ⟨e.val, by omega⟩))).toInt, ?_, ?_, hc⟩
  · have := BitVec.le_toInt (Ideal.fptosi 32 (p (ix2 R ⟨e.val, by omega⟩)))
    norm_num at this
    exact this
  · rw [hc, EReal.coe_lt_coe_iff] at hd
    exact_mod_cast hd

/-- The two kernel programs are the same text. -/
theorem preserves : Cert.preserves_Combine_CombineIdeal := trivial

/-- For slots' numbers in range the kernel's two results are the reference's. -/
theorem algebraic : Cert.algebraic_CombineIdeal_CombineRefIdeal_pre_combine_slots := by
  intro m ρ m' ρ' hpre hagree
  refine ⟨_, _, Cert.CombineIdeal.Value.run_blocks (F := Ideal) m ρ, ?_⟩
  refine (θ_run Cert.CombineRefIdeal.defs _ _).mono (fun _ h c => ⟨(h c).1.trans ?_, (h c).2.1.trans ?_, (h c).2.2⟩)
    (Cert.CombineRefIdeal.Value.run (F := Ideal) m' ρ')
  · refine Eq.trans (b := Cert.CombineRefIdeal.Combined.REF (m' ((c.tc : Thread Cert.CombineRefIdeal.nD Cert.CombineRefIdeal.τ).loc Cert.CombineRefIdeal.main_arg0)) (m' ((c.tc : Thread Cert.CombineRefIdeal.nD Cert.CombineRefIdeal.τ).loc Cert.CombineRefIdeal.main_arg1)) (m' ((c.tc : Thread Cert.CombineRefIdeal.nD Cert.CombineRefIdeal.τ).loc Cert.CombineRefIdeal.main_arg2)) (m' ((c.tc : Thread Cert.CombineRefIdeal.nD Cert.CombineRefIdeal.τ).loc Cert.CombineRefIdeal.main_arg3)) (m' ((c.tc : Thread Cert.CombineRefIdeal.nD Cert.CombineRefIdeal.τ).loc Cert.CombineRefIdeal.main_arg4))) rfl ?_
    obtain ⟨e0, e1, e2, e3, e4⟩ := hagree c
    rw [e0, e1, e2, e3, e4]
    exact (Cert.CombineIdeal.Combined.final m c (fun R e => slots _ _ _ _ _ (hpre c) R e)).symm
  · refine Eq.trans (b := Cert.CombineRefIdeal.Combined.REFN (m' ((c.tc : Thread Cert.CombineRefIdeal.nD Cert.CombineRefIdeal.τ).loc Cert.CombineRefIdeal.main_arg0)) (m' ((c.tc : Thread Cert.CombineRefIdeal.nD Cert.CombineRefIdeal.τ).loc Cert.CombineRefIdeal.main_arg1)) (m' ((c.tc : Thread Cert.CombineRefIdeal.nD Cert.CombineRefIdeal.τ).loc Cert.CombineRefIdeal.main_arg2)) (m' ((c.tc : Thread Cert.CombineRefIdeal.nD Cert.CombineRefIdeal.τ).loc Cert.CombineRefIdeal.main_arg3)) (m' ((c.tc : Thread Cert.CombineRefIdeal.nD Cert.CombineRefIdeal.τ).loc Cert.CombineRefIdeal.main_arg4))) rfl ?_
    obtain ⟨e0, e1, e2, e3, e4⟩ := hagree c
    rw [e0, e1, e2, e3, e4]
    exact (Cert.CombineIdeal.Combined.finalN m c (fun R e => slots _ _ _ _ _ (hpre c) R e)).symm

end Cert.Proof.CombineClaims
end
-- ==== Proof.NormXValue.lean ====
/- The norm of the input: the kernel's result is the reference's function of the arguments. -/
module

public import proofs.«01_k».proof.Proof.Gen.NormXIdeal.Value
public import proofs.«01_k».proof.Proof.Gen.NormXRefIdeal.Run
public import proofs.«01_k».proof.Proof.Rms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.NormXRefIdeal.Rows

open Cert.NormXRefIdeal Cert.NormXRefIdeal.Gen

/-- The reference's result as a function of its arguments: the norm of every row. -/
def REF (X : FVec Ideal S8192x2048 .f32) (g : FVec Ideal S2048 .f32) : FVec Ideal S8192x2048 .bf16 :=
  truncf .bf16 (mulf (mulf X (broadcastInDim S8192x2048 ![0, 1] bcast_S8192x1_S8192x2048_0_1 (Host.rsqrt (addf (Host.divf (broadcastInDim S8192x1 ![0] bcast_S8192_S8192x1_0
    (Host.reduceAdd (mulf X X) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) bitsLt_bf16_f32

theorem REF_at (X : FVec Ideal S8192x2048 .f32) (g : FVec Ideal S2048 .f32) (r : Fin 8192) (j : Fin 2048) :
    REF X g (ix2 r j) = Cert.Rms.norm (fun x => X (ix2 r x)) (g (ix1 j)) j := by
  pointwise [REF, Cert.Rms.norm]

end Cert.NormXRefIdeal.Rows

namespace Cert.NormXIdeal.Rows

open Cert.NormXIdeal Cert.NormXIdeal.Gen

variable (m : (ℓ : Loc nD τ sig) → Buf (Elt Ideal) ℓ)

/-- What the kernel stores is the norm of the rows of its block. -/
theorem norm_at (X : Vec Ideal S512x2048 .f32) (g : Vec Ideal S1x2048 .f32) (r : Fin 512) (j : Fin 2048) :
    k0_pay1 (F := Ideal) X g (ix2 r j) = Cert.Rms.norm (fun x => X (ix2 r x)) (g (ix2 0 j)) j := by
  pointwise [k0_pay1, Cert.Rms.norm]

/-- The block that each window shows at a grid point. -/
theorem idx : ∀ t : Fin cfg0.N,
    win0_0.index t = ![t.val, 0] ∧
    win0_1.index t = ![0, 0] ∧
    win0_2.index t = ![t.val, 0] := (by decide +kernel : ∀ t : Fin grid0.N, _)

/-- The block of gains is the gain vector. -/
theorem gain_at (c : Dev nD) (t : Fin cfg0.N) (j : Fin 2048) :
    iblk m c 1 t (ix2 0 j) = m ((c.tc : Thread nD τ).loc main_arg1) (ix1 j) := by
  have h : ∀ y : S1x2048.Idx, V m c main_v0 y = m ((c.tc : Thread nD τ).loc main_arg1) (ix1 (y 1)) := by
    intro y
    entry_read
    idx_vars y
    pointwise
  refine Eq.trans (b := V m c main_v0 ((win0_1.blk t).view.emb (ix2 0 j))) rfl ?_
  rw [h]
  blk_ext [idx t]

open Cert.NormXRefIdeal.Rows in
/-- The kernel's whole result array is the reference's function of the arguments. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 16 := lt_of_lt_of_eq t.isLt N_0
  idx_vars y
  refine Eq.trans (b := REF (m ((c.tc : Thread nD τ).loc main_arg0)) (m ((c.tc : Thread nD τ).loc main_arg1)) (ix2 ⟨t.val * 512 + y0.val, by omega⟩ y1)) ?_
    (by show REF _ _ _ = REF _ _ _; blk_ext [idx t])
  frame_out
  rw [norm_at, REF_at, gain_at]
  refine congrArg (fun f => Cert.Rms.norm f _ y1) (funext fun x => ?_)
  blk_point [iblk, V, idx t]

end Cert.NormXIdeal.Rows
end
-- ==== Proof.NormXClaims.lean ====
/- The claims about the norm of the input. -/
module

public import proofs.«01_k».proof.Defs
public import proofs.«01_k».proof.Proof.Gen.NormX.Frame
public import proofs.«01_k».proof.Proof.NormXValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.NormXClaims

theorem frame_p : Cert.quiescent_NormX := fun m ρ _ => Cert.NormX.Gen.frame m ρ
theorem frame_pi : Cert.quiescent_NormXIdeal := fun m ρ _ => Cert.NormXIdeal.Gen.frame m ρ
theorem frame_ri : Cert.quiescent_NormXRefIdeal := fun m ρ _ =>
  (θ_run Cert.NormXRefIdeal.defs _ _).mono (fun r h => ⟨fun c => (h c).2,
      Idealize.ShloMosaic.sem_eq_zero_of_no_sems (by decide) r.2⟩)
    (Cert.NormXRefIdeal.Value.run (F := Ideal) m ρ)

theorem preserves : Cert.preserves_NormX_NormXIdeal := trivial

/-- The kernel's result is the reference's, for all arguments. -/
theorem algebraic : Cert.algebraic_NormXIdeal_NormXRefIdeal := by
  intro m ρ m' ρ' _ hagree
  refine ⟨_, Cert.NormXIdeal.Value.run_blocks (F := Ideal) m ρ, ?_⟩
  refine (θ_run Cert.NormXRefIdeal.defs _ _).mono (fun _ h c => ⟨(h c).1.trans ?_, (h c).2⟩)
    (Cert.NormXRefIdeal.Value.run (F := Ideal) m' ρ')
  refine Eq.trans (b := Cert.NormXRefIdeal.Rows.REF (m' ((c.tc : Thread Cert.NormXRefIdeal.nD Cert.NormXRefIdeal.τ).loc Cert.NormXRefIdeal.main_arg0)) (m' ((c.tc : Thread Cert.NormXRefIdeal.nD Cert.NormXRefIdeal.τ).loc Cert.NormXRefIdeal.main_arg1))) rfl ?_
  obtain ⟨e0, e1⟩ := hagree c
  rw [e0, e1]
  exact (Cert.NormXIdeal.Rows.final m c).symm

end Cert.Proof.NormXClaims
end
-- ==== Proof.NormMemValue.lean ====
/- The norm of the memory: the kernel's result is the reference's function of the arguments. -/
module

public import proofs.«01_k».proof.Proof.Gen.NormMemIdeal.Value
public import proofs.«01_k».proof.Proof.Gen.NormMemRefIdeal.Run
public import proofs.«01_k».proof.Proof.Rms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.NormMemRefIdeal.Rows

open Cert.NormMemRefIdeal Cert.NormMemRefIdeal.Gen

/-- The reference's result as a function of its arguments: the norm of every row. -/
def REF (X : FVec Ideal S1024x2048 .f32) (g : FVec Ideal S2048 .f32) : FVec Ideal S1024x2048 .bf16 :=
  truncf .bf16 (mulf (mulf X (broadcastInDim S1024x2048 ![0, 1] bcast_S1024x1_S1024x2048_0_1 (Host.rsqrt (addf (Host.divf (broadcastInDim S1024x1 ![0] bcast_S1024_S1024x1_0
    (Host.reduceAdd (mulf X X) (constant S_ .f32 0x00000000#32) reducesTo_S1024x2048_S1024_d1 h_S_)) (broadcastInDim S1024x1 ![] bcast_S_S1024x1 (constant S_ .f32 0x45000000#32)))
    (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 g))) bitsLt_bf16_f32

theorem REF_at (X : FVec Ideal S1024x2048 .f32) (g : FVec Ideal S2048 .f32) (r : Fin 1024) (j : Fin 2048) :
    REF X g (ix2 r j) = Cert.Rms.norm (fun x => X (ix2 r x)) (g (ix1 j)) j := by
  pointwise [REF, Cert.Rms.norm]

end Cert.NormMemRefIdeal.Rows

namespace Cert.NormMemIdeal.Rows

open Cert.NormMemIdeal Cert.NormMemIdeal.Gen

variable (m : (ℓ : Loc nD τ sig) → Buf (Elt Ideal) ℓ)

/-- What the kernel stores is the norm of the rows of its block. -/
theorem norm_at (X : Vec Ideal S512x2048 .f32) (g : Vec Ideal S1x2048 .f32) (r : Fin 512) (j : Fin 2048) :
    k0_pay1 (F := Ideal) X g (ix2 r j) = Cert.Rms.norm (fun x => X (ix2 r x)) (g (ix2 0 j)) j := by
  pointwise [k0_pay1, Cert.Rms.norm]

/-- The block that each window shows at a grid point. -/
theorem idx : ∀ t : Fin cfg0.N,
    win0_0.index t = ![t.val, 0] ∧
    win0_1.index t = ![0, 0] ∧
    win0_2.index t = ![t.val, 0] := (by decide +kernel : ∀ t : Fin grid0.N, _)

/-- The block of gains is the gain vector. -/
theorem gain_at (c : Dev nD) (t : Fin cfg0.N) (j : Fin 2048) :
    iblk m c 1 t (ix2 0 j) = m ((c.tc : Thread nD τ).loc main_arg1) (ix1 j) := by
  have h : ∀ y : S1x2048.Idx, V m c main_v0 y = m ((c.tc : Thread nD τ).loc main_arg1) (ix1 (y 1)) := by
    intro y
    entry_read
    idx_vars y
    pointwise
  refine Eq.trans (b := V m c main_v0 ((win0_1.blk t).view.emb (ix2 0 j))) rfl ?_
  rw [h]
  blk_ext [idx t]

open Cert.NormMemRefIdeal.Rows in
/-- The kernel's whole result array is the reference's function of the arguments. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 2 := lt_of_lt_of_eq t.isLt N_0
  idx_vars y
  refine Eq.trans (b := REF (m ((c.tc : Thread nD τ).loc main_arg0)) (m ((c.tc : Thread nD τ).loc main_arg1)) (ix2 ⟨t.val * 512 + y0.val, by omega⟩ y1)) ?_
    (by show REF _ _ _ = REF _ _ _; blk_ext [idx t])
  frame_out
  rw [norm_at, REF_at, gain_at]
  refine congrArg (fun f => Cert.Rms.norm f _ y1) (funext fun x => ?_)
  blk_point [iblk, V, idx t]

end Cert.NormMemIdeal.Rows
end
-- ==== Proof.NormMemClaims.lean ====
/- The claims about the norm of the memory. -/
module

public import proofs.«01_k».proof.Defs
public import proofs.«01_k».proof.Proof.Gen.NormMem.Frame
public import proofs.«01_k».proof.Proof.NormMemValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.NormMemClaims

theorem frame_p : Cert.quiescent_NormMem := fun m ρ _ => Cert.NormMem.Gen.frame m ρ
theorem frame_pi : Cert.quiescent_NormMemIdeal := fun m ρ _ => Cert.NormMemIdeal.Gen.frame m ρ
theorem frame_ri : Cert.quiescent_NormMemRefIdeal := fun m ρ _ =>
  (θ_run Cert.NormMemRefIdeal.defs _ _).mono (fun r h => ⟨fun c => (h c).2,
      Idealize.ShloMosaic.sem_eq_zero_of_no_sems (by decide) r.2⟩)
    (Cert.NormMemRefIdeal.Value.run (F := Ideal) m ρ)

theorem preserves : Cert.preserves_NormMem_NormMemIdeal := trivial

/-- The kernel's result is the reference's, for all arguments. -/
theorem algebraic : Cert.algebraic_NormMemIdeal_NormMemRefIdeal := by
  intro m ρ m' ρ' _ hagree
  refine ⟨_, Cert.NormMemIdeal.Value.run_blocks (F := Ideal) m ρ, ?_⟩
  refine (θ_run Cert.NormMemRefIdeal.defs _ _).mono (fun _ h c => ⟨(h c).1.trans ?_, (h c).2⟩)
    (Cert.NormMemRefIdeal.Value.run (F := Ideal) m' ρ')
  refine Eq.trans (b := Cert.NormMemRefIdeal.Rows.REF (m' ((c.tc : Thread Cert.NormMemRefIdeal.nD Cert.NormMemRefIdeal.τ).loc Cert.NormMemRefIdeal.main_arg0)) (m' ((c.tc : Thread Cert.NormMemRefIdeal.nD Cert.NormMemRefIdeal.τ).loc Cert.NormMemRefIdeal.main_arg1))) rfl ?_
  obtain ⟨e0, e1⟩ := hagree c
  rw [e0, e1]
  exact (Cert.NormMemIdeal.Rows.final m c).symm

end Cert.Proof.NormMemClaims
end
-- ==== Proof.FourierValue.lean ====
/- The Fourier mixer: the kernel's result is the reference's function of the arguments. -/
module

public import proofs.«01_k».proof.Proof.Gen.FourierIdeal.Value
public import proofs.«01_k».proof.Proof.Gen.FourierRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.FourierRefIdeal.Spectrum

open Cert.FourierRefIdeal Cert.FourierRefIdeal.Gen

/-- The modulus that the remainder of order 128 is taken by. -/
def MOD128 : IVec S_ 32 := select (cmpi .eq (id (constantI S_ 32 128#32)) (constantI S_ 32 0#32)) (constantI S_ 32 1#32) (id (constantI S_ 32 128#32))

/-- The remainder before its sign is mended: the product of a channel with a channel, over the modulus. -/
def REM128 : IVec S128x128 32 := Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 MOD128)

/-- The angles of order 128: the product of a channel with a channel, modulo 128, times the step. -/
def ANGLE128 : FVec Ideal S128x128 .f32 :=
  mulf (sitofp .f32 (select (andi (cmpi .ne (cmpi .slt REM128 (broadcastInDim S128x128 ![] bcast_S_S128x128 (constantI S_ 32 0#32))) (broadcastInDim S128x128 ![] bcast_S_S128x128 (cmpi .slt MOD128 (constantI S_ 32 0#32))))
    (cmpi .ne REM128 (broadcastInDim S128x128 ![] bcast_S_S128x128 (constantI S_ 32 0#32)))) (addi REM128 (broadcastInDim S128x128 ![] bcast_S_S128x128 MOD128)) REM128))
    (broadcastInDim S128x128 ![] bcast_S_S128x128 (constant S_ .f32 0x3D490FDB#32))

/-- The modulus that the remainder of order 2048 is taken by. -/
def MOD2048 : IVec S_ 32 := select (cmpi .eq (id (constantI S_ 32 2048#32)) (constantI S_ 32 0#32)) (constantI S_ 32 1#32) (id (constantI S_ 32 2048#32))

/-- The remainder before its sign is mended: the product of a position with a position, over the modulus. -/
def REM2048 : IVec S2048x2048 32 := Host.remsi (muli (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))) (broadcastInDim S2048x2048 ![] bcast_S_S2048x2048 MOD2048)

/-- The angles of order 2048: the product of a position with a position, modulo 2048, times the step. -/
def ANGLE2048 : FVec Ideal S2048x2048 .f32 :=
  mulf (sitofp .f32 (select (andi (cmpi .ne (cmpi .slt REM2048 (broadcastInDim S2048x2048 ![] bcast_S_S2048x2048 (constantI S_ 32 0#32))) (broadcastInDim S2048x2048 ![] bcast_S_S2048x2048 (cmpi .slt MOD2048 (constantI S_ 32 0#32))))
    (cmpi .ne REM2048 (broadcastInDim S2048x2048 ![] bcast_S_S2048x2048 (constantI S_ 32 0#32)))) (addi REM2048 (broadcastInDim S2048x2048 ![] bcast_S_S2048x2048 MOD2048)) REM2048))
    (broadcastInDim S2048x2048 ![] bcast_S_S2048x2048 (constant S_ .f32 0x3B490FDB#32))

/-- The channel groups of the projection. -/
def GROUPS (P : FVec Ideal S8192x3072 .bf16) : FVec Ideal S4x2048x4x128 .f32 :=
  shapeCast S4x2048x4x128 (extf .f32 (extractStridedSlice S8192x512 ![0, 2560] P slices_S8192x3072_S8192x512_0_2560) bitsLt_bf16_f32) shapeCasts_S8192x512_S4x2048x4x128

/-- The transform over the channels of a group by a table. -/
def CHANNELS (U : FVec Ideal S4x2048x4x128 .f32) (T : FVec Ideal S128x128 .f32) : FVec Ideal S4x2048x4x128 .f32 :=
  Host.dotGeneral dot_S4x2048x4x128_S128x128_S4x2048x4x128_3_0_012_1_n_n none U T

/-- The transform over the positions by a table. -/
def POSITIONS (U : FVec Ideal S4x2048x4x128 .f32) (T : FVec Ideal S2048x2048 .f32) : FVec Ideal S4x2048x4x128 .f32 :=
  transpose S4x2048x4x128 [0, 3, 1, 2] (Host.dotGeneral dot_S4x2048x4x128_S2048x2048_S4x4x128x2048_1_1_023_0_n_n none U T) transposes_S4x4x128x2048_S4x2048x4x128_0_3_1_2

/-- The real part of the transform over positions and channels, by its tables of cosines and of sines. -/
def SPEC (P : FVec Ideal S8192x3072 .bf16) (c1 s1 : FVec Ideal S128x128 .f32) (c2 s2 : FVec Ideal S2048x2048 .f32) : FVec Ideal S4x2048x4x128 .f32 :=
  Host.divf (subf (POSITIONS (CHANNELS (GROUPS P) c1) c2) (POSITIONS (CHANNELS (GROUPS P) s1) s2)) (broadcastInDim S4x2048x4x128 ![] bcast_S_S4x2048x4x128 (constant S_ .f32 0x44000000#32))

/-- The linear map of every group. -/
def MAP (Z : FVec Ideal S4x2048x4x128 .f32) (W : FVec Ideal S4x128x128 .f32) : FVec Ideal S8192x512 .bf16 :=
  truncf .bf16 (shapeCast S8192x512 (transpose S4x2048x4x128 [2, 3, 0, 1] (Host.dotGeneral dot_S4x128x128_S4x2048x4x128_S4x128x4x2048_1_3_2_01_0_2 none W Z) transposes_S4x128x4x2048_S4x2048x4x128_2_3_0_1)
    shapeCasts_S4x2048x4x128_S8192x512) bitsLt_bf16_f32

/-- The reference's result by its tables. -/
def BY (P : FVec Ideal S8192x3072 .bf16) (W : FVec Ideal S4x128x128 .f32) (c1 s1 : FVec Ideal S128x128 .f32) (c2 s2 : FVec Ideal S2048x2048 .f32) : FVec Ideal S8192x512 .bf16 :=
  MAP (SPEC P c1 s1 c2 s2) W

/-- The reference's result as a function of its arguments. -/
def REF (P : FVec Ideal S8192x3072 .bf16) (W : FVec Ideal S4x128x128 .f32) : FVec Ideal S8192x512 .bf16 :=
  BY P W (Host.cos ANGLE128) (Host.sin ANGLE128) (Host.cos ANGLE2048) (Host.sin ANGLE2048)

/-- A row of a group transformed by a table. -/
def chan (P : FVec Ideal S8192x3072 .bf16) (T : FVec Ideal S128x128 .f32) (r : Fin 8192) (j : Fin 512) : EReal :=
  ∑ d : Fin 128, P (ix2 r ⟨2560 + (j.val / 128 * 128 + d.val), by omega⟩) * T (ix2 d ⟨j.val % 128, by omega⟩)

/-- The scaled real part at a row and a column. -/
def spec (P : FVec Ideal S8192x3072 .bf16) (c1 s1 : FVec Ideal S128x128 .f32) (c2 s2 : FVec Ideal S2048x2048 .f32) (r : Fin 8192) (j : Fin 512) : EReal :=
  ((∑ s : Fin 2048, c2 (ix2 ⟨r.val % 2048, by omega⟩ s) * chan P c1 ⟨r.val / 2048 * 2048 + s.val, by omega⟩ j)
    - (∑ s : Fin 2048, s2 (ix2 ⟨r.val % 2048, by omega⟩ s) * chan P s1 ⟨r.val / 2048 * 2048 + s.val, by omega⟩ j)) * Ideal.ofBits .f32 0x3B000000#32

theorem GROUPS_at (P : FVec Ideal S8192x3072 .bf16) (b : Fin 4) (s : Fin 2048) (g : Fin 4) (d : Fin 128) :
    GROUPS P (ix4 b s g d) = P (ix2 ⟨b.val * 2048 + s.val, by omega⟩ ⟨2560 + (g.val * 128 + d.val), by omega⟩) := by
  pointwise [GROUPS]

theorem CHANNELS_at (U : FVec Ideal S4x2048x4x128 .f32) (T : FVec Ideal S128x128 .f32) (b : Fin 4) (s : Fin 2048) (g : Fin 4) (e : Fin 128) :
    CHANNELS U T (ix4 b s g e) = ∑ d : Fin 128, U (ix4 b s g d) * T (ix2 d e) := by
  pointwise [CHANNELS]

theorem POSITIONS_at (U : FVec Ideal S4x2048x4x128 .f32) (T : FVec Ideal S2048x2048 .f32) (b : Fin 4) (p : Fin 2048) (g : Fin 4) (e : Fin 128) :
    POSITIONS U T (ix4 b p g e) = ∑ s : Fin 2048, U (ix4 b s g e) * T (ix2 p s) := by
  pointwise [POSITIONS]

theorem MAP_at (Z : FVec Ideal S4x2048x4x128 .f32) (W : FVec Ideal S4x128x128 .f32) (r : Fin 8192) (j : Fin 512) :
    MAP Z W (ix2 r j) = ∑ d : Fin 128, W (ix3 ⟨j.val / 128, by omega⟩ d ⟨j.val % 128, by omega⟩) * Z (ix4 ⟨r.val / 2048, by omega⟩ ⟨r.val % 2048, by omega⟩ ⟨j.val / 128, by omega⟩ d) := by
  pointwise [MAP]

/-- Dividing by 512 is multiplying by its reciprocal. -/
theorem div_scale (x : EReal) : Ideal.div x (Ideal.ofBits .f32 0x44000000#32) = x * Ideal.ofBits .f32 0x3B000000#32 := by
  rw [show Ideal.ofBits .f32 0x44000000#32 = ((512 : ℝ) : EReal) from by simp [Ideal.ofBits, Ideal.ieee, -EReal.coe_mul]; norm_num,
    show Ideal.ofBits .f32 0x3B000000#32 = ((1 / 512 : ℝ) : EReal) from by simp [Ideal.ofBits, Ideal.ieee, -EReal.coe_mul]; norm_num]
  exact Ideal.div_coe (by norm_num) x

theorem SPEC_at (P : FVec Ideal S8192x3072 .bf16) (c1 s1 : FVec Ideal S128x128 .f32) (c2 s2 : FVec Ideal S2048x2048 .f32) (r : Fin 8192) (g : Fin 4) (e : Fin 128) :
    SPEC P c1 s1 c2 s2 (ix4 ⟨r.val / 2048, by omega⟩ ⟨r.val % 2048, by omega⟩ g e) = spec P c1 s1 c2 s2 r ⟨g.val * 128 + e.val, by omega⟩ := by
  have h : SPEC P c1 s1 c2 s2 (ix4 ⟨r.val / 2048, by omega⟩ ⟨r.val % 2048, by omega⟩ g e)
      = Ideal.div (POSITIONS (CHANNELS (GROUPS P) c1) c2 (ix4 ⟨r.val / 2048, by omega⟩ ⟨r.val % 2048, by omega⟩ g e)
        - POSITIONS (CHANNELS (GROUPS P) s1) s2 (ix4 ⟨r.val / 2048, by omega⟩ ⟨r.val % 2048, by omega⟩ g e)) (Ideal.ofBits .f32 0x44000000#32) := rfl
  have e1 : (g.val * 128 + e.val) / 128 = g.val := by omega
  have e2 : (g.val * 128 + e.val) % 128 = e.val := by omega
  rw [h, div_scale, POSITIONS_at, POSITIONS_at]
  simp only [CHANNELS_at, GROUPS_at, spec, chan, e1, e2]
  refine congrArg (· * _) (congr (congrArg HSub.hSub (Fin.sum_fin_congr fun s => mul_comm _ _)) (Fin.sum_fin_congr fun s => mul_comm _ _))

theorem BY_at (P : FVec Ideal S8192x3072 .bf16) (W : FVec Ideal S4x128x128 .f32) (c1 s1 : FVec Ideal S128x128 .f32) (c2 s2 : FVec Ideal S2048x2048 .f32) (r : Fin 8192) (j : Fin 512) :
    BY P W c1 s1 c2 s2 (ix2 r j) = ∑ d : Fin 128, spec P c1 s1 c2 s2 r ⟨j.val / 128 * 128 + d.val, by omega⟩ * W (ix3 ⟨j.val / 128, by omega⟩ d ⟨j.val % 128, by omega⟩) := by
  unfold BY
  rw [MAP_at]
  refine Fin.sum_fin_congr fun d => ?_
  rw [mul_comm, SPEC_at]

end Cert.FourierRefIdeal.Spectrum

namespace Cert.FourierIdeal.Spectrum

open Cert.FourierIdeal Cert.FourierIdeal.Gen

theorem pay3_at (u : Vec Ideal S2048x128 .bf16) (w : Vec Ideal S128x128 .bf16) (r : Fin 2048) (j : Fin 128) :
    k0_pay3 (F := Ideal) u w (ix2 r j) = ∑ d : Fin 128, u (ix2 r d) * w (ix2 d j) := by
  pointwise [k0_pay3]

theorem pay4_at (u : Vec Ideal S2048x128 .bf16) (w : Vec Ideal S128x128 .bf16) (r : Fin 2048) (j : Fin 128) :
    k0_pay4 (F := Ideal) u w (ix2 r j) = ∑ d : Fin 128, u (ix2 r d) * w (ix2 d j) := by
  pointwise [k0_pay4]

theorem pay5_at (u : Vec Ideal S2048x128 .bf16) (w : Vec Ideal S128x128 .bf16) (r : Fin 2048) (j : Fin 128) :
    k0_pay5 (F := Ideal) u w (ix2 r j) = ∑ d : Fin 128, u (ix2 r d) * w (ix2 d j) := by
  pointwise [k0_pay5]

theorem pay6_at (u : Vec Ideal S2048x128 .bf16) (w : Vec Ideal S128x128 .bf16) (r : Fin 2048) (j : Fin 128) :
    k0_pay6 (F := Ideal) u w (ix2 r j) = ∑ d : Fin 128, u (ix2 r d) * w (ix2 d j) := by
  pointwise [k0_pay6]

theorem pay7_at (u : Vec Ideal S2048x128 .bf16) (w : Vec Ideal S128x128 .bf16) (r : Fin 2048) (j : Fin 128) :
    k0_pay7 (F := Ideal) u w (ix2 r j) = ∑ d : Fin 128, u (ix2 r d) * w (ix2 d j) := by
  pointwise [k0_pay7]

theorem pay8_at (u : Vec Ideal S2048x128 .bf16) (w : Vec Ideal S128x128 .bf16) (r : Fin 2048) (j : Fin 128) :
    k0_pay8 (F := Ideal) u w (ix2 r j) = ∑ d : Fin 128, u (ix2 r d) * w (ix2 d j) := by
  pointwise [k0_pay8]

theorem pay9_at (u : Vec Ideal S2048x128 .bf16) (w : Vec Ideal S128x128 .bf16) (r : Fin 2048) (j : Fin 128) :
    k0_pay9 (F := Ideal) u w (ix2 r j) = ∑ d : Fin 128, u (ix2 r d) * w (ix2 d j) := by
  pointwise [k0_pay9]

theorem pay10_at (u : Vec Ideal S2048x128 .bf16) (w : Vec Ideal S128x128 .bf16) (r : Fin 2048) (j : Fin 128) :
    k0_pay10 (F := Ideal) u w (ix2 r j) = ∑ d : Fin 128, u (ix2 r d) * w (ix2 d j) := by
  pointwise [k0_pay10]

theorem pay11_at (a : Vec Ideal S512x2048 .bf16) (u : Vec Ideal S2048x512 .bf16) (b : Vec Ideal S512x2048 .bf16) (v : Vec Ideal S2048x512 .bf16) (r j : Fin 512) :
    k0_pay11 (F := Ideal) a u b v (ix2 r j) = ((∑ s : Fin 2048, a (ix2 r s) * u (ix2 s j)) - ∑ s : Fin 2048, b (ix2 r s) * v (ix2 s j)) * Ideal.ofBits .f32 0x3B000000#32 := by
  pointwise [k0_pay11]

theorem pay12_at (a : Vec Ideal S512x2048 .bf16) (u : Vec Ideal S2048x512 .bf16) (b : Vec Ideal S512x2048 .bf16) (v : Vec Ideal S2048x512 .bf16) (w : Vec Ideal S1x128x128 .f32) (r : Fin 512) (j : Fin 128) :
    k0_pay12 (F := Ideal) a u b v w (ix2 r j) = ∑ d : Fin 128, k0_pay11 (F := Ideal) a u b v (ix2 r ⟨0 * 128 + d.val, by omega⟩) * w (ix3 0 d j) := by
  unfold k0_pay12
  generalize k0_pay11 (F := Ideal) a u b v = z
  pointwise

theorem pay13_at (a : Vec Ideal S512x2048 .bf16) (u : Vec Ideal S2048x512 .bf16) (b : Vec Ideal S512x2048 .bf16) (v : Vec Ideal S2048x512 .bf16) (w : Vec Ideal S1x128x128 .f32) (r : Fin 512) (j : Fin 128) :
    k0_pay13 (F := Ideal) a u b v w (ix2 r j) = ∑ d : Fin 128, k0_pay11 (F := Ideal) a u b v (ix2 r ⟨1 * 128 + d.val, by omega⟩) * w (ix3 0 d j) := by
  unfold k0_pay13
  generalize k0_pay11 (F := Ideal) a u b v = z
  pointwise

theorem pay1_at (z : FVec Ideal S512x512 .f32) (w : Vec Ideal S1x128x128 .f32) (r : Fin 512) (j : Fin 128) :
    k0_pay1 (F := Ideal) z w (ix2 r j) = ∑ d : Fin 128, z (ix2 r ⟨2 * 128 + d.val, by omega⟩) * w (ix3 0 d j) := by
  pointwise [k0_pay1]

theorem pay2_at (z : FVec Ideal S512x512 .f32) (w : Vec Ideal S1x128x128 .f32) (r : Fin 512) (j : Fin 128) :
    k0_pay2 (F := Ideal) z w (ix2 r j) = ∑ d : Fin 128, z (ix2 r ⟨3 * 128 + d.val, by omega⟩) * w (ix3 0 d j) := by
  pointwise [k0_pay2]

/-- The block that each window shows at a grid point. -/
theorem idx : ∀ t : Fin cfg0.N,
    win0_0.index t = ![t.val / 4, 5] ∧
    win0_1.index t = ![0, 0] ∧
    win0_2.index t = ![0, 0] ∧
    win0_3.index t = ![t.val % 4, 0] ∧
    win0_4.index t = ![t.val % 4, 0] ∧
    win0_5.index t = ![0, 0, 0] ∧
    win0_6.index t = ![t.val, 0] := (by decide +kernel : ∀ t : Fin grid0.N, _)

variable (m : (ℓ : Loc nD τ sig) → Buf (Elt Ideal) ℓ)

/-- The tables that the launch is given are the reference's. -/
theorem V11 (c : Dev nD) : (V m c main_v11 : FVec Ideal S128x128 .bf16) = Host.cos Cert.FourierRefIdeal.Spectrum.ANGLE128 := by
  entry_read
  rfl

theorem V13 (c : Dev nD) : (V m c main_v13 : FVec Ideal S128x128 .bf16) = Host.sin Cert.FourierRefIdeal.Spectrum.ANGLE128 := by
  entry_read
  rfl

theorem V25 (c : Dev nD) : (V m c main_v25 : FVec Ideal S2048x2048 .bf16) = Host.cos Cert.FourierRefIdeal.Spectrum.ANGLE2048 := by
  entry_read
  rfl

theorem V27 (c : Dev nD) : (V m c main_v27 : FVec Ideal S2048x2048 .bf16) = Host.sin Cert.FourierRefIdeal.Spectrum.ANGLE2048 := by
  entry_read
  rfl

theorem tab1 (c : Dev nD) (t : Fin cfg0.N) (d e : Fin 128) : iblk m c 1 t (ix2 d e) = V m c main_v11 (ix2 d e) := by
  refine Eq.trans (b := V m c main_v11 ((win0_1.blk t).view.emb (ix2 d e))) rfl (congrArg (V m c main_v11) ?_)
  blk_ext [idx t]

theorem tab2 (c : Dev nD) (t : Fin cfg0.N) (d e : Fin 128) : iblk m c 2 t (ix2 d e) = V m c main_v13 (ix2 d e) := by
  refine Eq.trans (b := V m c main_v13 ((win0_2.blk t).view.emb (ix2 d e))) rfl (congrArg (V m c main_v13) ?_)
  blk_ext [idx t]

theorem tab3 (c : Dev nD) (t : Fin cfg0.N) (r : Fin 512) (s : Fin 2048) : iblk m c 3 t (ix2 r s) = V m c main_v25 (ix2 ⟨t.val % 4 * 512 + r.val, by omega⟩ s) := by
  refine Eq.trans (b := V m c main_v25 ((win0_3.blk t).view.emb (ix2 r s))) rfl (congrArg (V m c main_v25) ?_)
  blk_ext [idx t]

theorem tab4 (c : Dev nD) (t : Fin cfg0.N) (r : Fin 512) (s : Fin 2048) : iblk m c 4 t (ix2 r s) = V m c main_v27 (ix2 ⟨t.val % 4 * 512 + r.val, by omega⟩ s) := by
  refine Eq.trans (b := V m c main_v27 ((win0_4.blk t).view.emb (ix2 r s))) rfl (congrArg (V m c main_v27) ?_)
  blk_ext [idx t]

/-- What the scratch holds during a batch: the groups' rows transformed by the cosines, and below them by the sines. -/
def scr (P : FVec Ideal S8192x3072 .bf16) (c1 s1 : FVec Ideal S128x128 .f32) (b : ℕ) (hb : b < 4) (r : Fin 4096) (j : Fin 512) : EReal :=
  if h : r.val < 2048 then Cert.FourierRefIdeal.Spectrum.chan P c1 ⟨b * 2048 + r.val, by omega⟩ j
  else Cert.FourierRefIdeal.Spectrum.chan P s1 ⟨b * 2048 + (r.val - 2048), by omega⟩ j

theorem scratch_A (c : Dev nD) (t : Fin cfg0.N) (h0 : t.val % 4 = 0) (hb : t.val / 4 < 4) (r : Fin 4096) (j : Fin 512) :
    (outsAt0 m c t.val t.isLt).2 (ix2 r j) = scr (m ((c.tc : Thread nD τ).loc main_arg0)) (V m c main_v11) (V m c main_v13) (t.val / 4) hb r j := by
  rw [outsAt0_A m c t h0]
  frame_out
  canon_tiles x h
  · idx_vars x
    have h0' : r.val = 2048 + x0.val := h0
    have h1' : j.val = 384 + x1.val := h1
    rw [pay10_at, scr, dif_neg (show ¬r.val < 2048 by omega), Cert.FourierRefIdeal.Spectrum.chan]
    refine Fin.sum_fin_congr fun d => congr (congrArg HMul.hMul ?_) ?_
    · blk_point [iblk, V, idx t]
    · rw [tab2]
      blk_ext
  · idx_vars x
    have h0' : r.val = x0.val := h0
    have h1' : j.val = 384 + x1.val := h1
    rw [pay9_at, scr, dif_pos (show r.val < 2048 by omega), Cert.FourierRefIdeal.Spectrum.chan]
    refine Fin.sum_fin_congr fun d => congr (congrArg HMul.hMul ?_) ?_
    · blk_point [iblk, V, idx t]
    · rw [tab1]
      blk_ext
  · idx_vars x
    have h0' : r.val = 2048 + x0.val := h0
    have h1' : j.val = 256 + x1.val := h1
    rw [pay8_at, scr, dif_neg (show ¬r.val < 2048 by omega), Cert.FourierRefIdeal.Spectrum.chan]
    refine Fin.sum_fin_congr fun d => congr (congrArg HMul.hMul ?_) ?_
    · blk_point [iblk, V, idx t]
    · rw [tab2]
      blk_ext
  · idx_vars x
    have h0' : r.val = x0.val := h0
    have h1' : j.val = 256 + x1.val := h1
    rw [pay7_at, scr, dif_pos (show r.val < 2048 by omega), Cert.FourierRefIdeal.Spectrum.chan]
    refine Fin.sum_fin_congr fun d => congr (congrArg HMul.hMul ?_) ?_
    · blk_point [iblk, V, idx t]
    · rw [tab1]
      blk_ext
  · idx_vars x
    have h0' : r.val = 2048 + x0.val := h0
    have h1' : j.val = 128 + x1.val := h1
    rw [pay6_at, scr, dif_neg (show ¬r.val < 2048 by omega), Cert.FourierRefIdeal.Spectrum.chan]
    refine Fin.sum_fin_congr fun d => congr (congrArg HMul.hMul ?_) ?_
    · blk_point [iblk, V, idx t]
    · rw [tab2]
      blk_ext
  · idx_vars x
    have h0' : r.val = x0.val := h0
    have h1' : j.val = 128 + x1.val := h1
    rw [pay5_at, scr, dif_pos (show r.val < 2048 by omega), Cert.FourierRefIdeal.Spectrum.chan]
    refine Fin.sum_fin_congr fun d => congr (congrArg HMul.hMul ?_) ?_
    · blk_point [iblk, V, idx t]
    · rw [tab1]
      blk_ext
  · idx_vars x
    have h0' : r.val = 2048 + x0.val := h0
    have h1' : j.val = 0 + x1.val := h1.trans (Nat.zero_add _).symm
    rw [pay4_at, scr, dif_neg (show ¬r.val < 2048 by omega), Cert.FourierRefIdeal.Spectrum.chan]
    refine Fin.sum_fin_congr fun d => congr (congrArg HMul.hMul ?_) ?_
    · blk_point [iblk, V, idx t]
    · rw [tab2]
      blk_ext
  · idx_vars x
    have h0' : r.val = x0.val := h0
    have h1' : j.val = 0 + x1.val := h1.trans (Nat.zero_add _).symm
    rw [pay3_at, scr, dif_pos (show r.val < 2048 by omega), Cert.FourierRefIdeal.Spectrum.chan]
    refine Fin.sum_fin_congr fun d => congr (congrArg HMul.hMul ?_) ?_
    · blk_point [iblk, V, idx t]
    · rw [tab1]
      blk_ext

/-- The scratch at a grid point is the batch's. -/
theorem scratch (c : Dev nD) : ∀ (n : ℕ) (hn : n < cfg0.N) (hb : n / 4 < 4) (r : Fin 4096) (j : Fin 512),
    (outsAt0 m c n hn).2 (ix2 r j) = scr (m ((c.tc : Thread nD τ).loc main_arg0)) (V m c main_v11) (V m c main_v13) (n / 4) hb r j
  | 0, hn, hb, r, j => scratch_A m c ⟨0, hn⟩ rfl hb r j
  | n + 1, hn, hb, r, j => by
    by_cases h0 : (n + 1) % 4 = 0
    · exact scratch_A m c ⟨n + 1, hn⟩ h0 hb r j
    · have e := outsAt0_B m c ⟨n + 1, hn⟩ h0
      have e2 : (outsAt0 m c (n + 1) hn).2 = (outsAt0 m c n (by omega)).2 := (congrArg Prod.snd e).trans rfl
      rw [e2, scratch c n (by omega) (by omega) r j]
      have : n / 4 = (n + 1) / 4 := by omega
      simp only [this]

open Cert.FourierRefIdeal.Spectrum in
/-- The kernel's scaled real part is the reference's, where the two halves of the scratch are the batch's. -/
theorem spec_eq (c : Dev nD) (t : Fin cfg0.N) (ht : t.val < 16) (u v : Vec Ideal S2048x512 .bf16)
    (hu : ∀ (s : Fin 2048) (j : Fin 512), u (ix2 s j) = scr (m ((c.tc : Thread nD τ).loc main_arg0)) (V m c main_v11) (V m c main_v13) (t.val / 4) (by omega) ⟨s.val, by omega⟩ j)
    (hv : ∀ (s : Fin 2048) (j : Fin 512), v (ix2 s j) = scr (m ((c.tc : Thread nD τ).loc main_arg0)) (V m c main_v11) (V m c main_v13) (t.val / 4) (by omega) ⟨2048 + s.val, by omega⟩ j)
    (r : Fin 512) (j : Fin 512) :
    k0_pay11 (F := Ideal) (iblk m c 3 t) u (iblk m c 4 t) v (ix2 r j)
      = spec (m ((c.tc : Thread nD τ).loc main_arg0)) (V m c main_v11) (V m c main_v13) (V m c main_v25) (V m c main_v27) ⟨t.val * 512 + r.val, by omega⟩ j := by
  have e1 : (t.val * 512 + r.val) % 2048 = t.val % 4 * 512 + r.val := by omega
  have e2 : (t.val * 512 + r.val) / 2048 = t.val / 4 := by omega
  rw [pay11_at]
  simp only [tab3, tab4, hu, hv, spec, e1, e2]
  refine congrArg (· * _) (congr (congrArg HSub.hSub (Fin.sum_fin_congr fun s => ?_)) (Fin.sum_fin_congr fun s => ?_))
  · rw [scr, dif_pos (show s.val < 2048 by omega)]
  · rw [scr, dif_neg (show ¬2048 + s.val < 2048 by omega)]
    simp only [Nat.add_sub_cancel_left]

open Cert.FourierRefIdeal.Spectrum in
/-- The four column blocks that the kernel stores at a grid point, where the two halves of the scratch are the batch's. -/
theorem cols (c : Dev nD) (t : Fin cfg0.N) (ht : t.val < 16) (u v : Vec Ideal S2048x512 .bf16)
    (hu : ∀ (s : Fin 2048) (j : Fin 512), u (ix2 s j) = scr (m ((c.tc : Thread nD τ).loc main_arg0)) (V m c main_v11) (V m c main_v13) (t.val / 4) (by omega) ⟨s.val, by omega⟩ j)
    (hv : ∀ (s : Fin 2048) (j : Fin 512), v (ix2 s j) = scr (m ((c.tc : Thread nD τ).loc main_arg0)) (V m c main_v11) (V m c main_v13) (t.val / 4) (by omega) ⟨2048 + s.val, by omega⟩ j)
    (r : Fin 512) (j : Fin 512) :
    View.canon (Val := Elt Ideal) (e := .bf16) (s := S512x512)
      [⟨Rect.unit ![0, 384] ![512, 128] inb_S512x512_S512x128_0_384, k0_pay2 (F := Ideal) (k0_pay11 (F := Ideal) (iblk m c 3 t) u (iblk m c 4 t) v) (View.ld (iblk m c 5 t) (Rect.unit ![3, 0, 0] ![1, 128, 128] inb_S4x128x128_S1x128x128_3_0_0))⟩,
       ⟨Rect.unit ![0, 256] ![512, 128] inb_S512x512_S512x128_0_256, k0_pay1 (F := Ideal) (k0_pay11 (F := Ideal) (iblk m c 3 t) u (iblk m c 4 t) v) (View.ld (iblk m c 5 t) (Rect.unit ![2, 0, 0] ![1, 128, 128] inb_S4x128x128_S1x128x128_2_0_0))⟩,
       ⟨Rect.unit ![0, 128] ![512, 128] inb_S512x512_S512x128_0_128, k0_pay13 (F := Ideal) (iblk m c 3 t) u (iblk m c 4 t) v (View.ld (iblk m c 5 t) (Rect.unit ![1, 0, 0] ![1, 128, 128] inb_S4x128x128_S1x128x128_1_0_0))⟩,
       ⟨Rect.unit ![0, 0] ![512, 128] inb_S512x512_S512x128_0_0, k0_pay12 (F := Ideal) (iblk m c 3 t) u (iblk m c 4 t) v (View.ld (iblk m c 5 t) (Rect.unit ![0, 0, 0] ![1, 128, 128] inb_S4x128x128_S1x128x128_0_0_0))⟩] (ix2 r j)
      = BY (m ((c.tc : Thread nD τ).loc main_arg0)) (m ((c.tc : Thread nD τ).loc main_arg1)) (V m c main_v11) (V m c main_v13) (V m c main_v25) (V m c main_v27) (ix2 ⟨t.val * 512 + r.val, by omega⟩ j) := by
  rw [BY_at]
  canon_tiles x h
  · idx_vars x
    have h0' : r.val = x0.val := h0
    have h1' : j.val = 384 + x1.val := h1
    rw [pay2_at]
    refine Fin.sum_fin_congr fun d => congr (congrArg HMul.hMul ?_) ?_
    · refine (spec_eq m c t ht u v hu hv _ _).trans (congr (congrArg (spec _ _ _ _ _) (Fin.ext ?_)) (Fin.ext ?_))
      · show t.val * 512 + x0.val = t.val * 512 + r.val
        omega
      · show 3 * 128 + d.val = j.val / 128 * 128 + d.val
        omega
    · blk_point [iblk, V, idx t]
  · idx_vars x
    have h0' : r.val = x0.val := h0
    have h1' : j.val = 256 + x1.val := h1
    rw [pay1_at]
    refine Fin.sum_fin_congr fun d => congr (congrArg HMul.hMul ?_) ?_
    · refine (spec_eq m c t ht u v hu hv _ _).trans (congr (congrArg (spec _ _ _ _ _) (Fin.ext ?_)) (Fin.ext ?_))
      · show t.val * 512 + x0.val = t.val * 512 + r.val
        omega
      · show 2 * 128 + d.val = j.val / 128 * 128 + d.val
        omega
    · blk_point [iblk, V, idx t]
  · idx_vars x
    have h0' : r.val = x0.val := h0
    have h1' : j.val = 128 + x1.val := h1
    rw [pay13_at]
    refine Fin.sum_fin_congr fun d => congr (congrArg HMul.hMul ?_) ?_
    · refine (spec_eq m c t ht u v hu hv _ _).trans (congr (congrArg (spec _ _ _ _ _) (Fin.ext ?_)) (Fin.ext ?_))
      · show t.val * 512 + x0.val = t.val * 512 + r.val
        omega
      · show 1 * 128 + d.val = j.val / 128 * 128 + d.val
        omega
    · blk_point [iblk, V, idx t]
  · idx_vars x
    have h0' : r.val = x0.val := h0
    have h1' : j.val = 0 + x1.val := h1.trans (Nat.zero_add _).symm
    rw [pay12_at]
    refine Fin.sum_fin_congr fun d => congr (congrArg HMul.hMul ?_) ?_
    · refine (spec_eq m c t ht u v hu hv _ _).trans (congr (congrArg (spec _ _ _ _ _) (Fin.ext ?_)) (Fin.ext ?_))
      · show t.val * 512 + x0.val = t.val * 512 + r.val
        omega
      · show 0 * 128 + d.val = j.val / 128 * 128 + d.val
        omega
    · blk_point [iblk, V, idx t]

open Cert.FourierRefIdeal.Spectrum in
/-- The output block is the reference's result on the block. -/
theorem out (c : Dev nD) (t : Fin cfg0.N) (ht : t.val < 16) (r : Fin 512) (j : Fin 512) :
    (outsAt0 m c t.val t.isLt).1 (ix2 r j) = BY (m ((c.tc : Thread nD τ).loc main_arg0)) (m ((c.tc : Thread nD τ).loc main_arg1)) (V m c main_v11) (V m c main_v13) (V m c main_v25) (V m c main_v27) (ix2 ⟨t.val * 512 + r.val, by omega⟩ j) := by
  by_cases h0 : t.val % 4 = 0
  · have key := scratch m c t.val t.isLt (by omega)
    rw [outsAt0_A m c t h0] at key ⊢
    revert key
    frame_out
    intro key
    refine cols m c t ht _ _ (fun s j => ?_) (fun s j => ?_) r j
    · rw [View.readCov_eq_canon']
      refine Eq.trans (congrArg (View.canon _) ?_) (key ⟨s.val, by omega⟩ j)
      blk_ext
      · show 0 + 1 * s.val = s.val
        omega
      · show 0 + 1 * j.val = j.val
        omega
    · rw [View.readCov_eq_canon']
      refine Eq.trans (congrArg (View.canon _) ?_) (key ⟨2048 + s.val, by omega⟩ j)
      blk_ext
      · show 2048 + 1 * s.val = 2048 + s.val
        omega
      · show 0 + 1 * j.val = j.val
        omega
  · have key := scratch m c (t.val - 1) (by omega) (by omega)
    have e : (t.val - 1) / 4 = t.val / 4 := by omega
    simp only [e] at key
    rw [outsAt0_B m c t h0]
    frame_out
    refine cols m c t ht _ _ (fun s j => ?_) (fun s j => ?_) r j
    · refine Eq.trans ?_ (key ⟨s.val, by omega⟩ j)
      refine (congrFun ((Memref.isWhole_whole cc0_scratch0).read_unread _) _).trans (congrArg (outsAt0 m c (t.val - 1) _).2 ?_)
      blk_ext
      · show 0 + 1 * s.val = s.val
        omega
      · show 0 + 1 * j.val = j.val
        omega
    · refine Eq.trans ?_ (key ⟨2048 + s.val, by omega⟩ j)
      refine (congrFun ((Memref.isWhole_whole cc0_scratch0).read_unread _) _).trans (congrArg (outsAt0 m c (t.val - 1) _).2 ?_)
      blk_ext
      · show 2048 + 1 * s.val = 2048 + s.val
        omega
      · show 0 + 1 * j.val = j.val
        omega

open Cert.FourierRefIdeal.Spectrum in
/-- The kernel's whole result array is the reference's function of the arguments. -/
theorem final (c : Dev nD) : (dats m 0 c).arrAt 6 (cfgs 0).N
    = REF (m ((c.tc : Thread nD τ).loc main_arg0)) (m ((c.tc : Thread nD τ).loc main_arg1)) := by
  refine (dats m 0 c).arrAt_eq_of_covers 6 _ (by decide +kernel) fun t hf y => ?_
  blk_simp
  rw [after0_6]
  have ht : t.val < 16 := lt_of_lt_of_eq t.isLt N_0
  idx_vars y
  refine (out m c t ht y0 y1).trans ?_
  rw [V11, V13, V25, V27]
  show REF _ _ _ = REF _ _ _
  blk_ext [idx t]

end Cert.FourierIdeal.Spectrum
end
-- ==== Proof.FourierClaims.lean ====
/- The claims about the Fourier mixer. -/
module

public import proofs.«01_k».proof.Defs
public import proofs.«01_k».proof.Proof.Gen.Fourier.Frame
public import proofs.«01_k».proof.Proof.FourierValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.FourierClaims

theorem frame_p : Cert.quiescent_Fourier := fun m ρ _ => Cert.Fourier.Gen.frame m ρ
theorem frame_pi : Cert.quiescent_FourierIdeal := fun m ρ _ => Cert.FourierIdeal.Gen.frame m ρ
theorem frame_ri : Cert.quiescent_FourierRefIdeal := fun m ρ _ =>
  (θ_run Cert.FourierRefIdeal.defs _ _).mono (fun r h => ⟨fun c => (h c).2,
      Idealize.ShloMosaic.sem_eq_zero_of_no_sems (by decide) r.2⟩)
    (Cert.FourierRefIdeal.Value.run (F := Ideal) m ρ)

theorem preserves : Cert.preserves_Fourier_FourierIdeal := trivial

/-- The kernel's result is the reference's, for all arguments. -/
theorem algebraic : Cert.algebraic_FourierIdeal_FourierRefIdeal := by
  intro m ρ m' ρ' _ hagree
  refine ⟨_, Cert.FourierIdeal.Value.run_blocks (F := Ideal) m ρ, ?_⟩
  refine (θ_run Cert.FourierRefIdeal.defs _ _).mono (fun _ h c => ⟨(h c).1.trans ?_, (h c).2⟩)
    (Cert.FourierRefIdeal.Value.run (F := Ideal) m' ρ')
  refine Eq.trans (b := Cert.FourierRefIdeal.Spectrum.REF (m' ((c.tc : Thread Cert.FourierRefIdeal.nD Cert.FourierRefIdeal.τ).loc Cert.FourierRefIdeal.main_arg0)) (m' ((c.tc : Thread Cert.FourierRefIdeal.nD Cert.FourierRefIdeal.τ).loc Cert.FourierRefIdeal.main_arg1))) rfl ?_
  obtain ⟨e0, e1⟩ := hagree c
  rw [e0, e1]
  exact (Cert.FourierIdeal.Spectrum.final m c).symm

end Cert.Proof.FourierClaims
end
-- ==== Proof.GatherValue.lean ====
/- The gather of the experts' tokens: the kernel's result is the reference's function of the arguments. -/
module

public import proofs.«01_k».proof.Proof.Gen.GatherIdeal.Value
public import proofs.«01_k».proof.Proof.Gen.GatherRefIdeal.Run
public import Idealize.ShloMosaic.Lib.Routing.OpsPair
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.GatherRefIdeal.Slotted

open Cert.GatherRefIdeal Cert.GatherRefIdeal.Gen

/-- The expert, the sequence and the slot of every token's row. -/
def PLACE (P : IVec S4x16x2048 32) : IVec S16x4x2048x3 32 :=
  concatenate S16x4x2048x3 3 [⟨S16x4x2048x1, ((broadcastInDim S16x4x2048x1 ![0, 1, 2] bcast_S16x4x2048_S16x4x2048x1_0_1_2 (broadcastInDim S16x4x2048 ![0, 1, 2] bcast_S16x1x1_S16x4x2048_0_1_2 (broadcastInDim S16x1x1 ![0] bcast_S16_S16x1x1_0 (iotaInDim S16 32 0)))) : (⟨S16x4x2048x1, .i32⟩ : BufTy).Contents (Elt Ideal))⟩, ⟨S16x4x2048x1, ((broadcastInDim S16x4x2048x1 ![0, 1, 2] bcast_S16x4x2048_S16x4x2048x1_0_1_2 (broadcastInDim S16x4x2048 ![0, 1, 2] bcast_S1x4x1_S16x4x2048_0_1_2 (broadcastInDim S1x4x1 ![1] bcast_S4_S1x4x1_1 (iotaInDim S4 32 0)))) : (⟨S16x4x2048x1, .i32⟩ : BufTy).Contents (Elt Ideal))⟩, ⟨S16x4x2048x1, ((broadcastInDim S16x4x2048x1 ![0, 1, 2] bcast_S16x4x2048_S16x4x2048x1_0_1_2 (transpose S16x4x2048 [1, 0, 2] P transposes_S4x16x2048_S16x4x2048_1_0_2)) : (⟨S16x4x2048x1, .i32⟩ : BufTy).Contents (Elt Ideal))⟩] concatenates_S16x4x2048x1_S16x4x2048x1_S16x4x2048x1_S16x4x2048x3_d3

/-- The rows of all the sequences, once for every expert. -/
def ROWS (H : FVec Ideal S8192x2048 .bf16) : FVec Ideal S16x4x2048x2048 .f32 :=
  broadcastInDim S16x4x2048x2048 ![0, 1, 2, 3] bcast_S1x4x2048x2048_S16x4x2048x2048_0_1_2_3 (shapeCast _ (extf .f32 H bitsLt_bf16_f32) shapeCasts_S8192x2048_S1x4x2048x2048)

/-- Every row added at its place. -/
def PUT (I : IVec S16x4x2048x3 32) (R : FVec Ideal S16x4x2048x2048 .f32) : FVec Ideal S16x4x256x2048 .f32 :=
  Host.scatterAdd scatter_S16x4x256x2048_S16x4x2048x3_S16x4x2048x2048_3_012_012_3 (broadcastInDim S16x4x256x2048 ![] bcast_S_S16x4x256x2048 (constant S_ .f32 0x00000000#32)) I R

/-- The reference's result as a function of its arguments. -/
def REF (H : FVec Ideal S8192x2048 .bf16) (P : IVec S4x16x2048 32) : FVec Ideal S16384x2048 .bf16 :=
  truncf .bf16 (shapeCast _ (PUT (PLACE P) (ROWS H)) shapeCasts_S16x4x256x2048_S16384x2048) bitsLt_bf16_f32

/-- The first number of a place is the expert. -/
theorem PLACE_0 (P : IVec S4x16x2048 32) (e : Fin 16) (b : Fin 4) (s : Fin 2048) : PLACE P (ix4 e b s 0) = BitVec.ofNat 32 e.val := by
  pointwise [PLACE]

/-- The second number of a place is the sequence. -/
theorem PLACE_1 (P : IVec S4x16x2048 32) (e : Fin 16) (b : Fin 4) (s : Fin 2048) : PLACE P (ix4 e b s 1) = BitVec.ofNat 32 b.val := by
  pointwise [PLACE]

/-- The third number of a place is the slot. -/
theorem PLACE_2 (P : IVec S4x16x2048 32) (e : Fin 16) (b : Fin 4) (s : Fin 2048) : PLACE P (ix4 e b s 2) = P (ix3 b e s) := by
  pointwise [PLACE]

/-- A row's entry, for every expert the same. -/
theorem ROWS_at (H : FVec Ideal S8192x2048 .bf16) (e : Fin 16) (b : Fin 4) (s j : Fin 2048) :
    ROWS H (ix4 e b s j) = H (ix2 ⟨b.val * 2048 + s.val, by omega⟩ j) := by
  pointwise [ROWS]

/-- A row lands at an entry exactly when its expert, sequence, slot and column are the entry's. -/
theorem lands (I : IVec S16x4x2048x3 32) (e e' : Fin 16) (b b' : Fin 4) (s' j j' : Fin 2048) (q : Fin 256) :
    scatter_S16x4x256x2048_S16x4x2048x3_S16x4x2048x2048_3_012_012_3.resultIdx? (ix4 e' b' s' j') I = some (ix4 e b q j) ↔
      (I (ix4 e' b' s' 0)).toInt = e.val ∧ (I (ix4 e' b' s' 1)).toInt = b.val ∧ (I (ix4 e' b' s' 2)).toInt = q.val ∧ j' = j := by
  have hs : ∀ a : Fin 3, ScatterDims.start scatter_S16x4x256x2048_S16x4x2048x3_S16x4x2048x2048_3_012_012_3 (ix4 e' b' s' j') I ⟨a.val, by show a.val < 4; omega⟩ = (I (ix4 e' b' s' a)).toInt := by
    intro a
    refine (dif_pos (by revert a; decide)).trans ?_
    refine congrArg (fun n => (I n).toInt) ?_
    funext x
    fin_cases a <;> fin_cases x <;> rfl
  have h3 : ScatterDims.start scatter_S16x4x256x2048_S16x4x2048x3_S16x4x2048x2048_3_012_012_3 (ix4 e' b' s' j') I (3 : Fin 4) = 0 := dif_neg (by decide)
  have a0 : ScatterDims.start scatter_S16x4x256x2048_S16x4x2048x3_S16x4x2048x2048_3_012_012_3 (ix4 e' b' s' j') I (0 : Fin 4) = (I (ix4 e' b' s' 0)).toInt := hs 0
  have a1 : ScatterDims.start scatter_S16x4x256x2048_S16x4x2048x3_S16x4x2048x2048_3_012_012_3 (ix4 e' b' s' j') I (1 : Fin 4) = (I (ix4 e' b' s' 1)).toInt := hs 1
  have a2 : ScatterDims.start scatter_S16x4x256x2048_S16x4x2048x3_S16x4x2048x2048_3_012_012_3 (ix4 e' b' s' j') I (2 : Fin 4) = (I (ix4 e' b' s' 2)).toInt := hs 2
  have u0 : ScatterDims.window scatter_S16x4x256x2048_S16x4x2048x3_S16x4x2048x2048_3_012_012_3 (ix4 e' b' s' j') (0 : Fin 4) = 0 := dif_neg (by decide)
  have u1 : ScatterDims.window scatter_S16x4x256x2048_S16x4x2048x3_S16x4x2048x2048_3_012_012_3 (ix4 e' b' s' j') (1 : Fin 4) = 0 := dif_neg (by decide)
  have u2 : ScatterDims.window scatter_S16x4x256x2048_S16x4x2048x3_S16x4x2048x2048_3_012_012_3 (ix4 e' b' s' j') (2 : Fin 4) = 0 := dif_neg (by decide)
  have w3 : ScatterDims.window scatter_S16x4x256x2048_S16x4x2048x3_S16x4x2048x2048_3_012_012_3 (ix4 e' b' s' j') (3 : Fin 4) = j'.val :=
    (dif_pos (by decide)).trans rfl
  rw [Idealize.ShloMosaic.Routing.resultIdx?_eq_some]
  constructor
  · intro h
    have t0 := h (0 : Fin 4)
    have t1 := h (1 : Fin 4)
    have t2 := h (2 : Fin 4)
    have t3 := h (3 : Fin 4)
    rw [a0, u0] at t0
    rw [a1, u1] at t1
    rw [a2, u2] at t2
    rw [h3, w3] at t3
    change _ = (e.val : ℤ) at t0
    change _ = (b.val : ℤ) at t1
    change _ = (q.val : ℤ) at t2
    change _ = (j.val : ℤ) at t3
    exact ⟨by omega, by omega, by omega, Fin.ext (by omega)⟩
  · rintro ⟨t0, t1, t2, t3⟩ a
    match a with
    | ⟨0, _⟩ =>
      refine (congr (congrArg HAdd.hAdd a0) (congrArg Nat.cast u0)).trans ?_
      rw [t0]
      exact add_zero _
    | ⟨1, _⟩ =>
      refine (congr (congrArg HAdd.hAdd a1) (congrArg Nat.cast u1)).trans ?_
      rw [t1]
      exact add_zero _
    | ⟨2, _⟩ =>
      refine (congr (congrArg HAdd.hAdd a2) (congrArg Nat.cast u2)).trans ?_
      rw [t2]
      exact add_zero _
    | ⟨3, _⟩ =>
      refine (congr (congrArg HAdd.hAdd h3) (congrArg Nat.cast w3)).trans ?_
      rw [t3]
      exact zero_add _

/-- A small word's value is its number. -/
theorem toInt_small (n : ℕ) (h : n < 2048) : (BitVec.ofNat 32 n).toInt = (n : ℤ) := by
  rw [BitVec.toInt_eq_toNat_of_lt] <;> rw [BitVec.toNat_ofNat, Nat.mod_eq_of_lt (by omega)]
  omega

/-- The sum that a slot's entry receives: the rows whose token has the slot. -/
theorem PUT_at (P : IVec S4x16x2048 32) (R : FVec Ideal S16x4x2048x2048 .f32) (e : Fin 16) (b : Fin 4) (q : Fin 256) (j : Fin 2048) :
    PUT (PLACE P) R (ix4 e b q j) = ∑ s : Fin 2048, @ite EReal ((P (ix3 b e s)).toInt = (q.val : ℤ)) _ (R (ix4 e b s j)) 0 := by
  refine Eq.trans (b := (broadcastInDim S16x4x256x2048 ![] bcast_S_S16x4x256x2048 (constant S_ .f32 0x00000000#32) : FVec Ideal S16x4x256x2048 .f32) (ix4 e b q j)
    + ∑ u ∈ Finset.univ.filter (fun u => scatter_S16x4x256x2048_S16x4x2048x3_S16x4x2048x2048_3_012_012_3.resultIdx? u (PLACE P) = some (ix4 e b q j)), R u) rfl ?_
  have h0 : (broadcastInDim S16x4x256x2048 ![] bcast_S_S16x4x256x2048 (constant S_ .f32 0x00000000#32) : FVec Ideal S16x4x256x2048 .f32) (ix4 e b q j) = (0 : EReal) := by
    pointwise
  rw [h0, zero_add, ← Finset.sum_filter]
  have key : ∀ (e' : Fin 16) (b' : Fin 4) (s' j' : Fin 2048),
      scatter_S16x4x256x2048_S16x4x2048x3_S16x4x2048x2048_3_012_012_3.resultIdx? (ix4 e' b' s' j') (PLACE P) = some (ix4 e b q j) ↔
        e' = e ∧ b' = b ∧ (P (ix3 b' e' s')).toInt = q.val ∧ j' = j := by
    intro e' b' s' j'
    rw [lands _ e e' b b', PLACE_0, PLACE_1, PLACE_2, toInt_small _ (by omega), toInt_small _ (by omega), Fin.ext_iff (a := e'), Fin.ext_iff (a := b')]
    rw [Int.ofNat_inj, Int.ofNat_inj]
  refine Finset.sum_nbij' (fun u => u 2) (fun s => ix4 e b s j) ?_ ?_ ?_ ?_ ?_
  · intro u hu
    idx_vars u
    obtain ⟨r1, r2, r3, r4⟩ := (key _ _ _ _).1 (Finset.mem_filter.1 hu).2
    subst r1; subst r2
    exact Finset.mem_filter.2 ⟨Finset.mem_univ _, r3⟩
  · intro s hs
    exact Finset.mem_filter.2 ⟨Finset.mem_univ _, (key _ _ _ _).2 ⟨rfl, rfl, (Finset.mem_filter.1 hs).2, rfl⟩⟩
  · intro u hu
    idx_vars u
    obtain ⟨r1, r2, r3, r4⟩ := (key _ _ _ _).1 (Finset.mem_filter.1 hu).2
    subst r1; subst r2; subst r4
    rfl
  · intro s hs
    rfl
  · intro u hu
    idx_vars u
    obtain ⟨r1, r2, r3, r4⟩ := (key _ _ _ _).1 (Finset.mem_filter.1 hu).2
    subst r1; subst r2; subst r4
    rfl

/-- The reference's entry at an expert's, a sequence's and a slot's row. -/
theorem REF_at (H : FVec Ideal S8192x2048 .bf16) (P : IVec S4x16x2048 32) (n : Fin 16384) (j : Fin 2048) (e : Fin 16) (b : Fin 4) (q : Fin 256)
    (hn : n.val = (e.val * 4 + b.val) * 256 + q.val) :
    REF H P (ix2 n j) = ∑ s : Fin 2048, @ite EReal ((P (ix3 b e s)).toInt = (q.val : ℤ)) _ (H (ix2 ⟨b.val * 2048 + s.val, by omega⟩ j)) 0 := by
  refine Eq.trans (b := PUT (PLACE P) (ROWS H) (ix4 e b q j)) ?_ ?_
  · generalize hZ : PUT (PLACE P) (ROWS H) = Z
    unfold REF
    rw [hZ]
    pointwise
    refine congrArg Z ?_
    congr 1
    · exact Fin.ext (by show n.val / 1024 = e.val; omega)
    · exact Fin.ext (by show n.val / 256 % 4 = b.val; omega)
    · exact Fin.ext (by show n.val % 256 = q.val; omega)
  · rw [PUT_at]
    simp only [ROWS_at]

end Cert.GatherRefIdeal.Slotted

namespace Cert.GatherIdeal.Slotted

open Cert.GatherIdeal Cert.GatherIdeal.Gen

/-- One where the word is the slot's number, else zero, as the kernel computes it. -/
def hot (q : Fin 256) (w : BitVec 32) : EReal :=
  FloatOps.sitofp (F := Ideal) .f32 (BitVec.setWidth 32 (IntOp.cmpi .eq (BitVec.ofNat 32 q.val) w))

/-- A stored block's entry: the rows that have the slot, summed. -/
theorem pay1_at (p : Vec Ideal S1x1x2048 .i32) (h : Vec Ideal S2048x2048 .bf16) (q : Fin 256) (j : Fin 2048) :
    k0_pay1 (F := Ideal) p h (ix2 q j) = ∑ s : Fin 2048, @HMul.hMul EReal EReal EReal _ (hot q (p (ix3 0 0 s))) (h (ix2 s j)) := by
  pointwise [k0_pay1, hot]

/-- The comparison's value. -/
theorem hot_eq (q : Fin 256) (w : BitVec 32) : hot q w = if w.toInt = (q.val : ℤ) then 1 else 0 := by
  have e : (BitVec.ofNat 32 q.val).toInt = (q.val : ℤ) := by
    have hs := q.isLt
    rw [BitVec.toInt_eq_toNat_of_lt] <;> rw [BitVec.toNat_ofNat, Nat.mod_eq_of_lt (by omega)]
    omega
  unfold hot
  show FloatOps.sitofp (F := Ideal) .f32 (BitVec.setWidth 32 (BitVec.ofBool (BitVec.ofNat 32 q.val == w))) = _
  by_cases h : w.toInt = (q.val : ℤ)
  · obtain rfl : w = BitVec.ofNat 32 q.val := BitVec.eq_of_toInt_eq (h.trans e.symm)
    rw [if_pos h, beq_self_eq_true]
    show ((((BitVec.setWidth 32 (BitVec.ofBool true)).toInt : ℤ) : ℝ) : EReal) = 1
    rw [show (BitVec.setWidth 32 (BitVec.ofBool true)).toInt = 1 by decide]
    simp
  · rw [if_neg h, beq_eq_false_iff_ne.2 (fun e' => h (by rw [← e', e]))]
    show ((((BitVec.setWidth 32 (BitVec.ofBool false)).toInt : ℤ) : ℝ) : EReal) = 0
    rw [show (BitVec.setWidth 32 (BitVec.ofBool false)).toInt = 0 by decide]
    simp

variable (m : (ℓ : Loc nD τ sig) → Buf (Elt Ideal) ℓ)

/-- The block that each window shows at a grid point. -/
theorem idx : ∀ t : Fin cfg0.N,
    win0_0.index t = ![t.val / 16, 0] ∧
    win0_1.index t = ![t.val / 16, 0, 0] ∧
    win0_2.index t = ![t.val % 16 * 4 + t.val / 16, 0] := (by decide +kernel : ∀ t : Fin grid0.N, _)

/-- The row of the table that a grid point reads is its expert's. -/
theorem offset : ∀ t : Fin cfg0.N, k0_off1 (grid0.coords t) = ![0, t.val % 16, 0] := (by decide +kernel : ∀ t : Fin grid0.N, _)

open Cert.GatherRefIdeal.Slotted in
/-- The kernel's whole result array is the reference's function of the arguments. -/
theorem final (c : Dev nD) : (dats m 0 c).arrAt 2 (cfgs 0).N
    = REF (m ((c.tc : Thread nD τ).loc main_arg0)) (m ((c.tc : Thread nD τ).loc main_arg1)) := by
  refine (dats m 0 c).arrAt_eq_of_covers 2 _ (by decide +kernel) fun t hf y => ?_
  blk_simp
  rw [after0_2]
  have ht : t.val < 64 := lt_of_lt_of_eq t.isLt N_0
  idx_vars y
  refine Eq.trans (b := REF (m ((c.tc : Thread nD τ).loc main_arg0)) (m ((c.tc : Thread nD τ).loc main_arg1)) (ix2 ⟨(t.val % 16 * 4 + t.val / 16) * 256 + y0.val, by omega⟩ y1)) ?_
    (by show REF _ _ _ = REF _ _ _; blk_ext [idx t])
  rw [REF_at _ _ _ y1 ⟨t.val % 16, by omega⟩ ⟨t.val / 16, by omega⟩ y0 rfl]
  unfold outsAt0
  frame_out
  rw [pay1_at]
  refine Finset.sum_congr rfl fun s _ => ?_
  rw [hot_eq]
  have b0 : (iblk m c 0 t : FVec Ideal S2048x2048 .bf16) (ix2 s y1)
      = ((m ((c.tc : Thread nD τ).loc main_arg0)) : FVec Ideal S8192x2048 .bf16) (ix2 ⟨t.val / 16 * 2048 + s.val, by omega⟩ y1) := by
    blk_point [iblk, V, idx t]
  have b1 : ∀ e : Fin 16, (iblk m c 1 t : IVec S1x16x2048 32) (ix3 0 e s)
      = ((m ((c.tc : Thread nD τ).loc main_arg1)) : IVec S4x16x2048 32) (ix3 ⟨t.val / 16, by omega⟩ e s) := by
    intro e
    blk_point [iblk, V, idx t]
  have b2 : View.ld (iblk m c 1 t) (Rect.unit (k0_off1 (grid0.coords t)) ![1, 1, 2048] (k0_off1_inb (grid0.coords t))) (ix3 0 0 s)
      = ((m ((c.tc : Thread nD τ).loc main_arg1)) : IVec S4x16x2048 32) (ix3 ⟨t.val / 16, by omega⟩ ⟨t.val % 16, by omega⟩ s) := by
    rw [← b1]
    have ho := offset t
    show (iblk m c 1 t : IVec S1x16x2048 32) _ = (iblk m c 1 t : IVec S1x16x2048 32) _
    congr 1
    funext x
    refine Fin.ext ?_
    fin_cases x <;> simp [ho]
  rw [b0, b2]
  by_cases h : BitVec.toInt (((m ((c.tc : Thread nD τ).loc main_arg1)) : IVec S4x16x2048 32) (ix3 ⟨t.val / 16, by omega⟩ ⟨t.val % 16, by omega⟩ s)) = (y0.val : ℤ)
  · rw [if_pos h, if_pos h, one_mul]
  · rw [if_neg h, if_neg h, zero_mul]

end Cert.GatherIdeal.Slotted
end
-- ==== Proof.GatherClaims.lean ====
/- The claims about the gather of the experts' tokens. -/
module

public import proofs.«01_k».proof.Defs
public import proofs.«01_k».proof.Proof.Gen.Gather.Frame
public import proofs.«01_k».proof.Proof.GatherValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.GatherClaims

theorem frame_p : Cert.quiescent_Gather := fun m ρ _ => Cert.Gather.Gen.frame m ρ
theorem frame_pi : Cert.quiescent_GatherIdeal := fun m ρ _ => Cert.GatherIdeal.Gen.frame m ρ
theorem frame_ri : Cert.quiescent_GatherRefIdeal := fun m ρ _ =>
  (θ_run Cert.GatherRefIdeal.defs _ _).mono (fun r h => ⟨fun c => (h c).2,
      Idealize.ShloMosaic.sem_eq_zero_of_no_sems (by decide) r.2⟩)
    (Cert.GatherRefIdeal.Value.run (F := Ideal) m ρ)

theorem preserves : Cert.preserves_Gather_GatherIdeal := trivial

/-- The kernel's result is the reference's, for all arguments. -/
theorem algebraic : Cert.algebraic_GatherIdeal_GatherRefIdeal := by
  intro m ρ m' ρ' _ hagree
  refine ⟨_, Cert.GatherIdeal.Value.run_blocks (F := Ideal) m ρ, ?_⟩
  refine (θ_run Cert.GatherRefIdeal.defs _ _).mono (fun _ h c => ⟨(h c).1.trans ?_, (h c).2⟩)
    (Cert.GatherRefIdeal.Value.run (F := Ideal) m' ρ')
  refine Eq.trans (b := Cert.GatherRefIdeal.Slotted.REF (m' ((c.tc : Thread Cert.GatherRefIdeal.nD Cert.GatherRefIdeal.τ).loc Cert.GatherRefIdeal.main_arg0)) (m' ((c.tc : Thread Cert.GatherRefIdeal.nD Cert.GatherRefIdeal.τ).loc Cert.GatherRefIdeal.main_arg1))) rfl ?_
  obtain ⟨e0, e1⟩ := hagree c
  rw [e0, e1]
  exact (Cert.GatherIdeal.Slotted.final m c).symm

end Cert.Proof.GatherClaims
end
-- ==== Proof.PoolReference.lean ====
/- The pooled windows: the reference's entries. -/
module

public import proofs.«01_k».proof.Proof.Gen.PoolRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.PoolRefIdeal.Windows

open Cert.PoolRefIdeal Cert.PoolRefIdeal.Gen

/-- The first position of every window that reaches `a` positions back. -/
def LO (a : BitVec 32) : IVec S2048 32 :=
  minsi (broadcastInDim S2048 ![] bcast_S_S2048 (id (constantI S_ 32 2048#32))) (maxsi (broadcastInDim S2048 ![] bcast_S_S2048 (id (constantI S_ 32 0#32))) (subi (iotaInDim S2048 32 0) (broadcastInDim S2048 ![] bcast_S_S2048 (constantI S_ 32 a))))

/-- The position after every window of `w` positions that reaches `a` positions back. -/
def HI (w a : BitVec 32) : IVec S2048 32 :=
  minsi (broadcastInDim S2048 ![] bcast_S_S2048 (id (constantI S_ 32 2048#32))) (maxsi (broadcastInDim S2048 ![] bcast_S_S2048 (id (constantI S_ 32 0#32))) (subi (addi (iotaInDim S2048 32 0) (broadcastInDim S2048 ![] bcast_S_S2048 (constantI S_ 32 w))) (broadcastInDim S2048 ![] bcast_S_S2048 (constantI S_ 32 a))))

/-- Which positions lie between two bounds. -/
def MASK (lo hi : IVec S2048 32) : IVec S2048x2048 1 :=
  andi (cmpi .sle (broadcastInDim S2048x2048 ![0, 1] bcast_S2048x1_S2048x2048_0_1 (broadcastInDim S2048x1 ![0] bcast_S2048_S2048x1_0 lo)) (broadcastInDim S2048x2048 ![0, 1] bcast_S1x2048_S2048x2048_0_1 (broadcastInDim S1x2048 ![1] bcast_S2048_S1x2048_1 (iotaInDim S2048 32 0)))) (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 hi)))

/-- The mean over the window between two bounds, minus the entry itself. -/
def CENTRED (U : FVec Ideal S4x2048x512 .f32) (lo hi : IVec S2048 32) : FVec Ideal S4x2048x512 .f32 :=
  subf (Host.divf (Host.reduceAdd (select (broadcastInDim S4x2048x2048x512 ![0, 1, 2, 3] bcast_S1x2048x2048x1_S4x2048x2048x512_0_1_2_3 (broadcastInDim S1x2048x2048x1 ![1, 2] bcast_S2048x2048_S1x2048x2048x1_1_2 (MASK lo hi))) (broadcastInDim S4x2048x2048x512 ![0, 1, 2, 3] bcast_S4x1x2048x512_S4x2048x2048x512_0_1_2_3 (broadcastInDim S4x1x2048x512 ![0, 2, 3] bcast_S4x2048x512_S4x1x2048x512_0_2_3 U)) (broadcastInDim S4x2048x2048x512 ![] bcast_S_S4x2048x2048x512 (id (constant S_ .f32 0x00000000#32)))) (constant S_ .f32 0x00000000#32) reducesTo_S4x2048x2048x512_S4x2048x512_d2 h_S_) (broadcastInDim S4x2048x512 ![0, 1, 2] bcast_S1x2048x1_S4x2048x512_0_1_2 (broadcastInDim S1x2048x1 ![1] bcast_S2048_S1x2048x1_1 (sitofp .f32 (subi hi lo))))) U

/-- The columns of group 0, by sequence and position. -/
def GROUP0 (X : FVec Ideal S8192x2048 .f32) : FVec Ideal S4x2048x512 .f32 :=
  shapeCast _ (extractStridedSlice S4x2048x1x512 ![0, 0, 0, 0] (shapeCast _ X shapeCasts_S8192x2048_S4x2048x4x512) slices_S4x2048x4x512_S4x2048x1x512_0_0_0_0) shapeCasts_S4x2048x1x512_S4x2048x512

/-- The columns of group 1, by sequence and position. -/
def GROUP1 (X : FVec Ideal S8192x2048 .f32) : FVec Ideal S4x2048x512 .f32 :=
  shapeCast _ (extractStridedSlice S4x2048x1x512 ![0, 0, 1, 0] (shapeCast _ X shapeCasts_S8192x2048_S4x2048x4x512) slices_S4x2048x4x512_S4x2048x1x512_0_0_1_0) shapeCasts_S4x2048x1x512_S4x2048x512

/-- The columns of group 2, by sequence and position. -/
def GROUP2 (X : FVec Ideal S8192x2048 .f32) : FVec Ideal S4x2048x512 .f32 :=
  shapeCast _ (extractStridedSlice S4x2048x1x512 ![0, 0, 2, 0] (shapeCast _ X shapeCasts_S8192x2048_S4x2048x4x512) slices_S4x2048x4x512_S4x2048x1x512_0_0_2_0) shapeCasts_S4x2048x1x512_S4x2048x512

/-- The columns of group 3, by sequence and position. -/
def GROUP3 (X : FVec Ideal S8192x2048 .f32) : FVec Ideal S4x2048x512 .f32 :=
  shapeCast _ (extractStridedSlice S4x2048x1x512 ![0, 0, 3, 0] (shapeCast _ X shapeCasts_S8192x2048_S4x2048x4x512) slices_S4x2048x4x512_S4x2048x1x512_0_0_3_0) shapeCasts_S4x2048x1x512_S4x2048x512

/-- Four groups side by side, by sequence, position, group and column. -/
def SIDE (A B C D : FVec Ideal S4x2048x512 .f32) : FVec Ideal S4x2048x4x512 .f32 :=
  concatenate S4x2048x4x512 2 [⟨S4x2048x1x512, ((broadcastInDim S4x2048x1x512 ![0, 1, 3] bcast_S4x2048x512_S4x2048x1x512_0_1_3 A) : (⟨S4x2048x1x512, .f32⟩ : BufTy).Contents (Elt Ideal))⟩, ⟨S4x2048x1x512, ((broadcastInDim S4x2048x1x512 ![0, 1, 3] bcast_S4x2048x512_S4x2048x1x512_0_1_3 B) : (⟨S4x2048x1x512, .f32⟩ : BufTy).Contents (Elt Ideal))⟩, ⟨S4x2048x1x512, ((broadcastInDim S4x2048x1x512 ![0, 1, 3] bcast_S4x2048x512_S4x2048x1x512_0_1_3 C) : (⟨S4x2048x1x512, .f32⟩ : BufTy).Contents (Elt Ideal))⟩, ⟨S4x2048x1x512, ((broadcastInDim S4x2048x1x512 ![0, 1, 3] bcast_S4x2048x512_S4x2048x1x512_0_1_3 D) : (⟨S4x2048x1x512, .f32⟩ : BufTy).Contents (Elt Ideal))⟩] concatenates_S4x2048x1x512_S4x2048x1x512_S4x2048x1x512_S4x2048x1x512_S4x2048x4x512_d2

/-- Four groups side by side, as rows. -/
def STACK (A B C D : FVec Ideal S4x2048x512 .f32) : FVec Ideal S8192x2048 .bf16 :=
  truncf .bf16 (shapeCast _ (SIDE A B C D) shapeCasts_S4x2048x4x512_S8192x2048) bitsLt_bf16_f32

/-- The reference's result as a function of its argument. -/
def REF (X : FVec Ideal S8192x2048 .f32) : FVec Ideal S8192x2048 .bf16 :=
  STACK (CENTRED (GROUP0 X) (LO 1#32) (HI 2#32 1#32)) (CENTRED (GROUP1 X) (LO 2#32) (HI 4#32 2#32)) (CENTRED (GROUP2 X) (LO 4#32) (HI 8#32 4#32)) (CENTRED (GROUP3 X) (LO 8#32) (HI 16#32 8#32))

/-- The number of positions in a window that reaches `a` positions either way, cut at the sequence's ends. -/
def count (a t : ℕ) : EReal := FloatOps.sitofp (F := Ideal) .f32 (BitVec.ofNat 32 (min (t + a) 2048 - (t - a)))

/-- The mean over a window that reaches `a` positions either way, minus the entry itself. -/
def mean (a : ℕ) (f : Fin 2048 → EReal) (t : Fin 2048) : EReal :=
  Ideal.div (∑ u : Fin 2048, if t.val ≤ u.val + a ∧ u.val < t.val + a then f u else 0) (count a t.val) - f t

/-- A small word's value is its number. -/
theorem toInt_small (n : ℕ) (h : n < 4096) : (BitVec.ofNat 32 n).toInt = (n : ℤ) := by
  rw [BitVec.toInt_eq_toNat_of_lt] <;> rw [BitVec.toNat_ofNat, Nat.mod_eq_of_lt (by omega)]
  omega

/-- Small words compare as their numbers. -/
theorem sle_small (x y : ℕ) (hx : x < 4096) (hy : y < 4096) : IntOp.cmpi .sle (BitVec.ofNat 32 x) (BitVec.ofNat 32 y) = BitVec.ofBool (decide (x ≤ y)) := by
  show BitVec.ofBool (BitVec.sle (BitVec.ofNat 32 x) (BitVec.ofNat 32 y)) = _
  rw [BitVec.sle_eq_decide, toInt_small x hx, toInt_small y hy]
  simp only [Int.ofNat_le]

/-- Small words compare as their numbers. -/
theorem slt_small (x y : ℕ) (hx : x < 4096) (hy : y < 4096) : IntOp.cmpi .slt (BitVec.ofNat 32 x) (BitVec.ofNat 32 y) = BitVec.ofBool (decide (x < y)) := by
  show BitVec.ofBool (BitVec.slt (BitVec.ofNat 32 x) (BitVec.ofNat 32 y)) = _
  rw [BitVec.slt_eq_decide, toInt_small x hx, toInt_small y hy]
  simp only [Int.ofNat_lt]

/-- The first position of a window that reaches 1 back. -/
theorem lo_1 : ∀ t : Fin 2048, IntOp.minsi 2048#32 (IntOp.maxsi 0#32 (IntOp.subi (BitVec.ofNat 32 t.val) 1#32)) = BitVec.ofNat 32 (t.val - 1) := by
  decide +kernel

/-- The position after a window of 2 positions that reaches 1 back. -/
theorem hi_1 : ∀ t : Fin 2048, IntOp.minsi 2048#32 (IntOp.maxsi 0#32 (IntOp.subi (IntOp.addi (BitVec.ofNat 32 t.val) 2#32) 1#32)) = BitVec.ofNat 32 (min (t.val + 1) 2048) := by
  decide +kernel

/-- The first position of a window that reaches 1 back. -/
theorem LO_1 (t : Fin 2048) : LO 1#32 (ix1 t) = BitVec.ofNat 32 (t.val - 1) := by
  refine Eq.trans ?_ (lo_1 t)
  pointwise [LO]
  rfl

/-- The position after a window of 2 positions that reaches 1 back. -/
theorem HI_1 (t : Fin 2048) : HI 2#32 1#32 (ix1 t) = BitVec.ofNat 32 (min (t.val + 1) 2048) := by
  refine Eq.trans ?_ (hi_1 t)
  pointwise [HI]
  rfl

/-- The first position of a window that reaches 2 back. -/
theorem lo_2 : ∀ t : Fin 2048, IntOp.minsi 2048#32 (IntOp.maxsi 0#32 (IntOp.subi (BitVec.ofNat 32 t.val) 2#32)) = BitVec.ofNat 32 (t.val - 2) := by
  decide +kernel

/-- The position after a window of 4 positions that reaches 2 back. -/
theorem hi_2 : ∀ t : Fin 2048, IntOp.minsi 2048#32 (IntOp.maxsi 0#32 (IntOp.subi (IntOp.addi (BitVec.ofNat 32 t.val) 4#32) 2#32)) = BitVec.ofNat 32 (min (t.val + 2) 2048) := by
  decide +kernel

/-- The first position of a window that reaches 2 back. -/
theorem LO_2 (t : Fin 2048) : LO 2#32 (ix1 t) = BitVec.ofNat 32 (t.val - 2) := by
  refine Eq.trans ?_ (lo_2 t)
  pointwise [LO]
  rfl

/-- The position after a window of 4 positions that reaches 2 back. -/
theorem HI_2 (t : Fin 2048) : HI 4#32 2#32 (ix1 t) = BitVec.ofNat 32 (min (t.val + 2) 2048) := by
  refine Eq.trans ?_ (hi_2 t)
  pointwise [HI]
  rfl

/-- The first position of a window that reaches 4 back. -/
theorem lo_4 : ∀ t : Fin 2048, IntOp.minsi 2048#32 (IntOp.maxsi 0#32 (IntOp.subi (BitVec.ofNat 32 t.val) 4#32)) = BitVec.ofNat 32 (t.val - 4) := by
  decide +kernel

/-- The position after a window of 8 positions that reaches 4 back. -/
theorem hi_4 : ∀ t : Fin 2048, IntOp.minsi 2048#32 (IntOp.maxsi 0#32 (IntOp.subi (IntOp.addi (BitVec.ofNat 32 t.val) 8#32) 4#32)) = BitVec.ofNat 32 (min (t.val + 4) 2048) := by
  decide +kernel

/-- The first position of a window that reaches 4 back. -/
theorem LO_4 (t : Fin 2048) : LO 4#32 (ix1 t) = BitVec.ofNat 32 (t.val - 4) := by
  refine Eq.trans ?_ (lo_4 t)
  pointwise [LO]
  rfl

/-- The position after a window of 8 positions that reaches 4 back. -/
theorem HI_4 (t : Fin 2048) : HI 8#32 4#32 (ix1 t) = BitVec.ofNat 32 (min (t.val + 4) 2048) := by
  refine Eq.trans ?_ (hi_4 t)
  pointwise [HI]
  rfl

/-- The first position of a window that reaches 8 back. -/
theorem lo_8 : ∀ t : Fin 2048, IntOp.minsi 2048#32 (IntOp.maxsi 0#32 (IntOp.subi (BitVec.ofNat 32 t.val) 8#32)) = BitVec.ofNat 32 (t.val - 8) := by
  decide +kernel

/-- The position after a window of 16 positions that reaches 8 back. -/
theorem hi_8 : ∀ t : Fin 2048, IntOp.minsi 2048#32 (IntOp.maxsi 0#32 (IntOp.subi (IntOp.addi (BitVec.ofNat 32 t.val) 16#32) 8#32)) = BitVec.ofNat 32 (min (t.val + 8) 2048) := by
  decide +kernel

/-- The first position of a window that reaches 8 back. -/
theorem LO_8 (t : Fin 2048) : LO 8#32 (ix1 t) = BitVec.ofNat 32 (t.val - 8) := by
  refine Eq.trans ?_ (lo_8 t)
  pointwise [LO]
  rfl

/-- The position after a window of 16 positions that reaches 8 back. -/
theorem HI_8 (t : Fin 2048) : HI 16#32 8#32 (ix1 t) = BitVec.ofNat 32 (min (t.val + 8) 2048) := by
  refine Eq.trans ?_ (hi_8 t)
  pointwise [HI]
  rfl

/-- Whether a position lies in a window. -/
theorem MASK_at (lo hi : IVec S2048 32) (a : ℕ) (ha : a ≤ 8) (t u : Fin 2048)
    (hl : lo (ix1 t) = BitVec.ofNat 32 (t.val - a)) (hh : hi (ix1 t) = BitVec.ofNat 32 (min (t.val + a) 2048)) :
    MASK lo hi (ix2 t u) = BitVec.ofBool (decide (t.val ≤ u.val + a ∧ u.val < t.val + a)) := by
  refine Eq.trans (b := IntOp.andi (IntOp.cmpi .sle (lo (ix1 t)) (BitVec.ofNat 32 u.val)) (IntOp.cmpi .slt (BitVec.ofNat 32 u.val) (hi (ix1 t)))) ?_ ?_
  · pointwise [MASK]
  · rw [hl, hh, sle_small _ _ (by omega) (by omega), slt_small _ _ (by omega) (by omega)]
    have e1 : (t.val - a ≤ u.val) = (t.val ≤ u.val + a) := propext (by omega)
    have e2 : (u.val < min (t.val + a) 2048) = (u.val < t.val + a) := propext (by omega)
    simp only [e1, e2]
    by_cases h1 : t.val ≤ u.val + a <;> by_cases h2 : u.val < t.val + a <;> simp [h1, h2] <;> decide

/-- The reference's centred mean is the mean over the window. -/
theorem CENTRED_at (U : FVec Ideal S4x2048x512 .f32) (lo hi : IVec S2048 32) (a : ℕ) (ha : a ≤ 8) (b : Fin 4) (t : Fin 2048) (j : Fin 512)
    (hl : lo (ix1 t) = BitVec.ofNat 32 (t.val - a)) (hh : hi (ix1 t) = BitVec.ofNat 32 (min (t.val + a) 2048)) :
    CENTRED U lo hi (ix3 b t j) = mean a (fun u => U (ix3 b u j)) t := by
  have hm := fun u => MASK_at lo hi a ha t u hl hh
  generalize hM : MASK lo hi = M at hm
  unfold CENTRED
  rw [hM]
  pointwise
  simp only [hm, hl, hh]
  have h0 : (id (constant S_ .f32 0x00000000#32) : FVec Ideal S_ .f32) ix0 = (0 : EReal) := by
    show (constant S_ .f32 0x00000000#32 : FVec Ideal S_ .f32) ix0 = (0 : EReal)
    pointwise
  have hs : IntOp.subi (BitVec.ofNat 32 (min (t.val + a) 2048)) (BitVec.ofNat 32 (t.val - a)) = BitVec.ofNat 32 (min (t.val + a) 2048 - (t.val - a)) :=
    BitVec.ofNat_sub_ofNat_of_le _ _ (by omega) (by omega)
  rw [hs]
  unfold mean count
  congr 2
  refine Finset.sum_congr rfl fun u _ => ?_
  by_cases h : t.val ≤ u.val + a ∧ u.val < t.val + a
  · rw [if_pos h, decide_eq_true h]
    rfl
  · rw [if_neg h, decide_eq_false h]
    exact h0

/-- Group 0 of four groups side by side. -/
theorem STACK_0 (A B C D : FVec Ideal S4x2048x512 .f32) (b : Fin 4) (t : Fin 2048) (j : Fin 512) (n : Fin 8192) (k : Fin 2048)
    (hn : n.val = b.val * 2048 + t.val) (hk : k.val = 0 * 512 + j.val) :
    STACK A B C D (ix2 n k) = A (ix3 b t j) := by
  refine Eq.trans (b := SIDE A B C D (ix4 b t 0 j)) ?_ ?_
  · unfold STACK
    generalize SIDE A B C D = Z
    pointwise
    refine congrArg Z ?_
    congr 1
    · exact Fin.ext (by show _ = b.val; dsimp only; omega)
    · exact Fin.ext (by show _ = t.val; dsimp only; omega)
    · exact Fin.ext (by show _ = 0; dsimp only; omega)
    · exact Fin.ext (by show _ = j.val; dsimp only; omega)
  · pointwise [SIDE]

/-- Group 1 of four groups side by side. -/
theorem STACK_1 (A B C D : FVec Ideal S4x2048x512 .f32) (b : Fin 4) (t : Fin 2048) (j : Fin 512) (n : Fin 8192) (k : Fin 2048)
    (hn : n.val = b.val * 2048 + t.val) (hk : k.val = 1 * 512 + j.val) :
    STACK A B C D (ix2 n k) = B (ix3 b t j) := by
  refine Eq.trans (b := SIDE A B C D (ix4 b t 1 j)) ?_ ?_
  · unfold STACK
    generalize SIDE A B C D = Z
    pointwise
    refine congrArg Z ?_
    congr 1
    · exact Fin.ext (by show _ = b.val; dsimp only; omega)
    · exact Fin.ext (by show _ = t.val; dsimp only; omega)
    · exact Fin.ext (by show _ = 1; dsimp only; omega)
    · exact Fin.ext (by show _ = j.val; dsimp only; omega)
  · pointwise [SIDE]

/-- Group 2 of four groups side by side. -/
theorem STACK_2 (A B C D : FVec Ideal S4x2048x512 .f32) (b : Fin 4) (t : Fin 2048) (j : Fin 512) (n : Fin 8192) (k : Fin 2048)
    (hn : n.val = b.val * 2048 + t.val) (hk : k.val = 2 * 512 + j.val) :
    STACK A B C D (ix2 n k) = C (ix3 b t j) := by
  refine Eq.trans (b := SIDE A B C D (ix4 b t 2 j)) ?_ ?_
  · unfold STACK
    generalize SIDE A B C D = Z
    pointwise
    refine congrArg Z ?_
    congr 1
    · exact Fin.ext (by show _ = b.val; dsimp only; omega)
    · exact Fin.ext (by show _ = t.val; dsimp only; omega)
    · exact Fin.ext (by show _ = 2; dsimp only; omega)
    · exact Fin.ext (by show _ = j.val; dsimp only; omega)
  · pointwise [SIDE]

/-- Group 3 of four groups side by side. -/
theorem STACK_3 (A B C D : FVec Ideal S4x2048x512 .f32) (b : Fin 4) (t : Fin 2048) (j : Fin 512) (n : Fin 8192) (k : Fin 2048)
    (hn : n.val = b.val * 2048 + t.val) (hk : k.val = 3 * 512 + j.val) :
    STACK A B C D (ix2 n k) = D (ix3 b t j) := by
  refine Eq.trans (b := SIDE A B C D (ix4 b t 3 j)) ?_ ?_
  · unfold STACK
    generalize SIDE A B C D = Z
    pointwise
    refine congrArg Z ?_
    congr 1
    · exact Fin.ext (by show _ = b.val; dsimp only; omega)
    · exact Fin.ext (by show _ = t.val; dsimp only; omega)
    · exact Fin.ext (by show _ = 3; dsimp only; omega)
    · exact Fin.ext (by show _ = j.val; dsimp only; omega)
  · pointwise [SIDE]

/-- Group 0 of the reference's result. -/
theorem REF_0 (X : FVec Ideal S8192x2048 .f32) (b : Fin 4) (t : Fin 2048) (j : Fin 512) (n : Fin 8192) (k : Fin 2048)
    (hn : n.val = b.val * 2048 + t.val) (hk : k.val = 0 * 512 + j.val) :
    REF X (ix2 n k) = mean 1 (fun u => X (ix2 ⟨b.val * 2048 + u.val, by omega⟩ ⟨0 * 512 + j.val, by omega⟩)) t := by
  refine Eq.trans (b := CENTRED (GROUP0 X) (LO 1#32) (HI 2#32 1#32) (ix3 b t j)) ?_ ?_
  · unfold REF
    generalize CENTRED (GROUP0 X) (LO 1#32) (HI 2#32 1#32) = A
    generalize CENTRED (GROUP1 X) (LO 2#32) (HI 4#32 2#32) = B
    generalize CENTRED (GROUP2 X) (LO 4#32) (HI 8#32 4#32) = C
    generalize CENTRED (GROUP3 X) (LO 8#32) (HI 16#32 8#32) = D
    exact STACK_0 A B C D b t j n k hn hk
  · rw [CENTRED_at _ _ _ 1 (by omega) b t j (LO_1 t) (HI_1 t)]
    congr 1
    funext u
    pointwise [GROUP0]

/-- Group 1 of the reference's result. -/
theorem REF_1 (X : FVec Ideal S8192x2048 .f32) (b : Fin 4) (t : Fin 2048) (j : Fin 512) (n : Fin 8192) (k : Fin 2048)
    (hn : n.val = b.val * 2048 + t.val) (hk : k.val = 1 * 512 + j.val) :
    REF X (ix2 n k) = mean 2 (fun u => X (ix2 ⟨b.val * 2048 + u.val, by omega⟩ ⟨1 * 512 + j.val, by omega⟩)) t := by
  refine Eq.trans (b := CENTRED (GROUP1 X) (LO 2#32) (HI 4#32 2#32) (ix3 b t j)) ?_ ?_
  · unfold REF
    generalize CENTRED (GROUP0 X) (LO 1#32) (HI 2#32 1#32) = A
    generalize CENTRED (GROUP1 X) (LO 2#32) (HI 4#32 2#32) = B
    generalize CENTRED (GROUP2 X) (LO 4#32) (HI 8#32 4#32) = C
    generalize CENTRED (GROUP3 X) (LO 8#32) (HI 16#32 8#32) = D
    exact STACK_1 A B C D b t j n k hn hk
  · rw [CENTRED_at _ _ _ 2 (by omega) b t j (LO_2 t) (HI_2 t)]
    congr 1
    funext u
    pointwise [GROUP1]

/-- Group 2 of the reference's result. -/
theorem REF_2 (X : FVec Ideal S8192x2048 .f32) (b : Fin 4) (t : Fin 2048) (j : Fin 512) (n : Fin 8192) (k : Fin 2048)
    (hn : n.val = b.val * 2048 + t.val) (hk : k.val = 2 * 512 + j.val) :
    REF X (ix2 n k) = mean 4 (fun u => X (ix2 ⟨b.val * 2048 + u.val, by omega⟩ ⟨2 * 512 + j.val, by omega⟩)) t := by
  refine Eq.trans (b := CENTRED (GROUP2 X) (LO 4#32) (HI 8#32 4#32) (ix3 b t j)) ?_ ?_
  · unfold REF
    generalize CENTRED (GROUP0 X) (LO 1#32) (HI 2#32 1#32) = A
    generalize CENTRED (GROUP1 X) (LO 2#32) (HI 4#32 2#32) = B
    generalize CENTRED (GROUP2 X) (LO 4#32) (HI 8#32 4#32) = C
    generalize CENTRED (GROUP3 X) (LO 8#32) (HI 16#32 8#32) = D
    exact STACK_2 A B C D b t j n k hn hk
  · rw [CENTRED_at _ _ _ 4 (by omega) b t j (LO_4 t) (HI_4 t)]
    congr 1
    funext u
    pointwise [GROUP2]

/-- Group 3 of the reference's result. -/
theorem REF_3 (X : FVec Ideal S8192x2048 .f32) (b : Fin 4) (t : Fin 2048) (j : Fin 512) (n : Fin 8192) (k : Fin 2048)
    (hn : n.val = b.val * 2048 + t.val) (hk : k.val = 3 * 512 + j.val) :
    REF X (ix2 n k) = mean 8 (fun u => X (ix2 ⟨b.val * 2048 + u.val, by omega⟩ ⟨3 * 512 + j.val, by omega⟩)) t := by
  refine Eq.trans (b := CENTRED (GROUP3 X) (LO 8#32) (HI 16#32 8#32) (ix3 b t j)) ?_ ?_
  · unfold REF
    generalize CENTRED (GROUP0 X) (LO 1#32) (HI 2#32 1#32) = A
    generalize CENTRED (GROUP1 X) (LO 2#32) (HI 4#32 2#32) = B
    generalize CENTRED (GROUP2 X) (LO 4#32) (HI 8#32 4#32) = C
    generalize CENTRED (GROUP3 X) (LO 8#32) (HI 16#32 8#32) = D
    exact STACK_3 A B C D b t j n k hn hk
  · rw [CENTRED_at _ _ _ 8 (by omega) b t j (LO_8 t) (HI_8 t)]
    congr 1
    funext u
    pointwise [GROUP3]

end Cert.PoolRefIdeal.Windows
end
-- ==== Proof.PoolValue.lean ====
/- The pooled windows: the kernel's result is the reference's function of the arguments. -/
module

public import proofs.«01_k».proof.Proof.Gen.PoolIdeal.Value
public import proofs.«01_k».proof.Proof.PoolReference
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.PoolIdeal.Windows

open Cert.PoolIdeal Cert.PoolIdeal.Gen Cert.PoolRefIdeal.Windows

/-- A column with eight zeros before it and zeros after it. -/
def pad (f : Fin 2048 → EReal) (i : ℕ) : EReal := if h : 8 ≤ i ∧ i < 2056 then f ⟨i - 8, by omega⟩ else 0

/-- An entry of the padded column as a sum over the column. -/
theorem pad_sum (f : Fin 2048 → EReal) (i : ℕ) : pad f i = ∑ u : Fin 2048, if u.val + 8 = i then f u else 0 := by
  unfold pad
  by_cases h : 8 ≤ i ∧ i < 2056
  · rw [dif_pos h, Finset.sum_eq_single (⟨i - 8, by omega⟩ : Fin 2048)]
    · rw [if_pos (show i - 8 + 8 = i by omega)]
    · intro u _ hu
      exact if_neg fun e => hu (Fin.ext (by show u.val = i - 8; omega))
    · exact fun hu => absurd (Finset.mem_univ _) hu
  · rw [dif_neg h]
    refine (Finset.sum_eq_zero fun u _ => if_neg ?_).symm
    have := u.isLt
    omega

/-- The sum of a window's entries of the padded column is the sum over the positions in the window. -/
theorem window (f : Fin 2048 → EReal) (a r : ℕ) (ha : a ≤ 8) :
    ∑ k ∈ Finset.range (2 * a), pad f (8 - a + k + r) = ∑ u : Fin 2048, if r ≤ u.val + a ∧ u.val < r + a then f u else 0 := by
  simp only [pad_sum]
  rw [Finset.sum_comm]
  refine Finset.sum_congr rfl fun u _ => ?_
  by_cases h : r ≤ u.val + a ∧ u.val < r + a
  · rw [if_pos h, Finset.sum_eq_single (u.val + a - r)]
    · exact if_pos (by omega)
    · intro k _ hk
      exact if_neg (by omega)
    · intro hk
      exact absurd (Finset.mem_range.2 (by omega)) hk
  · rw [if_neg h]
    refine Finset.sum_eq_zero fun k hk => if_neg ?_
    have := Finset.mem_range.1 hk
    omega

/-- The 2 entries of a window added one by one. -/
theorem chain_1 (f : Fin 2048 → EReal) (r : ℕ) :
    pad f (7 + r) + pad f (8 + r)
      = ∑ u : Fin 2048, if r ≤ u.val + 1 ∧ u.val < r + 1 then f u else 0 := by
  rw [← window f 1 r (by omega)]
  simp only [Nat.reduceMul, Nat.reduceSub, Nat.reduceAdd, Finset.sum_range_succ, Finset.sum_range_zero, zero_add, add_zero]

/-- The number of positions in a window, as the kernel computes it. -/
theorem size_1 : ∀ t : Fin 2048, IntOp.subi (IntOp.minsi (IntOp.addi (BitVec.ofNat 32 t.val) 1#32) 2048#32) (IntOp.maxsi (IntOp.subi (BitVec.ofNat 32 t.val) 1#32) 0#32) = BitVec.ofNat 32 (min (t.val + 1) 2048 - (t.val - 1)) := by
  decide +kernel

/-- The 4 entries of a window added one by one. -/
theorem chain_2 (f : Fin 2048 → EReal) (r : ℕ) :
    ((pad f (6 + r) + pad f (7 + r)) + pad f (8 + r)) + pad f (9 + r)
      = ∑ u : Fin 2048, if r ≤ u.val + 2 ∧ u.val < r + 2 then f u else 0 := by
  rw [← window f 2 r (by omega)]
  simp only [Nat.reduceMul, Nat.reduceSub, Nat.reduceAdd, Finset.sum_range_succ, Finset.sum_range_zero, zero_add, add_zero]

/-- The number of positions in a window, as the kernel computes it. -/
theorem size_2 : ∀ t : Fin 2048, IntOp.subi (IntOp.minsi (IntOp.addi (BitVec.ofNat 32 t.val) 2#32) 2048#32) (IntOp.maxsi (IntOp.subi (BitVec.ofNat 32 t.val) 2#32) 0#32) = BitVec.ofNat 32 (min (t.val + 2) 2048 - (t.val - 2)) := by
  decide +kernel

/-- The 8 entries of a window added one by one. -/
theorem chain_4 (f : Fin 2048 → EReal) (r : ℕ) :
    ((((((pad f (4 + r) + pad f (5 + r)) + pad f (6 + r)) + pad f (7 + r)) + pad f (8 + r)) + pad f (9 + r)) + pad f (10 + r)) + pad f (11 + r)
      = ∑ u : Fin 2048, if r ≤ u.val + 4 ∧ u.val < r + 4 then f u else 0 := by
  rw [← window f 4 r (by omega)]
  simp only [Nat.reduceMul, Nat.reduceSub, Nat.reduceAdd, Finset.sum_range_succ, Finset.sum_range_zero, zero_add, add_zero]

/-- The number of positions in a window, as the kernel computes it. -/
theorem size_4 : ∀ t : Fin 2048, IntOp.subi (IntOp.minsi (IntOp.addi (BitVec.ofNat 32 t.val) 4#32) 2048#32) (IntOp.maxsi (IntOp.subi (BitVec.ofNat 32 t.val) 4#32) 0#32) = BitVec.ofNat 32 (min (t.val + 4) 2048 - (t.val - 4)) := by
  decide +kernel

/-- The 16 entries of a window added one by one. -/
theorem chain_8 (f : Fin 2048 → EReal) (r : ℕ) :
    ((((((((((((((pad f (0 + r) + pad f (1 + r)) + pad f (2 + r)) + pad f (3 + r)) + pad f (4 + r)) + pad f (5 + r)) + pad f (6 + r)) + pad f (7 + r)) + pad f (8 + r)) + pad f (9 + r)) + pad f (10 + r)) + pad f (11 + r)) + pad f (12 + r)) + pad f (13 + r)) + pad f (14 + r)) + pad f (15 + r)
      = ∑ u : Fin 2048, if r ≤ u.val + 8 ∧ u.val < r + 8 then f u else 0 := by
  rw [← window f 8 r (by omega)]
  simp only [Nat.reduceMul, Nat.reduceSub, Nat.reduceAdd, Finset.sum_range_succ, Finset.sum_range_zero, zero_add, add_zero]

/-- The number of positions in a window, as the kernel computes it. -/
theorem size_8 : ∀ t : Fin 2048, IntOp.subi (IntOp.minsi (IntOp.addi (BitVec.ofNat 32 t.val) 8#32) 2048#32) (IntOp.maxsi (IntOp.subi (BitVec.ofNat 32 t.val) 8#32) 0#32) = BitVec.ofNat 32 (min (t.val + 8) 2048 - (t.val - 8)) := by
  decide +kernel

/-- What the scratch holds: the block's columns, padded. -/
theorem padded (x : Vec Ideal S2048x512 .f32) (i : Fin 2064) (j : Fin 512) :
    View.canon (Val := Elt Ideal) (e := .f32) (s := S2064x512)
      [⟨Rect.unit ![8, 0] ![2048, 512] inb_S2064x512_S2048x512_8_0, k0_pay4 (F := Ideal) x⟩,
       ⟨Rect.unit ![2056, 0] ![8, 512] inb_S2064x512_S8x512_2056_0, k0_pay3 (F := Ideal)⟩,
       ⟨Rect.unit ![0, 0] ![8, 512] inb_S2064x512_S8x512_0_0, k0_pay2 (F := Ideal)⟩] (ix2 i j)
      = pad (fun u => x (ix2 u j)) i.val := by
  have hcover : ∃ p ∈ ([⟨Rect.unit ![8, 0] ![2048, 512] inb_S2064x512_S2048x512_8_0, k0_pay4 (F := Ideal) x⟩,
       ⟨Rect.unit ![2056, 0] ![8, 512] inb_S2064x512_S8x512_2056_0, k0_pay3 (F := Ideal)⟩,
       ⟨Rect.unit ![0, 0] ![8, 512] inb_S2064x512_S8x512_0_0, k0_pay2 (F := Ideal)⟩] : List (View.Piece (Elt Ideal) S2064x512 .f32)), (ix2 i j : S2064x512.Idx) ∈ p.1.set := by
    have hi := i.isLt
    have hj := j.isLt
    rcases (by omega : i.val < 8 ∨ (8 ≤ i.val ∧ i.val < 2056) ∨ 2056 ≤ i.val) with h | h | h
    · refine ⟨_, List.mem_cons_of_mem _ (List.mem_cons_of_mem _ List.mem_cons_self), (Rect.mem_set_unit (inb := inb_S2064x512_S8x512_0_0)).2 fun a => ?_⟩
      fin_cases a
      · show 0 ≤ i.val ∧ i.val < 0 + 8
        omega
      · show 0 ≤ j.val ∧ j.val < 0 + 512
        omega
    · refine ⟨_, List.mem_cons_self, (Rect.mem_set_unit (inb := inb_S2064x512_S2048x512_8_0)).2 fun a => ?_⟩
      fin_cases a
      · show 8 ≤ i.val ∧ i.val < 8 + 2048
        omega
      · show 0 ≤ j.val ∧ j.val < 0 + 512
        omega
    · refine ⟨_, List.mem_cons_of_mem _ List.mem_cons_self, (Rect.mem_set_unit (inb := inb_S2064x512_S8x512_2056_0)).2 fun a => ?_⟩
      fin_cases a
      · show 2056 ≤ i.val ∧ i.val < 2056 + 8
        omega
      · show 0 ≤ j.val ∧ j.val < 0 + 512
        omega
  canon_tiles x' h using hcover
  · idx_vars x'
    have h0' : i.val = 8 + x'0.val := h0
    have h1' : j.val = x'1.val := h1
    obtain rfl : j = x'1 := Fin.ext (by omega)
    rw [pad, dif_pos (by omega)]
    pointwise [k0_pay4]
    refine congrArg x ?_
    blk_ext
  · idx_vars x'
    have h0' : i.val = 2056 + x'0.val := h0
    rw [pad, dif_neg (by omega)]
    pointwise [k0_pay3, k0_pay1]
  · idx_vars x'
    have h0' : i.val = x'0.val := h0
    rw [pad, dif_neg (by omega)]
    pointwise [k0_pay2, k0_pay1]

/-- A read of the padded columns from a row on. -/
theorem read (x : Vec Ideal S2048x512 .f32) (k : ℕ) (inb : ∀ a, (![k, 0] : Fin 2 → ℕ) a + (![2048, 512] : Fin 2 → ℕ) a ≤ S2064x512.size a) (r : Fin 2048) (j : Fin 512) :
    (View.whole cc0_scratch0).readCov (Val := Elt Ideal)
      [⟨Rect.unit ![8, 0] ![2048, 512] inb_S2064x512_S2048x512_8_0, k0_pay4 (F := Ideal) x⟩,
       ⟨Rect.unit ![2056, 0] ![8, 512] inb_S2064x512_S8x512_2056_0, k0_pay3 (F := Ideal)⟩,
       ⟨Rect.unit ![0, 0] ![8, 512] inb_S2064x512_S8x512_0_0, k0_pay2 (F := Ideal)⟩] (Rect.unit (s := S2064x512) ![k, 0] ![2048, 512] inb).toLoadRect (ix2 r j : S2048x512.Idx)
      = pad (fun u => x (ix2 u j)) (k + r.val) := by
  have hk : k + 2048 ≤ 2064 := inb 0
  refine Eq.trans (b := View.canon (Val := Elt Ideal) (e := .f32) (s := S2064x512)
      [⟨Rect.unit ![8, 0] ![2048, 512] inb_S2064x512_S2048x512_8_0, k0_pay4 (F := Ideal) x⟩,
       ⟨Rect.unit ![2056, 0] ![8, 512] inb_S2064x512_S8x512_2056_0, k0_pay3 (F := Ideal)⟩,
       ⟨Rect.unit ![0, 0] ![8, 512] inb_S2064x512_S8x512_0_0, k0_pay2 (F := Ideal)⟩] (ix2 ⟨k + r.val, by omega⟩ j)) ?_ (padded x _ j)
  rw [View.readCov_eq_canon']
  refine congrArg (View.canon _) ?_
  funext a
  refine Fin.ext ?_
  fin_cases a
  · show k + 1 * r.val = k + r.val
    omega
  · show 0 + 1 * j.val = j.val
    omega

variable (m : (ℓ : Loc nD τ sig) → Buf (Elt Ideal) ℓ)

/-- The block that each window shows at a grid point. -/
theorem idx : ∀ t : Fin cfg0.N,
    win0_0.index t = ![t.val / 4, t.val % 4] ∧
    win0_1.index t = ![t.val / 4, t.val % 4] := (by decide +kernel : ∀ t : Fin grid0.N, _)

/-- What a grid point of group 0 stores. -/
theorem out_A (c : Dev nD) (t : Fin cfg0.N) (h0 : t.val % 4 = 0) (h1 : ¬t.val % 4 = 1) (h2 : ¬t.val % 4 = 2) (h3 : ¬t.val % 4 = 3) (r : Fin 2048) (j : Fin 512) :
    outsAt0 m c t.val t.isLt (ix2 r j) = mean 1 (fun u => (iblk m c 0 t : FVec Ideal S2048x512 .f32) (ix2 u j)) r := by
  rw [outsAt0_A m c t h0 h1 h2 h3]
  frame_out
  pointwise [k0_pay5]
  have hr := fun k inb => read (iblk m c 0 t) k inb r j
  have hz := size_1 r
  have hc := chain_1 (fun u => (iblk m c 0 t : FVec Ideal S2048x512 .f32) (ix2 u j)) r.val
  unfold mean Cert.PoolRefIdeal.Windows.count
  rw [← hc, ← hz]
  refine congr (congrArg HSub.hSub (congr (congrArg Ideal.div ?_) rfl)) rfl
  exact congr (congrArg HAdd.hAdd (hr 7 _)) (hr 8 _)

/-- What a grid point of group 1 stores. -/
theorem out_B (c : Dev nD) (t : Fin cfg0.N) (h0 : ¬t.val % 4 = 0) (h1 : t.val % 4 = 1) (h2 : ¬t.val % 4 = 2) (h3 : ¬t.val % 4 = 3) (r : Fin 2048) (j : Fin 512) :
    outsAt0 m c t.val t.isLt (ix2 r j) = mean 2 (fun u => (iblk m c 0 t : FVec Ideal S2048x512 .f32) (ix2 u j)) r := by
  rw [outsAt0_B m c t h0 h1 h2 h3]
  frame_out
  pointwise [k0_pay6]
  have hr := fun k inb => read (iblk m c 0 t) k inb r j
  have hz := size_2 r
  have hc := chain_2 (fun u => (iblk m c 0 t : FVec Ideal S2048x512 .f32) (ix2 u j)) r.val
  unfold mean Cert.PoolRefIdeal.Windows.count
  rw [← hc, ← hz]
  refine congr (congrArg HSub.hSub (congr (congrArg Ideal.div ?_) rfl)) rfl
  exact congr (congrArg HAdd.hAdd (congr (congrArg HAdd.hAdd (congr (congrArg HAdd.hAdd (hr 6 _)) (hr 7 _))) (hr 8 _))) (hr 9 _)

/-- What a grid point of group 2 stores. -/
theorem out_C (c : Dev nD) (t : Fin cfg0.N) (h0 : ¬t.val % 4 = 0) (h1 : ¬t.val % 4 = 1) (h2 : t.val % 4 = 2) (h3 : ¬t.val % 4 = 3) (r : Fin 2048) (j : Fin 512) :
    outsAt0 m c t.val t.isLt (ix2 r j) = mean 4 (fun u => (iblk m c 0 t : FVec Ideal S2048x512 .f32) (ix2 u j)) r := by
  rw [outsAt0_C m c t h0 h1 h2 h3]
  frame_out
  pointwise [k0_pay7]
  have hr := fun k inb => read (iblk m c 0 t) k inb r j
  have hz := size_4 r
  have hc := chain_4 (fun u => (iblk m c 0 t : FVec Ideal S2048x512 .f32) (ix2 u j)) r.val
  unfold mean Cert.PoolRefIdeal.Windows.count
  rw [← hc, ← hz]
  refine congr (congrArg HSub.hSub (congr (congrArg Ideal.div ?_) rfl)) rfl
  exact congr (congrArg HAdd.hAdd (congr (congrArg HAdd.hAdd (congr (congrArg HAdd.hAdd (congr (congrArg HAdd.hAdd (congr (congrArg HAdd.hAdd (congr (congrArg HAdd.hAdd (congr (congrArg HAdd.hAdd (hr 4 _)) (hr 5 _))) (hr 6 _))) (hr 7 _))) (hr 8 _))) (hr 9 _))) (hr 10 _))) (hr 11 _)

/-- What a grid point of group 3 stores. -/
theorem out_D (c : Dev nD) (t : Fin cfg0.N) (h0 : ¬t.val % 4 = 0) (h1 : ¬t.val % 4 = 1) (h2 : ¬t.val % 4 = 2) (h3 : t.val % 4 = 3) (r : Fin 2048) (j : Fin 512) :
    outsAt0 m c t.val t.isLt (ix2 r j) = mean 8 (fun u => (iblk m c 0 t : FVec Ideal S2048x512 .f32) (ix2 u j)) r := by
  rw [outsAt0_D m c t h0 h1 h2 h3]
  frame_out
  pointwise [k0_pay8, k0_pay9]
  have hr := fun k inb => read (iblk m c 0 t) k inb r j
  have hz := size_8 r
  have hc := chain_8 (fun u => (iblk m c 0 t : FVec Ideal S2048x512 .f32) (ix2 u j)) r.val
  unfold mean Cert.PoolRefIdeal.Windows.count
  rw [← hc, ← hz]
  refine congr (congrArg HSub.hSub (congr (congrArg Ideal.div ?_) rfl)) rfl
  exact congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (congr (congrArg HAdd.hAdd (hr 0 _)) (hr 1 _))) (hr 2 _))) (hr 3 _))) (hr 4 _))) (hr 5 _))) (hr 6 _))) (hr 7 _))) (hr 8 _))) (hr 9 _))) (hr 10 _))) (hr 11 _))) (hr 12 _))) (hr 13 _))) (hr 14 _))) (hr 15 _)

/-- The kernel's whole result array is the reference's function of the argument. -/
theorem final (c : Dev nD) : (dats m 0 c).arrAt 1 (cfgs 0).N = REF (m ((c.tc : Thread nD τ).loc main_arg0)) := by
  refine (dats m 0 c).arrAt_eq_of_covers 1 _ (by decide +kernel) fun t hf y => ?_
  blk_simp
  rw [after0_1]
  have ht : t.val < 16 := lt_of_lt_of_eq t.isLt N_0
  idx_vars y
  refine Eq.trans (b := REF (m ((c.tc : Thread nD τ).loc main_arg0)) (ix2 ⟨t.val / 4 * 2048 + y0.val, by omega⟩ ⟨t.val % 4 * 512 + y1.val, by omega⟩)) ?_
    (by show REF _ _ = REF _ _; blk_ext [idx t])
  have b0 : ∀ u : Fin 2048, (iblk m c 0 t : FVec Ideal S2048x512 .f32) (ix2 u y1)
      = ((m ((c.tc : Thread nD τ).loc main_arg0)) : FVec Ideal S8192x2048 .f32) (ix2 ⟨t.val / 4 * 2048 + u.val, by omega⟩ ⟨t.val % 4 * 512 + y1.val, by omega⟩) := by
    intro u
    blk_point [iblk, V, idx t]
  have h4 : t.val % 4 = 0 ∨ t.val % 4 = 1 ∨ t.val % 4 = 2 ∨ t.val % 4 = 3 := by omega
  rcases h4 with h | h | h | h
  · rw [out_A m c t h (by omega) (by omega) (by omega) y0 y1, REF_0 _ ⟨t.val / 4, by omega⟩ y0 y1 _ _ rfl (by show t.val % 4 * 512 + y1.val = 0 * 512 + y1.val; rw [h])]
    refine congrArg (fun f => mean 1 f y0) (funext fun u => (b0 u).trans ?_)
    simp only [h]
  · rw [out_B m c t (by omega) h (by omega) (by omega) y0 y1, REF_1 _ ⟨t.val / 4, by omega⟩ y0 y1 _ _ rfl (by show t.val % 4 * 512 + y1.val = 1 * 512 + y1.val; rw [h])]
    refine congrArg (fun f => mean 2 f y0) (funext fun u => (b0 u).trans ?_)
    simp only [h]
  · rw [out_C m c t (by omega) (by omega) h (by omega) y0 y1, REF_2 _ ⟨t.val / 4, by omega⟩ y0 y1 _ _ rfl (by show t.val % 4 * 512 + y1.val = 2 * 512 + y1.val; rw [h])]
    refine congrArg (fun f => mean 4 f y0) (funext fun u => (b0 u).trans ?_)
    simp only [h]
  · rw [out_D m c t (by omega) (by omega) (by omega) h y0 y1, REF_3 _ ⟨t.val / 4, by omega⟩ y0 y1 _ _ rfl (by show t.val % 4 * 512 + y1.val = 3 * 512 + y1.val; rw [h])]
    refine congrArg (fun f => mean 8 f y0) (funext fun u => (b0 u).trans ?_)
    simp only [h]

end Cert.PoolIdeal.Windows
end
-- ==== Proof.PoolClaims.lean ====
/- The claims about the pooled windows. -/
module

public import proofs.«01_k».proof.Defs
public import proofs.«01_k».proof.Proof.Gen.Pool.Frame
public import proofs.«01_k».proof.Proof.PoolValue
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem
open scoped BigOperators

namespace Cert.Proof.PoolClaims

theorem frame_p : Cert.quiescent_Pool := fun m ρ _ => Cert.Pool.Gen.frame m ρ
theorem frame_pi : Cert.quiescent_PoolIdeal := fun m ρ _ => Cert.PoolIdeal.Gen.frame m ρ
theorem frame_ri : Cert.quiescent_PoolRefIdeal := fun m ρ _ =>
  (θ_run Cert.PoolRefIdeal.defs _ _).mono (fun r h => ⟨fun c => (h c).2,
      Idealize.ShloMosaic.sem_eq_zero_of_no_sems (by decide) r.2⟩)
    (Cert.PoolRefIdeal.Value.run (F := Ideal) m ρ)

theorem preserves : Cert.preserves_Pool_PoolIdeal := trivial

/-- The kernel's result is the reference's, for all arguments. -/
theorem algebraic : Cert.algebraic_PoolIdeal_PoolRefIdeal := by
  intro m ρ m' ρ' _ hagree
  refine ⟨_, Cert.PoolIdeal.Value.run_blocks (F := Ideal) m ρ, ?_⟩
  refine (θ_run Cert.PoolRefIdeal.defs _ _).mono (fun _ h c => ⟨(h c).1.trans ?_, (h c).2⟩)
    (Cert.PoolRefIdeal.Value.run (F := Ideal) m' ρ')
  refine Eq.trans (b := Cert.PoolRefIdeal.Windows.REF (m' ((c.tc : Thread Cert.PoolRefIdeal.nD Cert.PoolRefIdeal.τ).loc Cert.PoolRefIdeal.main_arg0))) rfl ?_
  have e0 := hagree c
  rw [e0]
  exact (Cert.PoolIdeal.Windows.final m c).symm

end Cert.Proof.PoolClaims
end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.Pre_attn_finite
public import proofs.«01_k».proof.Proof.AttnClaims
public import proofs.«01_k».proof.Proof.FfnClaims
public import proofs.«01_k».proof.Proof.MmQClaims
public import proofs.«01_k».proof.Proof.MmKvClaims
public import proofs.«01_k».proof.Proof.OutClaims
public import proofs.«01_k».proof.Proof.CrossOutClaims
public import proofs.«01_k».proof.Proof.CrossClaims
public import proofs.«01_k».proof.Proof.ProjClaims
public import proofs.«01_k».proof.Proof.PoolOutClaims
public import proofs.«01_k».proof.Proof.CombineClaims
public import proofs.«01_k».proof.Proof.NormXClaims
public import proofs.«01_k».proof.Proof.NormMemClaims
public import proofs.«01_k».proof.Proof.FourierClaims
public import proofs.«01_k».proof.Proof.GatherClaims
public import proofs.«01_k».proof.Proof.PoolClaims
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.MmQ.Frame
public import proofs.«01_k».proof.Proof.Gen.MmQIdeal.Frame
public import proofs.«01_k».proof.Proof.Gen.MmQIdeal.Value
public import proofs.«01_k».proof.Proof.Gen.MmQRefIdeal.Run
public import proofs.«01_k».proof.Proof.Gen.MmKv.Frame
public import proofs.«01_k».proof.Proof.Gen.MmKvIdeal.Frame
public import proofs.«01_k».proof.Proof.Gen.MmKvIdeal.Value
public import proofs.«01_k».proof.Proof.Gen.MmKvRefIdeal.Run
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.CrossOut.Frame
public import proofs.«01_k».proof.Proof.Gen.CrossOutIdeal.Frame
public import proofs.«01_k».proof.Proof.Gen.CrossOutIdeal.Value
public import proofs.«01_k».proof.Proof.Gen.CrossOutRefIdeal.Run
public import proofs.«01_k».proof.Proof.Gen.Cross.Frame
public import proofs.«01_k».proof.Proof.Gen.CrossIdeal.Frame
public import proofs.«01_k».proof.Proof.Gen.CrossIdeal.Value
public import proofs.«01_k».proof.Proof.Gen.CrossRefIdeal.Run
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.PoolOut.Frame
public import proofs.«01_k».proof.Proof.Gen.PoolOutIdeal.Frame
public import proofs.«01_k».proof.Proof.Gen.PoolOutIdeal.Value
public import proofs.«01_k».proof.Proof.Gen.PoolOutRefIdeal.Run
public import proofs.«01_k».proof.Proof.Gen.Pre_cross_finite
public import proofs.«01_k».proof.Proof.Gen.Pre_cross_out_finite
public import proofs.«01_k».proof.Proof.Gen.Combine.Frame
public import proofs.«01_k».proof.Proof.Gen.CombineIdeal.Frame
public import proofs.«01_k».proof.Proof.Gen.CombineIdeal.Value
public import proofs.«01_k».proof.Proof.Gen.CombineRefIdeal.Run
public import proofs.«01_k».proof.Proof.Gen.NormX.Frame
public import proofs.«01_k».proof.Proof.Gen.NormXIdeal.Frame
public import proofs.«01_k».proof.Proof.Gen.NormXIdeal.Value
public import proofs.«01_k».proof.Proof.Gen.NormXRefIdeal.Run
public import proofs.«01_k».proof.Proof.Gen.NormMem.Frame
public import proofs.«01_k».proof.Proof.Gen.NormMemIdeal.Frame
public import proofs.«01_k».proof.Proof.Gen.NormMemIdeal.Value
public import proofs.«01_k».proof.Proof.Gen.NormMemRefIdeal.Run
public import proofs.«01_k».proof.Proof.Gen.Fourier.Frame
public import proofs.«01_k».proof.Proof.Gen.FourierIdeal.Frame
public import proofs.«01_k».proof.Proof.Gen.FourierIdeal.Value
public import proofs.«01_k».proof.Proof.Gen.FourierRefIdeal.Run
public import proofs.«01_k».proof.Proof.Gen.Gather.Frame
public import proofs.«01_k».proof.Proof.Gen.GatherIdeal.Frame
public import proofs.«01_k».proof.Proof.Gen.GatherIdeal.Value
public import proofs.«01_k».proof.Proof.Gen.GatherRefIdeal.Run
public import proofs.«01_k».proof.Proof.Gen.Pool.Frame
public import proofs.«01_k».proof.Proof.Gen.PoolIdeal.Frame
public import proofs.«01_k».proof.Proof.Gen.PoolIdeal.Value
public import proofs.«01_k».proof.Proof.Gen.PoolRefIdeal.Run
public import proofs.«01_k».proof.Proof.Gen.Pre_combine_slots
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.MmQ.Gen.facts, Cert.MmQIdeal.Gen.facts, Cert.MmQRefIdeal.Gen.facts,
    Cert.MmKv.Gen.facts, Cert.MmKvIdeal.Gen.facts, Cert.MmKvRefIdeal.Gen.facts,
    Cert.Out.Gen.facts, Cert.OutIdeal.Gen.facts, Cert.OutRefIdeal.Gen.facts,
    Cert.CrossOut.Gen.facts, Cert.CrossOutIdeal.Gen.facts, Cert.CrossOutRefIdeal.Gen.facts,
    Cert.Cross.Gen.facts, Cert.CrossIdeal.Gen.facts, Cert.CrossRefIdeal.Gen.facts,
    Cert.Proj.Gen.facts, Cert.ProjIdeal.Gen.facts, Cert.ProjRefIdeal.Gen.facts,
    Cert.PoolOut.Gen.facts, Cert.PoolOutIdeal.Gen.facts, Cert.PoolOutRefIdeal.Gen.facts,
    Cert.Combine.Gen.facts, Cert.CombineIdeal.Gen.facts, Cert.CombineRefIdeal.Gen.facts,
    Cert.NormX.Gen.facts, Cert.NormXIdeal.Gen.facts, Cert.NormXRefIdeal.Gen.facts,
    Cert.NormMem.Gen.facts, Cert.NormMemIdeal.Gen.facts, Cert.NormMemRefIdeal.Gen.facts,
    Cert.Fourier.Gen.facts, Cert.FourierIdeal.Gen.facts, Cert.FourierRefIdeal.Gen.facts,
    Cert.Gather.Gen.facts, Cert.GatherIdeal.Gen.facts, Cert.GatherRefIdeal.Gen.facts,
    Cert.Pool.Gen.facts, Cert.PoolIdeal.Gen.facts, Cert.PoolRefIdeal.Gen.facts,
    Cert.Pre_attn_finite.Gen.facts, Cert.Pre_cross_out_finite.Gen.facts, Cert.Pre_cross_finite.Gen.facts, Cert.Pre_combine_slots.Gen.facts,
    AttnClaims.frame_p, AttnClaims.frame_pi, AttnClaims.frame_pi_pre, AttnClaims.frame_ri, AttnClaims.frame_ri_pre,
    FfnClaims.frame_p, FfnClaims.frame_pi, FfnClaims.frame_ri, MmQClaims.frame_p, MmQClaims.frame_pi,
    MmQClaims.frame_ri, MmKvClaims.frame_p, MmKvClaims.frame_pi, MmKvClaims.frame_ri, OutClaims.frame_p,
    OutClaims.frame_pi, OutClaims.frame_ri, CrossOutClaims.frame_p, CrossOutClaims.frame_pi, CrossOutClaims.frame_pi_pre,
    CrossOutClaims.frame_ri, CrossOutClaims.frame_ri_pre, CrossClaims.frame_p, CrossClaims.frame_pi, CrossClaims.frame_pi_pre,
    CrossClaims.frame_ri, CrossClaims.frame_ri_pre, ProjClaims.frame_p, ProjClaims.frame_pi, ProjClaims.frame_ri,
    PoolOutClaims.frame_p, PoolOutClaims.frame_pi, PoolOutClaims.frame_ri,
    CombineClaims.frame_p, CombineClaims.frame_pi, CombineClaims.frame_pi_pre, CombineClaims.frame_ri, CombineClaims.frame_ri_pre,
    NormXClaims.frame_p, NormXClaims.frame_pi, NormXClaims.frame_ri,
    NormMemClaims.frame_p, NormMemClaims.frame_pi, NormMemClaims.frame_ri,
    FourierClaims.frame_p, FourierClaims.frame_pi, FourierClaims.frame_ri,
    GatherClaims.frame_p, GatherClaims.frame_pi, GatherClaims.frame_ri,
    PoolClaims.frame_p, PoolClaims.frame_pi, PoolClaims.frame_ri,
    AttnClaims.preserves, AttnClaims.algebraic, FfnClaims.preserves, FfnClaims.algebraic,
    MmQClaims.preserves, MmQClaims.algebraic, MmKvClaims.preserves, MmKvClaims.algebraic,
    OutClaims.preserves, OutClaims.algebraic, CrossOutClaims.preserves, CrossOutClaims.algebraic,
    CrossClaims.preserves, CrossClaims.algebraic, ProjClaims.preserves, ProjClaims.algebraic,
    PoolOutClaims.preserves, PoolOutClaims.algebraic, CombineClaims.preserves, CombineClaims.algebraic,
    NormXClaims.preserves, NormXClaims.algebraic, NormMemClaims.preserves, NormMemClaims.algebraic, FourierClaims.preserves, FourierClaims.algebraic,
    GatherClaims.preserves, GatherClaims.algebraic, PoolClaims.preserves, PoolClaims.algebraic⟩

end Cert.Proof

end
